-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S1x2048x1024 : Shape := ⟨3, ![1, 2048, 1024]⟩
abbrev S8x1024 : Shape := ⟨2, ![8, 1024]⟩
abbrev S8x1024x1024 : Shape := ⟨3, ![8, 1024, 1024]⟩
abbrev S2048x1024 : Shape := ⟨2, ![2048, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩

class Facts : Prop where
  shapeCasts_S1x2048x1024_S2048x1024 : S1x2048x1024.ShapeCasts S2048x1024
  transposes_S8x1024_S1024x8_1_0 : S8x1024.Transposes [1, 0] S1024x8
  reducesTo_S2048x8_S2048_d1 : S2048x8.ReducesTo [1] S2048
  h_S_ : 0 < S_.numel
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  bcast_S_S2048x8 : S_.BroadcastsInDim S2048x8 (![] : Fin 0 → Fin S2048x8.rank)
  natLt_1_32 : 1 < 32
  bcast_S_S2048 : S_.BroadcastsInDim S2048 (![] : Fin 0 → Fin S2048.rank)
  dot_S2048x1024_S1024x8_S2048x8_1_0_0_1_n_n_wf : DotDims.WF S2048x1024 S1024x8 S2048x8 [1] [0] [0] [1] [] []

variable [Facts]

def dot_S2048x1024_S1024x8_S2048x8_1_0_0_1_n_n : DotDims S2048x1024 S1024x8 S2048x8 where
  lhsContracting := [1]
  rhsContracting := [0]
  lhsNonContracting := [0]
  rhsNonContracting := [1]
  lhsBatch := []
  rhsBatch := []
  wf := dot_S2048x1024_S1024x8_S2048x8_1_0_0_1_n_n_wf
def fn_where {F : FTy → Type} [FloatOps F] (arg0 : IVec S2048x8 1) (arg1 : FVec F S_ .f32) (arg2 : FVec F S2048x8 .f32) : FVec F S2048x8 .f32 :=
  let v0 : FVec F S_ .f32 := id arg1
  let v1 : FVec F S2048x8 .f32 := broadcastInDim S2048x8 ![] bcast_S_S2048x8 v0
  let v2 : FVec F S2048x8 .f32 := select arg0 v1 arg2
  v2

def fn_part1 {F : FTy → Type} [FloatOps F] (main_v15 : IVec S2048x8 1) (main_v16 : FVec F S2048x8 .f32) (main_v18 : FVec F S2048x1 .f32) : IVec S2048 1 :=
  let main_v19 : IVec S2048x8 32 := (extui 32 · natLt_1_32) main_v15
  let main_c : IVec S_ 32 := constantI S_ 32 0#32
  let main_v20 : IVec S2048 32 := (fun x v => Host.reduce IntOp.addi x v reducesTo_S2048x8_S2048_d1 h_S_) main_v19 main_c
  let main_c_4 : IVec S_ 32 := constantI S_ 32 1#32
  let main_v21 : IVec S2048 32 := broadcastInDim S2048 ![] bcast_S_S2048 main_c_4
  let main_v22 : IVec S2048 1 := cmpi .eq main_v20 main_v21
  let main_v23 : FVec F S2048x8 .f32 := broadcastInDim S2048x8 ![0, 1] bcast_S2048x1_S2048x8_0_1 main_v18
  let main_v24 : IVec S2048x8 1 := cmpf .oeq main_v16 main_v23
  let main_v25 : IVec S2048x8 32 := (extui 32 · natLt_1_32) main_v24
  let main_c_5 : IVec S_ 32 := constantI S_ 32 0#32
  let main_v26 : IVec S2048 32 := (fun x v => Host.reduce IntOp.addi x v reducesTo_S2048x8_S2048_d1 h_S_) main_v25 main_c_5
  let main_c_6 : IVec S_ 32 := constantI S_ 32 1#32
  let main_v27 : IVec S2048 32 := broadcastInDim S2048 ![] bcast_S_S2048 main_c_6
  let main_v28 : IVec S2048 1 := cmpi .eq main_v26 main_v27
  let main_v29 : IVec S2048 1 := andi main_v22 main_v28
  main_v29

def fn {F : FTy → Type} [FloatOps F] (main_arg0 : FVec F S1x2048x1024 .f32) (main_arg1 : FVec F S8x1024 .f32) (main_arg2 : FVec F S8x1024x1024 .f32) (main_arg3 : FVec F S8x1024x1024 .f32) (main_arg4 : FVec F S8x1024x1024 .f32) : IVec S2048 1 :=
  let main_v0 : FVec F S2048x1024 .f32 := shapeCast S2048x1024 main_arg0 shapeCasts_S1x2048x1024_S2048x1024
  let main_v1 : FVec F S1024x8 .f32 := (transpose S1024x8 [1, 0] · transposes_S8x1024_S1024x8_1_0) main_arg1
  let main_v2 : FVec F S2048x8 .f32 := (fun l r => Host.dotGeneral dot_S2048x1024_S1024x8_S2048x8_1_0_0_1_n_n none l r) main_v0 main_v1
  let main_cst : FVec F S_ .f32 := constant S_ .f32 0xFF800000#32
  let main_v3 : FVec F S2048 .f32 := (fun x v => Host.reduce FloatOps.maximumf x v reducesTo_S2048x8_S2048_d1 h_S_) main_v2 main_cst
  let main_v4 : FVec F S2048x1 .f32 := broadcastInDim S2048x1 ![0] bcast_S2048_S2048x1_0 main_v3
  let main_v5 : FVec F S2048x8 .f32 := broadcastInDim S2048x8 ![0, 1] bcast_S2048x1_S2048x8_0_1 main_v4
  let main_v6 : FVec F S2048x8 .f32 := subf main_v2 main_v5
  let main_v7 : FVec F S2048x8 .f32 := Host.exp main_v6
  let main_cst_0 : FVec F S_ .f32 := constant S_ .f32 0x00000000#32
  let main_v8 : FVec F S2048 .f32 := (fun x v => Host.reduceAdd x v reducesTo_S2048x8_S2048_d1 h_S_) main_v7 main_cst_0
  let main_v9 : FVec F S2048x1 .f32 := broadcastInDim S2048x1 ![0] bcast_S2048_S2048x1_0 main_v8
  let main_v10 : FVec F S2048x8 .f32 := broadcastInDim S2048x8 ![0, 1] bcast_S2048x1_S2048x8_0_1 main_v9
  let main_v11 : FVec F S2048x8 .f32 := Host.divf main_v7 main_v10
  let main_cst_1 : FVec F S_ .f32 := constant S_ .f32 0xFF800000#32
  let main_v12 : FVec F S2048 .f32 := (fun x v => Host.reduce FloatOps.maximumf x v reducesTo_S2048x8_S2048_d1 h_S_) main_v11 main_cst_1
  let main_v13 : FVec F S2048x1 .f32 := broadcastInDim S2048x1 ![0] bcast_S2048_S2048x1_0 main_v12
  let main_v14 : FVec F S2048x8 .f32 := broadcastInDim S2048x8 ![0, 1] bcast_S2048x1_S2048x8_0_1 main_v13
  let main_v15 : IVec S2048x8 1 := cmpf .oeq main_v11 main_v14
  let main_cst_2 : FVec F S_ .f32 := constant S_ .f32 0xBF800000#32
  let main_v16 : FVec F S2048x8 .f32 := fn_where (F := F) main_v15 main_cst_2 main_v11
  let main_cst_3 : FVec F S_ .f32 := constant S_ .f32 0xFF800000#32
  let main_v17 : FVec F S2048 .f32 := (fun x v => Host.reduce FloatOps.maximumf x v reducesTo_S2048x8_S2048_d1 h_S_) main_v16 main_cst_3
  let main_v18 : FVec F S2048x1 .f32 := broadcastInDim S2048x1 ![0] bcast_S2048_S2048x1_0 main_v17
  fn_part1 (F := F) main_v15 main_v16 main_v18
-- ==== Kernel.lean ====
abbrev S1x2048x1024 : Shape := ⟨3, ![1, 2048, 1024]⟩
abbrev S8x1024 : Shape := ⟨2, ![8, 1024]⟩
abbrev S8x1024x1024 : Shape := ⟨3, ![8, 1024, 1024]⟩
abbrev S2048x1024 : Shape := ⟨2, ![2048, 1024]⟩
abbrev S2048x8 : Shape := ⟨2, ![2048, 8]⟩
abbrev S2048x8x128 : Shape := ⟨3, ![2048, 8, 128]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S4096x8 : Shape := ⟨2, ![4096, 8]⟩
abbrev S4096x1x1 : Shape := ⟨3, ![4096, 1, 1]⟩
abbrev S1 : Shape := ⟨1, ![1]⟩
abbrev S1x1x1 : Shape := ⟨3, ![1, 1, 1]⟩
abbrev S7 : Shape := ⟨1, ![7]⟩
abbrev S23 : Shape := ⟨1, ![23]⟩
abbrev S23x1 : Shape := ⟨2, ![23, 1]⟩
abbrev S23x8 : Shape := ⟨2, ![23, 8]⟩
abbrev S5888x8x128 : Shape := ⟨3, ![5888, 8, 128]⟩
abbrev S64 : Shape := ⟨1, ![64]⟩
abbrev S64x8x128 : Shape := ⟨3, ![64, 8, 128]⟩
abbrev S64x2x128 : Shape := ⟨3, ![64, 2, 128]⟩
abbrev S5888x2x128 : Shape := ⟨3, ![5888, 2, 128]⟩
abbrev S24 : Shape := ⟨1, ![24]⟩
abbrev S256x8x128 : Shape := ⟨3, ![256, 8, 128]⟩
abbrev S1x1024x1024 : Shape := ⟨3, ![1, 1024, 1024]⟩
abbrev S256x1024 : Shape := ⟨2, ![256, 1024]⟩
abbrev S1024x1024 : Shape := ⟨2, ![1024, 1024]⟩
abbrev S4096x8x128 : Shape := ⟨3, ![4096, 8, 128]⟩
abbrev S2x2048x8x128 : Shape := ⟨4, ![2, 2048, 8, 128]⟩
abbrev S1x256x8x128 : Shape := ⟨4, ![1, 256, 8, 128]⟩
abbrev S256x1 : Shape := ⟨2, ![256, 1]⟩
abbrev S1x2048x8 : Shape := ⟨3, ![1, 2048, 8]⟩

abbrev nBuf : Table → Nat
  | .hbm => 138
  | .local .tc .vmem => 25
  | .local .tc .smem => 1
  | .local .scVector .vmem => 4
  | _ => 0

abbrev hbmTy0_0 (i : Nat) : BufTy := match i % 128 with
  | 0 => ⟨S1x2048x1024, .f32⟩
  | 1 => ⟨S8x1024, .f32⟩
  | 2 => ⟨S8x1024x1024, .f32⟩
  | 3 => ⟨S8x1024x1024, .f32⟩
  | 4 => ⟨S8x1024x1024, .f32⟩
  | 5 => ⟨S2048x1024, .f32⟩
  | 6 => ⟨S2048x8, .f32⟩
  | 7 => ⟨S2048x8, .f32⟩
  | 8 => ⟨S2048x8x128, .f32⟩
  | 9 => ⟨S8, .i32⟩
  | 10 => ⟨S1x8, .i32⟩
  | 11 => ⟨S_, .f32⟩
  | 12 => ⟨S2048, .f32⟩
  | 13 => ⟨S2048x8, .i32⟩
  | 14 => ⟨S_, .f32⟩
  | 15 => ⟨S_, .i32⟩
  | 16 => ⟨S2048, .f32⟩
  | 17 => ⟨S2048, .i32⟩
  | 18 => ⟨S2048x1, .i32⟩
  | 19 => ⟨S2048x8, .i32⟩
  | 20 => ⟨S2048x8, .i32⟩
  | 21 => ⟨S2048x8, .i1⟩
  | 22 => ⟨S_, .f32⟩
  | 23 => ⟨S_, .f32⟩
  | 24 => ⟨S2048x8, .f32⟩
  | 25 => ⟨S2048x8, .f32⟩
  | 26 => ⟨S_, .f32⟩
  | 27 => ⟨S2048, .f32⟩
  | 28 => ⟨S2048x8, .i32⟩
  | 29 => ⟨S_, .f32⟩
  | 30 => ⟨S_, .i32⟩
  | 31 => ⟨S2048, .f32⟩
  | 32 => ⟨S2048, .i32⟩
  | 33 => ⟨S4096, .i32⟩
  | 34 => ⟨S4096x1, .i32⟩
  | 35 => ⟨S4096x8, .i32⟩
  | 36 => ⟨S4096x8, .i32⟩
  | 37 => ⟨S4096x8, .i1⟩
  | 38 => ⟨S4096x8, .i32⟩
  | 39 => ⟨S_, .i32⟩
  | 40 => ⟨S_, .i32⟩
  | 41 => ⟨S4096x8, .i32⟩
  | 42 => ⟨S4096x1, .i32⟩
  | 43 => ⟨S_, .i32⟩
  | 44 => ⟨S4096x1, .i32⟩
  | 45 => ⟨S4096x1, .i1⟩
  | 46 => ⟨S_, .i32⟩
  | 47 => ⟨S4096x1, .i32⟩
  | 48 => ⟨S4096x1, .i32⟩
  | 49 => ⟨S4096x1, .i32⟩
  | 50 => ⟨S4096x1x1, .i32⟩
  | 51 => ⟨S1, .i32⟩
  | 52 => ⟨S_, .i32⟩
  | 53 => ⟨S4096x1x1, .i32⟩
  | 54 => ⟨S4096x1x1, .i1⟩
  | 55 => ⟨S1x1x1, .i32⟩
  | 56 => ⟨S4096x1x1, .i32⟩
  | 57 => ⟨S4096x1x1, .i1⟩
  | 58 => ⟨S4096x1x1, .i1⟩
  | 59 => ⟨S_, .i1⟩
  | 60 => ⟨S4096x1, .i1⟩
  | 61 => ⟨S4096x1, .i32⟩
  | 62 => ⟨S_, .i32⟩
  | 63 => ⟨S4096x1, .i32⟩
  | 64 => ⟨S4096x1, .i32⟩
  | 65 => ⟨S4096, .i32⟩
  | 66 => ⟨S_, .i32⟩
  | 67 => ⟨S4096, .i32⟩
  | 68 => ⟨S4096, .i32⟩
  | 69 => ⟨S1x8, .i32⟩
  | 70 => ⟨S8, .i32⟩
  | 71 => ⟨S_, .i32⟩
  | 72 => ⟨S8, .i32⟩
  | 73 => ⟨S8, .i32⟩
  | 74 => ⟨S_, .i32⟩
  | 75 => ⟨S8, .i32⟩
  | 76 => ⟨S8, .i32⟩
  | 77 => ⟨S_, .i32⟩
  | 78 => ⟨S_, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S8, .i32⟩
  | 86 => ⟨S8, .i32⟩
  | 87 => ⟨S_, .i32⟩
  | 88 => ⟨S8, .i32⟩
  | 89 => ⟨S8, .i1⟩
  | 90 => ⟨S8, .i1⟩
  | 91 => ⟨S_, .i32⟩
  | 92 => ⟨S8, .i32⟩
  | 93 => ⟨S8, .i32⟩
  | 94 => ⟨S8, .i32⟩
  | 95 => ⟨S_, .i32⟩
  | 96 => ⟨S1, .i32⟩
  | 97 => ⟨S_, .i32⟩
  | 98 => ⟨S_, .i32⟩
  | 99 => ⟨S8, .i32⟩
  | 100 => ⟨S7, .i32⟩
  | 101 => ⟨S8, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S4096, .i32⟩
  | 109 => ⟨S4096x1, .i32⟩
  | 110 => ⟨S4096, .i32⟩
  | 111 => ⟨S_, .i32⟩
  | 112 => ⟨S4096, .i32⟩
  | 113 => ⟨S4096, .i32⟩
  | 114 => ⟨S4096, .i32⟩
  | 115 => ⟨S8, .i32⟩
  | 116 => ⟨S23, .i32⟩
  | 117 => ⟨S23x1, .i32⟩
  | 118 => ⟨S1x8, .i32⟩
  | 119 => ⟨S23x8, .i32⟩
  | 120 => ⟨S23x8, .i32⟩
  | 121 => ⟨S23x8, .i1⟩
  | 122 => ⟨S23x8, .i32⟩
  | 123 => ⟨S_, .i32⟩
  | 124 => ⟨S23, .i32⟩
  | 125 => ⟨S_, .i32⟩
  | 126 => ⟨S23, .i32⟩
  | 127 => ⟨S23, .i32⟩
  | _ => ⟨S1x2048x1024, .f32⟩

abbrev hbmTy0_1 (i : Nat) : BufTy := match i % 128 with
  | 0 => ⟨S5888x8x128, .f32⟩
  | 1 => ⟨S1, .i32⟩
  | 2 => ⟨S5888x8x128, .f32⟩
  | 3 => ⟨S4096x8x128, .f32⟩
  | 4 => ⟨S2x2048x8x128, .f32⟩
  | 5 => ⟨S2048x1, .f32⟩
  | 6 => ⟨S2048x1, .f32⟩
  | 7 => ⟨S2048x1024, .f32⟩
  | 8 => ⟨S1x2048x1024, .f32⟩
  | 9 => ⟨S1x2048x8, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (nBuf tb) → BufTy
  | .hbm, ⟨i, _⟩ => hbmTy i
  | .local .tc .vmem, ⟨0, _⟩ => ⟨S2048x1024, .f32⟩
  | .local .tc .vmem, ⟨1, _⟩ => ⟨S8x1024, .f32⟩
  | .local .tc .vmem, ⟨2, _⟩ => ⟨S2048x8, .f32⟩
  | .local .tc .vmem, ⟨3, _⟩ => ⟨S2048x8, .f32⟩
  | .local .tc .vmem, ⟨4, _⟩ => ⟨S2048x8x128, .f32⟩
  | .local .tc .vmem, ⟨5, _⟩ => ⟨S256x8x128, .f32⟩
  | .local .tc .vmem, ⟨6, _⟩ => ⟨S256x8x128, .f32⟩
  | .local .tc .vmem, ⟨7, _⟩ => ⟨S1x1024x1024, .f32⟩
  | .local .tc .vmem, ⟨8, _⟩ => ⟨S1x1024x1024, .f32⟩
  | .local .tc .vmem, ⟨9, _⟩ => ⟨S1x1024x1024, .f32⟩
  | .local .tc .vmem, ⟨10, _⟩ => ⟨S1x1024x1024, .f32⟩
  | .local .tc .vmem, ⟨11, _⟩ => ⟨S1x1024x1024, .f32⟩
  | .local .tc .vmem, ⟨12, _⟩ => ⟨S1x1024x1024, .f32⟩
  | .local .tc .vmem, ⟨13, _⟩ => ⟨S256x8x128, .f32⟩
  | .local .tc .vmem, ⟨14, _⟩ => ⟨S256x8x128, .f32⟩
  | .local .tc .vmem, ⟨15, _⟩ => ⟨S1x256x8x128, .f32⟩
  | .local .tc .vmem, ⟨16, _⟩ => ⟨S1x256x8x128, .f32⟩
  | .local .tc .vmem, ⟨17, _⟩ => ⟨S1x256x8x128, .f32⟩
  | .local .tc .vmem, ⟨18, _⟩ => ⟨S1x256x8x128, .f32⟩
  | .local .tc .vmem, ⟨19, _⟩ => ⟨S256x1, .f32⟩
  | .local .tc .vmem, ⟨20, _⟩ => ⟨S256x1, .f32⟩
  | .local .tc .vmem, ⟨21, _⟩ => ⟨S256x1, .f32⟩
  | .local .tc .vmem, ⟨22, _⟩ => ⟨S256x1, .f32⟩
  | .local .tc .vmem, ⟨23, _⟩ => ⟨S256x1024, .f32⟩
  | .local .tc .vmem, ⟨24, _⟩ => ⟨S256x1024, .f32⟩
  | .local .tc .smem, ⟨0, _⟩ => ⟨S24, .i32⟩
  | .local .scVector .vmem, ⟨0, _⟩ => ⟨S64, .i32⟩
  | .local .scVector .vmem, ⟨1, _⟩ => ⟨S64x8x128, .f32⟩
  | .local .scVector .vmem, ⟨2, _⟩ => ⟨S64, .i32⟩
  | .local .scVector .vmem, ⟨3, _⟩ => ⟨S64x8x128, .f32⟩
  | _, _ => ⟨S1x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_call0_v0 : Ref sig .tc := ⟨.hbm, 13, rfl⟩
abbrev main_call0_cst : Ref sig .tc := ⟨.hbm, 14, rfl⟩
abbrev main_call0_c : Ref sig .tc := ⟨.hbm, 15, rfl⟩
abbrev main_call0_v1_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_call2_v0 : Ref sig .tc := ⟨.hbm, 28, rfl⟩
abbrev main_call2_cst : Ref sig .tc := ⟨.hbm, 29, rfl⟩
abbrev main_call2_c : Ref sig .tc := ⟨.hbm, 30, rfl⟩
abbrev main_call2_v1_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call3_call0_c : Ref sig .tc := ⟨.hbm, 39, rfl⟩
abbrev main_call3_call0_v0 : Ref sig .tc := ⟨.hbm, 40, rfl⟩
abbrev main_v19 : Ref sig .tc := ⟨.hbm, 41, rfl⟩
abbrev main_v20 : Ref sig .tc := ⟨.hbm, 42, rfl⟩
abbrev main_call4_c : Ref sig .tc := ⟨.hbm, 43, rfl⟩
abbrev main_call4_v0 : Ref sig .tc := ⟨.hbm, 44, rfl⟩
abbrev main_call4_v1 : Ref sig .tc := ⟨.hbm, 45, rfl⟩
abbrev main_call4_c_0 : Ref sig .tc := ⟨.hbm, 46, rfl⟩
abbrev main_call4_v2 : Ref sig .tc := ⟨.hbm, 47, rfl⟩
abbrev main_call4_v3 : Ref sig .tc := ⟨.hbm, 48, rfl⟩
abbrev main_call4_v4 : Ref sig .tc := ⟨.hbm, 49, rfl⟩
abbrev main_call4_v5 : Ref sig .tc := ⟨.hbm, 50, rfl⟩
abbrev main_call4_c_1 : Ref sig .tc := ⟨.hbm, 51, rfl⟩
abbrev main_call4_c_2 : Ref sig .tc := ⟨.hbm, 52, rfl⟩
abbrev main_call4_v6 : Ref sig .tc := ⟨.hbm, 53, rfl⟩
abbrev main_call4_v7 : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_v11 : Ref sig .tc := ⟨.hbm, 58, rfl⟩
abbrev main_call4_c_3 : Ref sig .tc := ⟨.hbm, 59, rfl⟩
abbrev main_call4_v12 : Ref sig .tc := ⟨.hbm, 60, rfl⟩
abbrev main_call4_v13 : Ref sig .tc := ⟨.hbm, 61, rfl⟩
abbrev main_call4_c_4 : Ref sig .tc := ⟨.hbm, 62, rfl⟩
abbrev main_call4_v14 : Ref sig .tc := ⟨.hbm, 63, rfl⟩
abbrev main_v21 : Ref sig .tc := ⟨.hbm, 64, rfl⟩
abbrev main_v22 : Ref sig .tc := ⟨.hbm, 65, rfl⟩
abbrev main_c : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_2 : Ref sig .tc := ⟨.hbm, 71, rfl⟩
abbrev main_v27 : Ref sig .tc := ⟨.hbm, 72, rfl⟩
abbrev main_v28 : Ref sig .tc := ⟨.hbm, 73, rfl⟩
abbrev main_c_3 : Ref sig .tc := ⟨.hbm, 74, rfl⟩
abbrev main_v29 : Ref sig .tc := ⟨.hbm, 75, rfl⟩
abbrev main_v30 : Ref sig .tc := ⟨.hbm, 76, rfl⟩
abbrev main_c_4 : Ref sig .tc := ⟨.hbm, 77, rfl⟩
abbrev main_call5_v0 : Ref sig .tc := ⟨.hbm, 78, rfl⟩
abbrev main_call5_v1 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_v6 : Ref sig .tc := ⟨.hbm, 84, rfl⟩
abbrev main_call5_v7 : Ref sig .tc := ⟨.hbm, 85, rfl⟩
abbrev main_call5_v8 : Ref sig .tc := ⟨.hbm, 86, rfl⟩
abbrev main_call5_c : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_0 : Ref sig .tc := ⟨.hbm, 91, rfl⟩
abbrev main_call5_v12 : Ref sig .tc := ⟨.hbm, 92, rfl⟩
abbrev main_call5_v13 : Ref sig .tc := ⟨.hbm, 93, rfl⟩
abbrev main_v31 : Ref sig .tc := ⟨.hbm, 94, rfl⟩
abbrev main_c_5 : Ref sig .tc := ⟨.hbm, 95, rfl⟩
abbrev main_v32 : Ref sig .tc := ⟨.hbm, 96, rfl⟩
abbrev main_call6_call0_c : Ref sig .tc := ⟨.hbm, 97, rfl⟩
abbrev main_call6_call0_v0 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_c_6 : Ref sig .tc := ⟨.hbm, 102, rfl⟩
abbrev main_v36 : Ref sig .tc := ⟨.hbm, 103, rfl⟩
abbrev main_v37 : Ref sig .tc := ⟨.hbm, 104, rfl⟩
abbrev main_c_7 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_c_8 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_c_9 : Ref sig .tc := ⟨.hbm, 123, rfl⟩
abbrev main_v54 : Ref sig .tc := ⟨.hbm, 124, rfl⟩
abbrev main_c_10 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v59 : Ref sig .tc := ⟨.smem, 0, rfl⟩
abbrev main_v1_2_scv : Ref sig .scVector := ⟨.hbm, 8, rfl⟩
abbrev main_v45_scv : Ref sig .scVector := ⟨.hbm, 114, rfl⟩
abbrev main_v57_scv : Ref sig .scVector := ⟨.hbm, 128, rfl⟩
abbrev main_v60_scv : Ref sig .scVector := ⟨.hbm, 130, rfl⟩
abbrev main_v61_scv : Ref sig .scVector := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg1_1 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc4_stg0_0 : Ref sig .tc := ⟨.vmem, 15, rfl⟩
abbrev cc4_stg0_1 : Ref sig .tc := ⟨.vmem, 16, rfl⟩
abbrev cc4_stg1_0 : Ref sig .tc := ⟨.vmem, 17, rfl⟩
abbrev cc4_stg1_1 : Ref sig .tc := ⟨.vmem, 18, rfl⟩
abbrev cc4_stg2_0 : Ref sig .tc := ⟨.vmem, 19, rfl⟩
abbrev cc4_stg2_1 : Ref sig .tc := ⟨.vmem, 20, rfl⟩
abbrev cc4_stg3_0 : Ref sig .tc := ⟨.vmem, 21, rfl⟩
abbrev cc4_stg3_1 : Ref sig .tc := ⟨.vmem, 22, rfl⟩
abbrev cc4_stg4_0 : Ref sig .tc := ⟨.vmem, 23, rfl⟩
abbrev cc4_stg4_1 : Ref sig .tc := ⟨.vmem, 24, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  ![v3.toNat]
def k1_off2 (i : grid1.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c2048_i32 : BitVec 32 := 2048#32
  let v4 : BitVec 32 := Scalar.remsi v3 c2048_i32
  let c0_i32_144_r1 : BitVec 32 := 0#32
  let c0_i32_145_r1 : BitVec 32 := 0#32
  ![v4.toNat, 0, 0]
abbrev grid2 : Pipeline.Grid := ⟨1, ![23], ![false]⟩

abbrev pre2 : Pipeline.Prefetch sig := ⟨1, ![main_v59.idx], fun | 0 => main_v59.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond1 (i : grid2.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  ![v3.toNat]
def k3_off2 (i : grid3.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_143_r1 : BitVec 32 := 0#32
  let c0_i32_144_r1 : BitVec 32 := 0#32
  ![v3.toNat, 0, 0]
abbrev grid4 : Pipeline.Grid := ⟨1, ![8], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_1 (i : grid4.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1x256x8x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x256x8x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x2048x1024 : Shape := ⟨3, ![1, 2048, 1024]⟩
abbrev S8x1024 : Shape := ⟨2, ![8, 1024]⟩
abbrev S8x1024x1024 : Shape := ⟨3, ![8, 1024, 1024]⟩
abbrev S2048x1024 : Shape := ⟨2, ![2048, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S2048x8x1024 : Shape := ⟨3, ![2048, 8, 1024]⟩
abbrev S8x1024x2048 : Shape := ⟨3, ![8, 1024, 2048]⟩
abbrev S1x2048x8 : Shape := ⟨3, ![1, 2048, 8]⟩

abbrev nBuf : Space → Nat
  | .hbm => 69
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S8x1024, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S2048x1024, .f32⟩
  | .hbm, ⟨6, _⟩ => ⟨S1024x8, .f32⟩
  | .hbm, ⟨7, _⟩ => ⟨S2048x8, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x8, .f32⟩
  | .hbm, ⟨21, _⟩ => ⟨S2048x8, .f32⟩
  | .hbm, ⟨22, _⟩ => ⟨S2048x2, .f32⟩
  | .hbm, ⟨23, _⟩ => ⟨S2048x2, .i32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x2, .f32⟩
  | .hbm, ⟨28, _⟩ => ⟨S2048x2, .f32⟩
  | .hbm, ⟨29, _⟩ => ⟨S_, .f32⟩
  | .hbm, ⟨30, _⟩ => ⟨S2048x8, .f32⟩
  | .hbm, ⟨31, _⟩ => ⟨S2048, .i32⟩
  | .hbm, ⟨32, _⟩ => ⟨S2048x1, .i32⟩
  | .hbm, ⟨33, _⟩ => ⟨S_, .i32⟩
  | .hbm, ⟨34, _⟩ => ⟨S2048x1, .i32⟩
  | .hbm, ⟨35, _⟩ => ⟨S2048x1, .i1⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S_, .i32⟩
  | .hbm, ⟨41, _⟩ => ⟨S2048x2, .i32⟩
  | .hbm, ⟨42, _⟩ => ⟨S2048x2, .i1⟩
  | .hbm, ⟨43, _⟩ => ⟨S_, .i32⟩
  | .hbm, ⟨44, _⟩ => ⟨S2048x2, .i32⟩
  | .hbm, ⟨45, _⟩ => ⟨S2048x2, .i32⟩
  | .hbm, ⟨46, _⟩ => ⟨S2048x2, .i32⟩
  | .hbm, ⟨47, _⟩ => ⟨S2048x2, .i32⟩
  | .hbm, ⟨48, _⟩ => ⟨S2048x2x1, .i32⟩
  | .hbm, ⟨49, _⟩ => ⟨S2048x2x1, .i32⟩
  | .hbm, ⟨50, _⟩ => ⟨S2048x2x2, .i32⟩
  | .hbm, ⟨51, _⟩ => ⟨S2048x8, .f32⟩
  | .hbm, ⟨52, _⟩ => ⟨S2048x8x1024, .f32⟩
  | .hbm, ⟨53, _⟩ => ⟨S2048x8x1024, .f32⟩
  | .hbm, ⟨54, _⟩ => ⟨S2048x8x1024, .f32⟩
  | .hbm, ⟨55, _⟩ => ⟨S2048x8x1024, .f32⟩
  | .hbm, ⟨56, _⟩ => ⟨S_, .f32⟩
  | .hbm, ⟨57, _⟩ => ⟨S2048x8x1024, .f32⟩
  | .hbm, ⟨58, _⟩ => ⟨S2048x8x1024, .f32⟩
  | .hbm, ⟨59, _⟩ => ⟨S_, .f32⟩
  | .hbm, ⟨60, _⟩ => ⟨S2048x8x1024, .f32⟩
  | .hbm, ⟨61, _⟩ => ⟨S2048x8x1024, .f32⟩
  | .hbm, ⟨62, _⟩ => ⟨S2048x8x1024, .f32⟩
  | .hbm, ⟨63, _⟩ => ⟨S2048x8x1024, .f32⟩
  | .hbm, ⟨64, _⟩ => ⟨S8x1024x2048, .f32⟩
  | .hbm, ⟨65, _⟩ => ⟨S2048x8x1024, .f32⟩
  | .hbm, ⟨66, _⟩ => ⟨S2048x1024, .f32⟩
  | .hbm, ⟨67, _⟩ => ⟨S1x2048x1024, .f32⟩
  | .hbm, ⟨68, _⟩ => ⟨S1x2048x8, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.RefRun.lean ====
/-
  The reference's run: what its host operations leave in the results, as functions of its arguments.
-/
module

public import proofs.«01_k».proof.ReferenceIdeal
public import proofs.«01_k».proof.Proof.Gen.ReferenceIdeal
public import Idealize.ShloMosaic.Lib.StableHlo.RunHlo
public import Idealize.ShloMosaic.Lib.StableHlo.RunRead
public import Idealize.ShloMosaic.Lib.StableHlo.ReadAt
public import Idealize.ShloMosaic.Lib.Claim

@[expose] public section

set_option backward.isDefEq.respectTransparency.types false

noncomputable section

namespace Cert.Proof.Ref

open Cert.ReferenceIdeal Cert.ReferenceIdeal.Gen
open Idealize.ShloMosaic Idealize.ShloMosaic.TcCoe
open Idealize.SL.Sem

variable {F : FTy → Type} [FloatOps F]

/-! ### The operations, in five parts and a call -/

/-- The operations of the reference: the logits and the probabilities. -/
def rOpsA : List (HloOp τ sig (Elt F)) :=
  [ StableHlo.reshape main_arg0 main_v0 (rfl : (.f32 : EltTy) = .f32) shapeCasts_S1x2048x1024_S2048x1024
    , StableHlo.unary main_arg1 main_v1 ((transpose S1024x8 [1, 0] · transposes_S8x1024_S1024x8_1_0) : (⟨S8x1024, .f32⟩ : BufTy).Contents (Elt F) → (⟨S1024x8, .f32⟩ : BufTy).Contents (Elt F))
    , StableHlo.binary main_v0 main_v1 main_v2 ((fun l r => Host.dotGeneral dot_S2048x1024_S1024x8_S2048x8_1_0_0_1_n_n none l r) : (⟨S2048x1024, .f32⟩ : BufTy).Contents (Elt F) → (⟨S1024x8, .f32⟩ : BufTy).Contents (Elt F) → (⟨S2048x8, .f32⟩ : BufTy).Contents (Elt F))
    , StableHlo.nullary main_cst (constant S_ .f32 0xFF800000#32)
    , StableHlo.binary main_v2 main_cst main_v3 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F))
    , StableHlo.nullary main_cst_0 (constant S_ .f32 0xFF800000#32)
    , StableHlo.unary main_cst_0 main_v4 (broadcastInDim S2048 ![] bcast_S_S2048 : (⟨S_, .f32⟩ : BufTy).Contents (Elt F) → (⟨S2048, .f32⟩ : BufTy).Contents (Elt F))
    , StableHlo.binary main_v4 main_v3 main_v5 (maximumf : (⟨S2048, .f32⟩ : BufTy).Contents (Elt F) → (⟨S2048, .f32⟩ : BufTy).Contents (Elt F) → (⟨S2048, .f32⟩ : BufTy).Contents (Elt F))
    , StableHlo.unary main_v5 main_v6 (broadcastInDim S2048x1 ![0] bcast_S2048_S2048x1_0 : (⟨S2048, .f32⟩ : BufTy).Contents (Elt F) → (⟨S2048x1, .f32⟩ : BufTy).Contents (Elt F))
    , StableHlo.unary main_v6 main_v7 (broadcastInDim S2048x8 ![0, 1] bcast_S2048x1_S2048x8_0_1 : (⟨S2048x1, .f32⟩ : BufTy).Contents (Elt F) → (⟨S2048x8, .f32⟩ : BufTy).Contents (Elt F))
    , StableHlo.binary main_v2 main_v7 main_v8 (subf : (⟨S2048x8, .f32⟩ : BufTy).Contents (Elt F) → (⟨S2048x8, .f32⟩ : BufTy).Contents (Elt F) → (⟨S2048x8, .f32⟩ : BufTy).Contents (Elt F))
    , StableHlo.unary main_v8 main_v9 (Host.exp : (⟨S2048x8, .f32⟩ : BufTy).Contents (Elt F) → (⟨S2048x8, .f32⟩ : BufTy).Contents (Elt F))
    , StableHlo.nullary main_cst_1 (constant S_ .f32 0x00000000#32)
    , StableHlo.binary main_v9 main_cst_1 main_v10 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F))
    , StableHlo.unary main_v10 main_v11 (broadcastInDim S2048x1 ![0] bcast_S2048_S2048x1_0 : (⟨S2048, .f32⟩ : BufTy).Contents (Elt F) → (⟨S2048x1, .f32⟩ : BufTy).Contents (Elt F))
    , StableHlo.unary main_v11 main_v12 (broadcastInDim S2048x8 ![0, 1] bcast_S2048x1_S2048x8_0_1 : (⟨S2048x1, .f32⟩ : BufTy).Contents (Elt F) → (⟨S2048x8, .f32⟩ : BufTy).Contents (Elt F))
    , StableHlo.binary main_v9 main_v12 main_v13 (Host.divf : (⟨S2048x8, .f32⟩ : BufTy).Contents (Elt F) → (⟨S2048x8, .f32⟩ : BufTy).Contents (Elt F) → (⟨S2048x8, .f32⟩ : BufTy).Contents (Elt F)) ]

/-- The operations of the reference: the two largest probabilities and their weights. -/
def rOpsB : List (HloOp τ sig (Elt F)) :=
  [ StableHlo.unary main_v13 main_values ((fun x => (Host.topK S2048x2 1 (FloatOps.cmpfTotal .gt) x sliceFits_S2048x8_S2048x2).1) : (⟨S2048x8, .f32⟩ : BufTy).Contents (Elt F) → (⟨S2048x2, .f32⟩ : BufTy).Contents (Elt F))
    , StableHlo.unary main_v13 main_indices ((fun x => (Host.topK S2048x2 1 (FloatOps.cmpfTotal .gt) x sliceFits_S2048x8_S2048x2).2) : (⟨S2048x8, .f32⟩ : BufTy).Contents (Elt F) → (⟨S2048x2, .i32⟩ : BufTy).Contents (Elt F))
    , StableHlo.nullary main_cst_2 (constant S_ .f32 0x00000000#32)
    , StableHlo.binary main_values main_cst_2 main_v14 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F))
    , StableHlo.unary main_v14 main_v15 (broadcastInDim S2048x1 ![0] bcast_S2048_S2048x1_0 : (⟨S2048, .f32⟩ : BufTy).Contents (Elt F) → (⟨S2048x1, .f32⟩ : BufTy).Contents (Elt F))
    , StableHlo.unary main_v15 main_v16 (broadcastInDim S2048x2 ![0, 1] bcast_S2048x1_S2048x2_0_1 : (⟨S2048x1, .f32⟩ : BufTy).Contents (Elt F) → (⟨S2048x2, .f32⟩ : BufTy).Contents (Elt F))
    , StableHlo.binary main_values main_v16 main_v17 (Host.divf : (⟨S2048x2, .f32⟩ : BufTy).Contents (Elt F) → (⟨S2048x2, .f32⟩ : BufTy).Contents (Elt F) → (⟨S2048x2, .f32⟩ : BufTy).Contents (Elt F)) ]

/-- The operations of the reference: the weights, one row of eight per token. -/
def rOpsC : List (HloOp τ sig (Elt F)) :=
  [ StableHlo.nullary main_cst_3 (constant S_ .f32 0x00000000#32)
    , StableHlo.unary main_cst_3 main_v18 (broadcastInDim S2048x8 ![] bcast_S_S2048x8 : (⟨S_, .f32⟩ : BufTy).Contents (Elt F) → (⟨S2048x8, .f32⟩ : BufTy).Contents (Elt F))
    , StableHlo.nullary main_v19 (iotaInDim S2048 32 0)
    , StableHlo.unary main_v19 main_v20 (broadcastInDim S2048x1 ![0] bcast_S2048_S2048x1_0 : (⟨S2048, .i32⟩ : BufTy).Contents (Elt F) → (⟨S2048x1, .i32⟩ : BufTy).Contents (Elt F))
    , StableHlo.nullary main_c (constantI S_ 32 0#32)
    , StableHlo.unary main_c main_v21 (broadcastInDim S2048x1 ![] bcast_S_S2048x1 : (⟨S_, .i32⟩ : BufTy).Contents (Elt F) → (⟨S2048x1, .i32⟩ : BufTy).Contents (Elt F))
    , StableHlo.binary main_v20 main_v21 main_v22 (cmpi .slt : (⟨S2048x1, .i32⟩ : BufTy).Contents (Elt F) → (⟨S2048x1, .i32⟩ : BufTy).Contents (Elt F) → (⟨S2048x1, .i1⟩ : BufTy).Contents (Elt F))
    , StableHlo.nullary main_c_4 (constantI S_ 32 2048#32)
    , StableHlo.unary main_c_4 main_v23 (broadcastInDim S2048x1 ![] bcast_S_S2048x1 : (⟨S_, .i32⟩ : BufTy).Contents (Elt F) → (⟨S2048x1, .i32⟩ : BufTy).Contents (Elt F))
    , StableHlo.binary main_v20 main_v23 main_v24 (addi : (⟨S2048x1, .i32⟩ : BufTy).Contents (Elt F) → (⟨S2048x1, .i32⟩ : BufTy).Contents (Elt F) → (⟨S2048x1, .i32⟩ : BufTy).Contents (Elt F))
    , StableHlo.ternary main_v22 main_v24 main_v20 main_v25 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F))
    , StableHlo.nullary main_c_5 (constantI S_ 32 0#32)
    , StableHlo.unary main_c_5 main_v26 (broadcastInDim S2048x2 ![] bcast_S_S2048x2 : (⟨S_, .i32⟩ : BufTy).Contents (Elt F) → (⟨S2048x2, .i32⟩ : BufTy).Contents (Elt F))
    , StableHlo.binary main_indices main_v26 main_v27 (cmpi .slt : (⟨S2048x2, .i32⟩ : BufTy).Contents (Elt F) → (⟨S2048x2, .i32⟩ : BufTy).Contents (Elt F) → (⟨S2048x2, .i1⟩ : BufTy).Contents (Elt F))
    , StableHlo.nullary main_c_6 (constantI S_ 32 8#32)
    , StableHlo.unary main_c_6 main_v28 (broadcastInDim S2048x2 ![] bcast_S_S2048x2 : (⟨S_, .i32⟩ : BufTy).Contents (Elt F) → (⟨S2048x2, .i32⟩ : BufTy).Contents (Elt F))
    , StableHlo.binary main_indices main_v28 main_v29 (addi : (⟨S2048x2, .i32⟩ : BufTy).Contents (Elt F) → (⟨S2048x2, .i32⟩ : BufTy).Contents (Elt F) → (⟨S2048x2, .i32⟩ : BufTy).Contents (Elt F))
    , StableHlo.ternary main_v27 main_v29 main_indices main_v30 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F))
    , StableHlo.unary main_v25 main_v31 (broadcastInDim S2048x2 ![0, 1] bcast_S2048x1_S2048x2_0_1 : (⟨S2048x1, .i32⟩ : BufTy).Contents (Elt F) → (⟨S2048x2, .i32⟩ : BufTy).Contents (Elt F))
    , StableHlo.unary main_v31 main_v32 (broadcastInDim S2048x2x1 ![0, 1] bcast_S2048x2_S2048x2x1_0_1 : (⟨S2048x2, .i32⟩ : BufTy).Contents (Elt F) → (⟨S2048x2x1, .i32⟩ : BufTy).Contents (Elt F))
    , StableHlo.unary main_v30 main_v33 (broadcastInDim S2048x2x1 ![0, 1] bcast_S2048x2_S2048x2x1_0_1 : (⟨S2048x2, .i32⟩ : BufTy).Contents (Elt F) → (⟨S2048x2x1, .i32⟩ : BufTy).Contents (Elt F))
    , StableHlo.binary main_v32 main_v33 main_v34 ((fun a b => concatenate S2048x2x2 2 [⟨S2048x2x1, a⟩, ⟨S2048x2x1, b⟩] concatenates_S2048x2x1_S2048x2x1_S2048x2x2_d2) : (⟨S2048x2x1, .i32⟩ : BufTy).Contents (Elt F) → (⟨S2048x2x1, .i32⟩ : BufTy).Contents (Elt F) → (⟨S2048x2x2, .i32⟩ : BufTy).Contents (Elt F))
    , StableHlo.ternary main_v18 main_v34 main_v17 main_v35 ((fun x i u => Host.scatterAdd scatter_S2048x8_S2048x2x2_S2048x2_n_01_01_2 x i u) : (⟨S2048x8, .f32⟩ : BufTy).Contents (Elt F) → (⟨S2048x2x2, .i32⟩ : BufTy).Contents (Elt F) → (⟨S2048x2, .f32⟩ : BufTy).Contents (Elt F) → (⟨S2048x8, .f32⟩ : BufTy).Contents (Elt F)) ]

/-- The operations of the reference: the two products of the experts. -/
def rOpsD : List (HloOp τ sig (Elt F)) :=
  [ StableHlo.binary main_v0 main_arg2 main_v36 ((fun l r => Host.dotGeneral dot_S2048x1024_S8x1024x1024_S2048x8x1024_1_2_0_01_n_n none l r) : (⟨S2048x1024, .f32⟩ : BufTy).Contents (Elt F) → (⟨S8x1024x1024, .f32⟩ : BufTy).Contents (Elt F) → (⟨S2048x8x1024, .f32⟩ : BufTy).Contents (Elt F))
    , StableHlo.binary main_v0 main_arg3 main_v37 ((fun l r => Host.dotGeneral dot_S2048x1024_S8x1024x1024_S2048x8x1024_1_2_0_01_n_n none l r) : (⟨S2048x1024, .f32⟩ : BufTy).Contents (Elt F) → (⟨S8x1024x1024, .f32⟩ : BufTy).Contents (Elt F) → (⟨S2048x8x1024, .f32⟩ : BufTy).Contents (Elt F)) ]

/-- The operations of the reference: the experts' results and their weighted sum. -/
def rOpsE : List (HloOp τ sig (Elt F)) :=
  [ StableHlo.binary main_v38 main_v37 main_v39 (mulf : (⟨S2048x8x1024, .f32⟩ : BufTy).Contents (Elt F) → (⟨S2048x8x1024, .f32⟩ : BufTy).Contents (Elt F) → (⟨S2048x8x1024, .f32⟩ : BufTy).Contents (Elt F))
    , StableHlo.binary main_arg4 main_v39 main_v40 ((fun l r => Host.dotGeneral dot_S8x1024x1024_S2048x8x1024_S8x1024x2048_2_2_1_0_0_1 none l r) : (⟨S8x1024x1024, .f32⟩ : BufTy).Contents (Elt F) → (⟨S2048x8x1024, .f32⟩ : BufTy).Contents (Elt F) → (⟨S8x1024x2048, .f32⟩ : BufTy).Contents (Elt F))
    , StableHlo.unary main_v40 main_v41 ((transpose S2048x8x1024 [2, 0, 1] · transposes_S8x1024x2048_S2048x8x1024_2_0_1) : (⟨S8x1024x2048, .f32⟩ : BufTy).Contents (Elt F) → (⟨S2048x8x1024, .f32⟩ : BufTy).Contents (Elt F))
    , StableHlo.binary main_v41 main_v35 main_v42 ((fun l r => Host.dotGeneral dot_S2048x8x1024_S2048x8_S2048x1024_1_1_2_n_0_0 none l r) : (⟨S2048x8x1024, .f32⟩ : BufTy).Contents (Elt F) → (⟨S2048x8, .f32⟩ : BufTy).Contents (Elt F) → (⟨S2048x1024, .f32⟩ : BufTy).Contents (Elt F))
    , StableHlo.reshape main_v42 main_v43 (rfl : (.f32 : EltTy) = .f32) shapeCasts_S2048x1024_S1x2048x1024
    , StableHlo.reshape main_v2 main_v44 (rfl : (.f32 : EltTy) = .f32) shapeCasts_S2048x8_S1x2048x8 ]

/-- The operations of the call of `silu`. -/
def siluOps (arg0 : StableHlo.TRef sig ⟨S2048x8x1024, .f32⟩) (φ : fn_silu.Bufs) : List (HloOp τ sig (Elt F)) :=
  [ StableHlo.TRef.unary arg0 φ.v0 Host.negf
    , StableHlo.TRef.unary φ.v0 φ.v1 Host.exp
    , StableHlo.TRef.nullary φ.cst (constant S_ .f32 0x3F800000#32)
    , StableHlo.TRef.unary φ.cst φ.v2 (broadcastInDim S2048x8x1024 ![] bcast_S_S2048x8x1024)
    , StableHlo.TRef.binary φ.v2 φ.v1 φ.v3 addf
    , StableHlo.TRef.nullary φ.cst_0 (constant S_ .f32 0x3F800000#32)
    , StableHlo.TRef.unary φ.cst_0 φ.v4 (broadcastInDim S2048x8x1024 ![] bcast_S_S2048x8x1024)
    , StableHlo.TRef.binary φ.v4 φ.v3 φ.v5 Host.divf
    , StableHlo.TRef.binary arg0 φ.v5 φ.v6 mulf ]

/-- The call of `silu` is the line of its operations. -/
theorem siluOps_seq (arg0 : StableHlo.TRef sig ⟨S2048x8x1024, .f32⟩) (φ : fn_silu.Bufs) :
    fn_silu.body (F := F) arg0 φ = StableHlo.seq (siluOps arg0 φ) := by
  simp only [fn_silu.body, siluOps, StableHlo.seq, pure_bind, bind_assoc]

/-- All of the reference's operations. -/
def rOps : List (HloOp τ sig (Elt F)) := rOpsA ++ (rOpsB ++ (rOpsC ++ (rOpsD ++ (siluOps (.of main_v36) main_call0 ++ rOpsE))))

/-- The reference is the line of its operations. -/
theorem main_seq (d : Dev nD) : main (F := F) d = StableHlo.seq rOps := by
  simp only [main, siluOps_seq, rOps, rOpsA, rOpsB, rOpsC, rOpsD, rOpsE, StableHlo.seq_append, bind_assoc, StableHlo.seq, pure_bind]

/-- The operations work on the TensorCore's buffers and allocate nothing. -/
theorem rOps_good : (rOps : List (HloOp τ sig (Elt F))).Forall fun op => op.bufs ⊆ StableHlo.tcRefs τ sig ∧ op.fresh = ∅ := by
  simp only [rOps, rOpsA, rOpsB, rOpsC, rOpsD, rOpsE, siluOps, List.forall_append, List.forall_cons, List.Forall, List.cons_append, List.nil_append]
  repeat' apply And.intro
  all_goals first | rfl | (simp)

/-! ### What the lists leave -/

/-- The router's logits. -/
def lgV (x : S1x2048x1024.Idx → Elt F .f32) (g : S8x1024.Idx → Elt F .f32) : S2048x8.Idx → Elt F .f32 :=
  Host.dotGeneral (φ₁ := .f32) (φ₂ := .f32) dot_S2048x1024_S1024x8_S2048x8_1_0_0_1_n_n none (shapeCast S2048x1024 x shapeCasts_S1x2048x1024_S2048x1024)
    (transpose S1024x8 [1, 0] g transposes_S8x1024_S1024x8_1_0)

/-- The exponentials of the logits less the row's largest. -/
def exV (l : S2048x8.Idx → Elt F .f32) : S2048x8.Idx → Elt F .f32 :=
  Host.exp (φ := .f32) (subf (φ := .f32) l (broadcastInDim S2048x8 ![0, 1] bcast_S2048x1_S2048x8_0_1 (broadcastInDim S2048x1 ![0] bcast_S2048_S2048x1_0
    (maximumf (φ := .f32) (broadcastInDim S2048 ![] bcast_S_S2048 (constant S_ .f32 0xFF800000#32))
      (Host.reduce FloatOps.maximumf l (constant S_ .f32 0xFF800000#32) reducesTo_S2048x8_S2048_d1 h_S_)))))

/-- The router's probabilities. -/
def prV (l : S2048x8.Idx → Elt F .f32) : S2048x8.Idx → Elt F .f32 :=
  Host.divf (φ := .f32) (exV l) (broadcastInDim S2048x8 ![0, 1] bcast_S2048x1_S2048x8_0_1 (broadcastInDim S2048x1 ![0] bcast_S2048_S2048x1_0
    (Host.reduceAdd (φ := .f32) (exV l) (constant S_ .f32 0x00000000#32) reducesTo_S2048x8_S2048_d1 h_S_)))

/-- The two largest probabilities of each row. -/
def valV (p : S2048x8.Idx → Elt F .f32) : S2048x2.Idx → Elt F .f32 :=
  (Host.topK S2048x2 1 (FloatOps.cmpfTotal .gt) p sliceFits_S2048x8_S2048x2).1

/-- Their places. -/
def idxV (p : S2048x8.Idx → Elt F .f32) : IVec S2048x2 32 :=
  (Host.topK S2048x2 1 (FloatOps.cmpfTotal .gt) p sliceFits_S2048x8_S2048x2).2

/-- The two divided by their sum. -/
def wtV (v : S2048x2.Idx → Elt F .f32) : S2048x2.Idx → Elt F .f32 :=
  Host.divf (φ := .f32) v (broadcastInDim S2048x2 ![0, 1] bcast_S2048x1_S2048x2_0_1 (broadcastInDim S2048x1 ![0] bcast_S2048_S2048x1_0
    (Host.reduceAdd (φ := .f32) v (constant S_ .f32 0x00000000#32) reducesTo_S2048x2_S2048_d1 h_S_)))

/-- The rows' numbers, a negative one counted from the end. -/
def rowV : IVec S2048x1 32 :=
  select (cmpi .slt (broadcastInDim S2048x1 ![0] bcast_S2048_S2048x1_0 (iotaInDim S2048 32 0)) (broadcastInDim S2048x1 ![] bcast_S_S2048x1 (constantI S_ 32 0#32)))
    (addi (broadcastInDim S2048x1 ![0] bcast_S2048_S2048x1_0 (iotaInDim S2048 32 0)) (broadcastInDim S2048x1 ![] bcast_S_S2048x1 (constantI S_ 32 2048#32)))
    (broadcastInDim S2048x1 ![0] bcast_S2048_S2048x1_0 (iotaInDim S2048 32 0))

/-- The places, a negative one counted from the end. -/
def colV (i : IVec S2048x2 32) : IVec S2048x2 32 :=
  select (cmpi .slt i (broadcastInDim S2048x2 ![] bcast_S_S2048x2 (constantI S_ 32 0#32)))
    (addi i (broadcastInDim S2048x2 ![] bcast_S_S2048x2 (constantI S_ 32 8#32))) i

/-- Where each weight goes: its row and its place. -/
def whereV (i : IVec S2048x2 32) : IVec S2048x2x2 32 :=
  concatenate S2048x2x2 2 [⟨S2048x2x1, broadcastInDim S2048x2x1 ![0, 1] bcast_S2048x2_S2048x2x1_0_1 (broadcastInDim S2048x2 ![0, 1] bcast_S2048x1_S2048x2_0_1 rowV)⟩,
    ⟨S2048x2x1, broadcastInDim S2048x2x1 ![0, 1] bcast_S2048x2_S2048x2x1_0_1 (colV i)⟩] concatenates_S2048x2x1_S2048x2x1_S2048x2x2_d2

/-- The weights, one row of eight per token. -/
def cbV (i : IVec S2048x2 32) (w : S2048x2.Idx → Elt F .f32) : S2048x8.Idx → Elt F .f32 :=
  Host.scatterAdd (φ := .f32) scatter_S2048x8_S2048x2x2_S2048x2_n_01_01_2 (broadcastInDim S2048x8 ![] bcast_S_S2048x8 (constant S_ .f32 0x00000000#32)) (whereV i) w

/-- One of the experts' two products. -/
def hdV (x : S1x2048x1024.Idx → Elt F .f32) (w : S8x1024x1024.Idx → Elt F .f32) : S2048x8x1024.Idx → Elt F .f32 :=
  Host.dotGeneral (φ₁ := .f32) (φ₂ := .f32) dot_S2048x1024_S8x1024x1024_S2048x8x1024_1_2_0_01_n_n none (shapeCast S2048x1024 x shapeCasts_S1x2048x1024_S2048x1024) w

/-- `silu`. -/
def slV (a : S2048x8x1024.Idx → Elt F .f32) : S2048x8x1024.Idx → Elt F .f32 :=
  mulf (φ := .f32) a (Host.divf (φ := .f32) (broadcastInDim S2048x8x1024 ![] bcast_S_S2048x8x1024 (constant S_ .f32 0x3F800000#32))
    (addf (φ := .f32) (broadcastInDim S2048x8x1024 ![] bcast_S_S2048x8x1024 (constant S_ .f32 0x3F800000#32)) (Host.exp (φ := .f32) (Host.negf (φ := .f32) a))))

/-- The weighted sum of the experts' results. -/
def otV (w : S8x1024x1024.Idx → Elt F .f32) (h : S2048x8x1024.Idx → Elt F .f32) (cb : S2048x8.Idx → Elt F .f32) : S2048x1024.Idx → Elt F .f32 :=
  Host.dotGeneral (φ₁ := .f32) (φ₂ := .f32) dot_S2048x8x1024_S2048x8_S2048x1024_1_1_2_n_0_0 none
    (transpose S2048x8x1024 [2, 0, 1] (Host.dotGeneral (φ₁ := .f32) (φ₂ := .f32) dot_S8x1024x1024_S2048x8x1024_S8x1024x2048_2_2_1_0_0_1 none w h) transposes_S8x1024x2048_S2048x8x1024_2_0_1) cb

/-- Two lines in a row. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

section Reads

variable (V : Valuation τ sig (Elt F))

/-- The logits. -/
theorem rA_v2 : StableHlo.after (rOpsA) V (Proc.devRef .tc main_v2) = lgV (V (Proc.devRef .tc main_arg0)) (V (Proc.devRef .tc main_arg1)) := by
  unfold rOpsA; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The tokens as rows. -/
theorem rA_v0 : StableHlo.after (rOpsA) V (Proc.devRef .tc main_v0) = shapeCast S2048x1024 (V (Proc.devRef .tc main_arg0)) shapeCasts_S1x2048x1024_S2048x1024 := by
  unfold rOpsA; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The probabilities. -/
theorem rA_v13 : StableHlo.after (rOpsA) V (Proc.devRef .tc main_v13) = prV (lgV (V (Proc.devRef .tc main_arg0)) (V (Proc.devRef .tc main_arg1))) := by
  unfold rOpsA; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The places of the two largest. -/
theorem rB_idx : StableHlo.after (rOpsB) V (Proc.devRef .tc main_indices) = idxV (V (Proc.devRef .tc main_v13)) := by
  unfold rOpsB; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The two weights. -/
theorem rB_v17 : StableHlo.after (rOpsB) V (Proc.devRef .tc main_v17) = wtV (valV (V (Proc.devRef .tc main_v13))) := by
  unfold rOpsB; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The weights as rows. -/
theorem rC_v35 : StableHlo.after (rOpsC) V (Proc.devRef .tc main_v35) = cbV (V (Proc.devRef .tc main_indices)) (V (Proc.devRef .tc main_v17)) := by
  unfold rOpsC; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The first product. -/
theorem rD_v36 : StableHlo.after (rOpsD) V (Proc.devRef .tc main_v36) = Host.dotGeneral (φ₁ := .f32) (φ₂ := .f32) dot_S2048x1024_S8x1024x1024_S2048x8x1024_1_2_0_01_n_n none (V (Proc.devRef .tc main_v0)) (V (Proc.devRef .tc main_arg2)) := by
  unfold rOpsD; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The second product. -/
theorem rD_v37 : StableHlo.after (rOpsD) V (Proc.devRef .tc main_v37) = Host.dotGeneral (φ₁ := .f32) (φ₂ := .f32) dot_S2048x1024_S8x1024x1024_S2048x8x1024_1_2_0_01_n_n none (V (Proc.devRef .tc main_v0)) (V (Proc.devRef .tc main_arg3)) := by
  unfold rOpsD; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The call. -/
theorem rS_v38 : StableHlo.after (siluOps (.of main_v36) main_call0) V (Proc.devRef .tc main_v38) = slV (V (Proc.devRef .tc main_v36)) := by
  unfold siluOps; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The result. -/
theorem rE_v43 : StableHlo.after (rOpsE) V (Proc.devRef .tc main_v43) = shapeCast S1x2048x1024 (otV (V (Proc.devRef .tc main_arg4)) (mulf (φ := .f32) (V (Proc.devRef .tc main_v38)) (V (Proc.devRef .tc main_v37))) (V (Proc.devRef .tc main_v35))) shapeCasts_S2048x1024_S1x2048x1024 := by
  unfold rOpsE; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- The logits as a result. -/
theorem rE_v44 : StableHlo.after (rOpsE) V (Proc.devRef .tc main_v44) = shapeCast S1x2048x8 (V (Proc.devRef .tc main_v2)) shapeCasts_S2048x8_S1x2048x8 := by
  unfold rOpsE; after_reads_simp
  try simp -implicitDefEqProofs only [StableHlo.TRef.toBuf, StableHlo.TRef.ofBuf, cast_cast, cast_eq, id]
  try simp -implicitDefEqProofs only [lgV, exV, prV, valV, idxV, wtV, rowV, colV, whereV, cbV, hdV, slV, otV]
  try rfl

/-- What the part leaves as it was. -/
theorem keepA (r : Ref sig .tc) (h : r = main_arg0 ∨ r = main_arg1 ∨ r = main_arg2 ∨ r = main_arg3 ∨ r = main_arg4) : StableHlo.after (rOpsA) V (Proc.devRef .tc r) = V (Proc.devRef .tc r) := by
  rcases h with rfl | rfl | rfl | rfl | rfl
  all_goals (unfold rOpsA; after_reads_simp)

/-- What the part leaves as it was. -/
theorem keepB (r : Ref sig .tc) (h : r = main_v2 ∨ r = main_v0 ∨ r = main_arg0 ∨ r = main_arg1 ∨ r = main_arg2 ∨ r = main_arg3 ∨ r = main_arg4) : StableHlo.after (rOpsB) V (Proc.devRef .tc r) = V (Proc.devRef .tc r) := by
  rcases h with rfl | rfl | rfl | rfl | rfl | rfl | rfl
  all_goals (unfold rOpsB; after_reads_simp)

/-- What the part leaves as it was. -/
theorem keepC (r : Ref sig .tc) (h : r = main_v2 ∨ r = main_v0 ∨ r = main_arg0 ∨ r = main_arg1 ∨ r = main_arg2 ∨ r = main_arg3 ∨ r = main_arg4) : StableHlo.after (rOpsC) V (Proc.devRef .tc r) = V (Proc.devRef .tc r) := by
  rcases h with rfl | rfl | rfl | rfl | rfl | rfl | rfl
  all_goals (unfold rOpsC; after_reads_simp)

/-- What the part leaves as it was. -/
theorem keepD (r : Ref sig .tc) (h : r = main_v2 ∨ r = main_v35 ∨ r = main_arg0 ∨ r = main_arg1 ∨ r = main_arg2 ∨ r = main_arg3 ∨ r = main_arg4) : StableHlo.after (rOpsD) V (Proc.devRef .tc r) = V (Proc.devRef .tc r) := by
  rcases h with rfl | rfl | rfl | rfl | rfl | rfl | rfl
  all_goals (unfold rOpsD; after_reads_simp)

/-- What the part leaves as it was. -/
theorem keepS (r : Ref sig .tc) (h : r = main_v2 ∨ r = main_v35 ∨ r = main_v37 ∨ r = main_arg0 ∨ r = main_arg1 ∨ r = main_arg2 ∨ r = main_arg3 ∨ r = main_arg4) : StableHlo.after (siluOps (.of main_v36) main_call0) V (Proc.devRef .tc r) = V (Proc.devRef .tc r) := by
  rcases h with rfl | rfl | rfl | rfl | rfl | rfl | rfl | rfl
  all_goals (unfold siluOps; after_reads_simp)

/-- What the part leaves as it was. -/
theorem keepE (r : Ref sig .tc) (h : r = main_arg0 ∨ r = main_arg1 ∨ r = main_arg2 ∨ r = main_arg3 ∨ r = main_arg4) : StableHlo.after (rOpsE) V (Proc.devRef .tc r) = V (Proc.devRef .tc r) := by
  rcases h with rfl | rfl | rfl | rfl | rfl
  all_goals (unfold rOpsE; after_reads_simp)

end Reads

/-- What the reference leaves, from contents `V`. -/
theorem rOps_v43 (V : Valuation τ sig (Elt F)) : StableHlo.after rOps V (Proc.devRef .tc main_v43)
    = shapeCast S1x2048x1024 (otV (V (Proc.devRef .tc main_arg4))
        (mulf (φ := .f32) (slV (hdV (V (Proc.devRef .tc main_arg0)) (V (Proc.devRef .tc main_arg2)))) (hdV (V (Proc.devRef .tc main_arg0)) (V (Proc.devRef .tc main_arg3))))
        (cbV (idxV (prV (lgV (V (Proc.devRef .tc main_arg0)) (V (Proc.devRef .tc main_arg1)))))
          (wtV (valV (prV (lgV (V (Proc.devRef .tc main_arg0)) (V (Proc.devRef .tc main_arg1)))))))) shapeCasts_S2048x1024_S1x2048x1024 := by
  simp only [rOps, after_app]
  rw [rE_v43, keepS _ main_arg4 (by simp), keepD _ main_arg4 (by simp), keepC _ main_arg4 (by simp), keepB _ main_arg4 (by simp), keepA _ main_arg4 (by simp),
    rS_v38, rD_v36, keepC _ main_v0 (by simp), keepB _ main_v0 (by simp), rA_v0, keepC _ main_arg2 (by simp), keepB _ main_arg2 (by simp), keepA _ main_arg2 (by simp),
    keepS _ main_v37 (by simp), rD_v37, keepC _ main_v0 (by simp), keepB _ main_v0 (by simp), rA_v0, keepC _ main_arg3 (by simp), keepB _ main_arg3 (by simp), keepA _ main_arg3 (by simp),
    keepS _ main_v35 (by simp), keepD _ main_v35 (by simp), rC_v35, rB_idx, rB_v17, rA_v13]
  rfl

/-- The logits it leaves. -/
theorem rOps_v44 (V : Valuation τ sig (Elt F)) : StableHlo.after rOps V (Proc.devRef .tc main_v44)
    = shapeCast S1x2048x8 (lgV (V (Proc.devRef .tc main_arg0)) (V (Proc.devRef .tc main_arg1))) shapeCasts_S2048x8_S1x2048x8 := by
  simp only [rOps, after_app]
  rw [rE_v44, keepS _ main_v2 (by simp), keepD _ main_v2 (by simp), keepC _ main_v2 (by simp), keepB _ main_v2 (by simp), rA_v2]

/-- The arguments are left as they were. -/
theorem rOps_arg (V : Valuation τ sig (Elt F)) (r : Ref sig .tc) (h : r = main_arg0 ∨ r = main_arg1 ∨ r = main_arg2 ∨ r = main_arg3 ∨ r = main_arg4) :
    StableHlo.after rOps V (Proc.devRef .tc r) = V (Proc.devRef .tc r) := by
  simp only [rOps, after_app]
  rw [keepE _ r h, keepS _ r (by tauto), keepD _ r (by tauto), keepC _ r (by tauto), keepB _ r (by tauto), keepA _ r h]

/-- The reference's run: every TensorCore buffer ends with what the operations leave, and the semaphores end at zero. -/
theorem run_ref (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (d : Dev nD) (b : Ref sig .tc), r.2.mem ((d.tc : Thread nD τ).loc b) = StableHlo.after rOps (StableHlo.launchContents m d) (Proc.devRef .tc b) :=
  StableHlo.run_hlo _ _ (ops := rOps) (fun d => show StableHlo.IsSeq (main (F := F) d) rOps from main_seq d) (by decide) (by decide)
    ((List.forall_iff_forall_mem.2 fun op h => ((List.forall_iff_forall_mem.1 rOps_good) op h).1))
    (fun op h => ((List.forall_iff_forall_mem.1 rOps_good) op h).2) m ρ

end Cert.Proof.Ref
-- ==== Proof.Setup.lean ====
/-
  What the two SparseCore calls of the kernel and the launch share: the program as the launch theorem sees it, the ghost
  algebra, and the arithmetic of the chunks of 64 assignments the tiles take.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.Proof.Moe

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- Both calls run on 2 SparseCores of 16 tiles each. -/
theorem nCore_eq (q : Fin 2) : (K (F := F)).nCore q = 2 := match q with | 0 => rfl | 1 => rfl
/-- Every SparseCore call runs on sixteen tiles. -/
theorem nSub_eq (q : Fin 2) : (K (F := F)).nSub q = 16 := match q with | 0 => rfl | 1 => rfl

/-- The launch's facts about the SparseCore semaphores and buffers. -/
theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes, the TensorCore pipelines, the transfers' counters -/

abbrev UH : Type := URounds (GSem nD τ sig) ℕ
abbrev UU : Type := UH × (UR sig nD τ × Counters)

local notation "𝕄" => MT nD τ sig (HIx 2) (Elt F) ℕ UU ℕ

/-- The handshakes' component, -/
abbrev EH : Emb UH (MT nD τ sig (HIx 2) (Elt F) ℕ UU ℕ) := embL
/-- and the pipelines'. -/
abbrev EP : Emb (UR sig nD τ) (MT nD τ sig (HIx 2) (Elt F) ℕ UU ℕ) := (Emb.inl : Emb (UR sig nD τ) (UR sig nD τ × Counters)).trans embR

/-! ## The buffers the SparseCore calls name -/

abbrev xpLoc (d : Dev nD) : Loc nD τ sig := (SparseCore.T d).loc main_v1_2
abbrev destLoc (d : Dev nD) : Loc nD τ sig := (SparseCore.T d).loc main_v45
abbrev xsLoc (d : Dev nD) : Loc nD τ sig := (SparseCore.T d).loc main_v57
abbrev ysLoc (d : Dev nD) : Loc nD τ sig := (SparseCore.T d).loc main_v60
abbrev y12Loc (d : Dev nD) : Loc nD τ sig := (SparseCore.T d).loc main_v61

/-- The two SparseCores' sixteen tiles, by number: tile `(c, s)` is `2 s + c`. -/
def wid (c : Fin 2) (s : Fin 16) : ℕ := 2 * s.val + c.val
/-- Where chunk `r` of tile `(c, s)` begins in the list of assignments. -/
def cbase (c : Fin 2) (s : Fin 16) (r : Fin 2) : ℕ := 256 * s.val + 128 * c.val + 64 * r.val

/-- A chunk ends within the list. -/
theorem cbase_le (c : Fin 2) (s : Fin 16) (r : Fin 2) : cbase c s r + 64 ≤ 4096 := by
  have := c.isLt; have := s.isLt; have := r.isLt; unfold cbase; omega

/-- Assignment `n` of the list. -/
abbrev asg (n : ℕ) (h : n < 4096) : S4096.Idx := ix1 (⟨n, h⟩ : Fin 4096)

/-- Two chunks that share an assignment are one chunk. -/
theorem cbase_inj {c c' : Fin 2} {s s' : Fin 16} {r r' : Fin 2} {k k' : ℕ} (hk : k < 64) (hk' : k' < 64)
    (h : cbase c s r + k = cbase c' s' r' + k') : c = c' ∧ s = s' ∧ r = r' ∧ k = k' := by
  have := c.isLt; have := s.isLt; have := r.isLt; have := c'.isLt; have := s'.isLt; have := r'.isLt
  unfold cbase at h
  refine ⟨Fin.ext ?_, Fin.ext ?_, Fin.ext ?_, ?_⟩ <;> omega

/-! ## The column slabs of an array of `[8, 128]` rows

The streams move rows of `[2, 128]`: each of the four pairs of sublanes by a stream of its own, through a slice of the
array at `[:, o : o + 2, :]` and that slice's whole. -/

section Slab

variable {κ : Kind} {sp : Space}

/-- The slab `[:, o : o + 2, :]` of a 5888-row array, as the program addresses it. -/
abbrev slab (M : Memref sig κ sp S5888x8x128 .f32) (o : ℕ) (h : ∀ a, (![0, o, 0] : Fin 3 → ℕ) a + S5888x2x128.size a ≤ S5888x8x128.size a) :
    Memref sig κ sp S5888x2x128 .f32 :=
  (M.slice (Rect.unit (s := S5888x8x128) ![0, o, 0] S5888x2x128.size h) (fun _ => rfl)).slice
    (Rect.unit (s := S5888x2x128) ![0, 0, 0] S5888x2x128.size inb_S5888x2x128_S5888x2x128_0_0_0) (fun _ => rfl)

/-- The slab of a tile's 64-row buffer. -/
abbrev slab64 (M : Memref sig κ sp S64x8x128 .f32) (o : ℕ) (h : ∀ a, (![0, o, 0] : Fin 3 → ℕ) a + S64x2x128.size a ≤ S64x8x128.size a) :
    Memref sig κ sp S64x2x128 .f32 :=
  M.slice (Rect.unit (s := S64x8x128) ![0, o, 0] S64x2x128.size h) (fun _ => rfl)

/-- An index of a slab of the sorted array. -/
theorem slab_emb (M : Memref sig κ sp S5888x8x128 .f32) (o : ℕ) (h) (x : S5888x2x128.Idx) (ho : o + (x 1).val < 8) :
    (slab M o h).view.emb x = M.view.emb (ix3 (x 0) (⟨o + (x 1).val, ho⟩ : Fin 8) (x 2)) := by
  show M.view.emb ((Rect.unit (s := S5888x8x128) ![0, o, 0] S5888x2x128.size h).emb ((Rect.unit (s := S5888x2x128) ![0, 0, 0] S5888x2x128.size inb_S5888x2x128_S5888x2x128_0_0_0).emb x)) = _
  congr 1
  funext a; apply Fin.ext
  match a with
  | 0 => simp [Rect.emb_apply]
  | 1 => simp [Rect.emb_apply]
  | 2 => simp [Rect.emb_apply]

/-- An index of a slab of a tile’s rows. -/
theorem slab64_emb (M : Memref sig κ sp S64x8x128 .f32) (o : ℕ) (h) (x : S64x2x128.Idx) (ho : o + (x 1).val < 8) :
    (slab64 M o h).view.emb x = M.view.emb (ix3 (x 0) (⟨o + (x 1).val, ho⟩ : Fin 8) (x 2)) := by
  show M.view.emb ((Rect.unit (s := S64x8x128) ![0, o, 0] S64x2x128.size h).emb x) = _
  congr 1
  funext a; apply Fin.ext
  match a with
  | 0 => simp [Rect.emb_apply]
  | 1 => simp [Rect.emb_apply]
  | 2 => simp [Rect.emb_apply]

end Slab

end Cert.Proof.Moe

end
-- ==== Proof.RegionKit.lean ====
/-
  A TensorCore call of the kernel between its SparseCore calls: entered with what the core owes the SparseCores recorded
  within its level, left with the same.
-/
module

public import proofs.«01_k».proof.Proof.Setup
public import proofs.«01_k».proof.Proof.Gen.KernelIdeal.Launch
public import Idealize.ShloMosaic.Lib.Pipeline.RegionArrays
public import Idealize.ShloMosaic.Lib.Pipeline.RegionsLoop

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat RDat BodyObligation BodyObligationLoose)

variable {F : FTy → Type} [FloatOps F]

local notation "𝕄" => MT nD τ sig (HIx 2) (Elt F) ℕ UU ℕ

/-- The waits at or below the level the TensorCore has reached before call `n`. -/
def lowPairs (d : Dev nD) (n : ℕ) : Set (SemLoc sig × HIx 2) := {p | (K (F := F)).lev (SparseCore.T d, p.1) p.2 ≤ 8 * n}

/-- What the TensorCore owes before call `n`, its recorded waits at or below that level. -/
def owesLow (d : Dev nD) (n : ℕ) : sProp 𝕄 :=
  iprop(∃ W, ⌜(K (F := F)).WBelow (SparseCore.T d) W (8 * n)⌝ ∗ owes (SparseCore.T d) ((K (F := F)).Otc d n) W)

/-- The TensorCore owes on handshake stages alone. -/
theorem otc_pos (d : Dev nD) (n : ℕ) (g : GSem nD τ sig) (i : HIx 2) (h : 0 < (K (F := F)).Otc (N := 2) d n g i) : i ∈ (K (F := F)).L g ∧ 0 < (K (F := F)).lev g i :=
  ⟨Finset.mem_univ _, Nat.lt_of_lt_of_le (Nat.succ_pos _) ((K (F := F)).lev_of_Otc_pos h)⟩

variable (a : (p : Fin 3) → (pcfgs (F := F) p).Adm)

section Exact

variable (pdats : (p : Fin 3) → (c : Dev nD) → Dat τ (Elt F) (HIx 2) ℕ UU ℕ (Pipeline.pin (pcfgs (F := F)) a p) c)

/-- A call without tables of its own, over proof data that name every content: entered from `A`, which holds its arrays beside
    `Z`, and left at `B`. -/
def segOf (p : Fin 3) (n : ℕ) (kit : Pipeline.PLaunchFacts₀ (nD := nD) (τ := τ) (pcfgs (F := F)) p) (hK : (pcfgs (F := F) p).pre.K = 0)
    (hbody : ∀ c, BodyObligationLoose (pdats p c) (defs₀ (F := F)) 𝒱₀ none Set.univ)
    (howed : ∀ c t, (pdats p c).owed t = (K (F := F)).Otc c n) (hrec : ∀ c t, (pdats p c).recorded t = lowPairs (F := F) c n)
    (hΦ : ∀ c t, (pdats p c).Φ t = Pipeline.scopedRest (Pipeline.pin (pcfgs (F := F)) a p).spec c)
    (A B Z : Dev nD → sProp 𝕄)
    (hA : ∀ c, A c ⊢ iprop((pdats p c).arrays ((pdats p c).arrAt · 0) ∗ Z c))
    (hB : ∀ c, iprop((pdats p c).arrays ((pdats p c).arrAt · (Pipeline.pin (pcfgs (F := F)) a p).N) ∗ Z c) ⊢ B c) :
    Pipeline.RegionSeg (pcfgs (F := F)) a pdats none defs₀ 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_of_cut (Pipeline.pin (pcfgs (F := F)) a) pdats none p c 0 ((K (F := F)).Otc c n) (howed c) (fun _ _ => Finset.mem_univ _) (fun _ _ => le_refl 0)
    (fun g i h => otc_pos c n g i h)
  pre c := iprop(A c ∗ owesLow c n)
  post c := iprop(B c ∗ owesLow c n)
  X _ := BI.emp
  Y _ := BI.emp
  Z := Z
  hentry c := by
    rw [Pipeline.ownSems0_none, Pipeline.prefHeld_of_none _ hK]
    iintro ⟨⟨Ha, HO⟩, -, -⟩
    ihave Ha := (hA c) $$ Ha
    icases Ha with ⟨Ha, HZ⟩
    imodintro
    isplitl [Ha]; · iexact Ha
    isplitr; · iempintro
    isplitl [HO]
    · unfold Dat.owesAt Pipeline.owesWithin Dat.bound owesLow
      rw [howed c 0, hrec c]
      icases HO with ⟨%W, %hW, HO⟩; iexists W; isplitr
      · ipureintro; exact fun p hp => Or.inl (hW p hp)
      iexact HO
    isplitr; · iempintro
    iexact HZ
  hin c := by
    rw [hΦ c]; iintro ⟨-, -, Hr⟩; iexact Hr
  hout c := by
    rw [Pipeline.ownSems0_none, hΦ c]
    iintro Hr
    isplitr; · iempintro
    isplitr; · iempintro
    iexact Hr
  hexit c := by
    iintro ⟨Ha, HO, -, HZ⟩
    imodintro
    isplitl [Ha HZ]
    · iapply (hB c); isplitl [Ha] <;> iassumption
    unfold Dat.owesAt Pipeline.owesWithin Dat.bound owesLow
    rw [howed c (Fin.last _), hrec c]
    icases HO with ⟨%W, %hW, HO⟩; iexists W; isplitr
    · ipureintro
      intro p hp
      rcases hW hp with h | ⟨w, s, h⟩
      · exact h
      · rw [h]; exact Nat.zero_le _
    iexact HO

end Exact

section Rel

variable (rdats : (p : Fin 3) → (c : Dev nD) → RDat τ (Elt F) (HIx 2) ℕ UU ℕ (Pipeline.pin (pcfgs (F := F)) a p) c)

/-- A call with its tables, over proof data that bound what each point leaves: entered from `A`, which holds its arrays and its
    tables beside `Z`, and left at `B`. -/
def segRel (p : Fin 3) (n : ℕ) (kit : Pipeline.PLaunchFacts₀ (nD := nD) (τ := τ) (pcfgs (F := F)) p)
    (hbody : ∀ c, (rdats p c).BodyObligation (defs₀ (F := F)) 𝒱₀ none Set.univ)
    (howed : ∀ c t, (rdats p c).owed t = (K (F := F)).Otc c n) (hrec : ∀ c t, (rdats p c).recorded t = lowPairs (F := F) c n)
    (hΦ : ∀ c t, (rdats p c).Φ t = iprop(Pipeline.prefHeld (pcfgs (F := F) p).pre c (fun _ => fullShare) (a p).1 ∗ Pipeline.scopedRest (Pipeline.pin (pcfgs (F := F)) a p).spec c))
    (A B Z : Dev nD → sProp 𝕄)
    (hA : ∀ c, A c ⊢ iprop((rdats p c).arrays (rdats p c).A ∗ Pipeline.prefHeld (pcfgs (F := F) p).pre c (fun _ => fullShare) (a p).1 ∗ Z c))
    (hB : ∀ c, iprop((rdats p c).arraysAt (Pipeline.pin (pcfgs (F := F)) a p).N ∗ Pipeline.prefHeld (pcfgs (F := F) p).pre c (fun _ => fullShare) (a p).1 ∗ Z c) ⊢ B c) :
    Pipeline.RDat.RegionSeg (pcfgs (F := F)) a rdats none defs₀ 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.RDat.cellsWaits_of_cut (Pipeline.pin (pcfgs (F := F)) a) rdats none p c 0 ((K (F := F)).Otc c n) (howed c) (fun _ _ => Finset.mem_univ _) (fun _ _ => le_refl 0)
    (fun g i h => otc_pos c n g i h)
  pre c := iprop(A c ∗ owesLow c n)
  post c := iprop(B c ∗ owesLow c n)
  X _ := BI.emp
  Y c := Pipeline.prefHeld (pcfgs (F := F) p).pre c (fun _ => fullShare) (a p).1
  Z := Z
  hentry c := by
    rw [Pipeline.ownSems0_none]
    iintro ⟨⟨Ha, HO⟩, -, -⟩
    ihave Ha := (hA c) $$ Ha
    icases Ha with ⟨Ha, Hp, HZ⟩
    imodintro
    isplitl [Ha]; · iexact Ha
    isplitl [Hp]; · iexact Hp
    isplitl [HO]
    · unfold RDat.owesAt Pipeline.owesWithin RDat.bound owesLow
      rw [howed c 0, hrec c]
      icases HO with ⟨%W, %hW, HO⟩; iexists W; isplitr
      · ipureintro; exact fun p hp => Or.inl (hW p hp)
      iexact HO
    isplitr; · iempintro
    iexact HZ
  hin c := by
    rw [hΦ c]; iintro ⟨-, Hp, Hr⟩
    isplitl [Hp]; · iexact Hp
    iexact Hr
  hout c := by
    rw [Pipeline.ownSems0_none, hΦ c]
    iintro ⟨Hp, Hr⟩
    isplitl [Hp]; · iexact Hp
    isplitr; · iempintro
    iexact Hr
  hexit c := by
    iintro ⟨Ha, HO, Hp, HZ⟩
    imodintro
    isplitl [Ha Hp HZ]
    · iapply (hB c); isplitl [Ha]; · iexact Ha
      isplitl [Hp]; · iexact Hp
      iexact HZ
    unfold RDat.owesAt Pipeline.owesWithin RDat.bound owesLow
    rw [howed c (Fin.last _), hrec c]
    icases HO with ⟨%W, %hW, HO⟩; iexists W; isplitr
    · ipureintro
      intro p hp
      rcases hW hp with h | ⟨w, s, h⟩
      · exact h
      · rw [h]; exact Nat.zero_le _
    iexact HO

end Rel

/-- The pipelines' ghost state of one call. -/
abbrev callGhost (p : Fin 3) (d : Dev nD) : sProp 𝕄 :=
  iprop(Pipeline.cellsGhost (Pipeline.pin (pcfgs (F := F)) a) (EP (F := F)) p d ∗ Pipeline.toksInit (Pipeline.pin (pcfgs (F := F)) a) (EP (F := F)) p d)

/-- The step of the TensorCore's program over a call, from what the call's rule says of it. -/
theorem call_step (P : (K (F := F)).Pay (N := 2) (nD := nD) (Val := Elt F) (Name := ℕ) (U := UU)) [SparseCore.Cfg.Pay.IsStorable P]
    (p : Fin 3) (n : ℕ) (d : Dev nD) (κ : GSem nD τ sig → ℕ) (A B : sProp 𝕄) (Q : PUnit → sProp 𝕄)
    (hwp : ∀ Q' : PUnit → sProp 𝕄, iprop((iprop(boundary (SparseCore.T d) ∗ (B ∗ owesLow d n)) -∗ wp frame (wpE (D (F := F)) 𝒱 (SparseCore.T d) none) Set.univ (pure ⟨⟩) Q')
        ∗ boundary (SparseCore.T d) ∗ (A ∗ owesLow d n) ∗ levAts (K (F := F)).L (K (F := F)).lev ∗ callGhost a p d)
      ⊢ wp frame (wpE (D (F := F)) 𝒱 (SparseCore.T d) none) Set.univ (.op (.customCall (Pipeline.entry p) ()) pure) Q') :
    iprop((K (F := F)).ctx EH P κ ∗ (K (F := F)).tcSt EH d n ∗ boundary (SparseCore.T d) ∗ A ∗ callGhost a p d
        ∗ (iprop((K (F := F)).tcSt EH d n ∗ boundary (SparseCore.T d) ∗ B) -∗ Q ⟨⟩))
      ⊢ wp frame (wpE ((K (F := F)).defs (D (F := F))) 𝒱 (SparseCore.T d) none) Set.univ
          (Prog.lift (.customCall (SparseCore.inner (Pipeline.entry p)) ())) Q := by
  have h := (hwp Q).trans ((K (F := F)).wp_liftProg (D (F := F)) 𝒱 (SparseCore.T d) Set.univ none (.op (.customCall (Pipeline.entry p) ()) pure) Q)
  refine BIBase.Entails.trans ?_ h
  clear h hwp
  unfold SparseCore.Cfg.tcSt
  iintro ⟨#Hctx, ⟨HO, Hst⟩, Hb, HA, Hg, Hk⟩
  isplitl [Hst Hk]
  · iintro ⟨Hb, HB, HO⟩
    rw [show (pure ⟨⟩ : Prog (TpuEff nD τ sig (Elt F) (ΛP (F := F)) .tc) PUnit) = .ret ⟨⟩ from rfl, wp_ret]
    imodintro
    iapply Hk
    isplitl [HO Hst]
    · isplitl [HO]; · unfold owesLow; iexact HO
      iexact Hst
    isplitl [Hb] <;> iassumption
  isplitl [Hb]; · iexact Hb
  isplitl [HA HO]
  · isplitl [HA]; · iexact HA
    unfold owesLow; iexact HO
  isplitr
  · iapply (SparseCore.Cfg.ctx_levAts κ) $$ Hctx
  iexact Hg

end Cert.Proof.Moe

end
-- ==== Proof.Router.lean ====
/-
  The router's call: its body run once, what it leaves in its three results a function of the tokens and the gate's weights.
-/
module

public import proofs.«01_k».proof.Proof.RegionKit
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.VecWindow

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat BodyObligation)

variable {F : FTy → Type} [FloatOps F]

local notation "𝕄" => MT nD τ sig (HIx 2) (Elt F) ℕ UU ℕ

/-- The router's body on whole buffers: the logits, the combine weights and the packed tokens. -/
theorem router_run (c : Dev nD) (a0 : Memref sig .tc .vmem S2048x1024 .f32) (h0 : a0.IsWhole) (a1 : Memref sig .tc .vmem S8x1024 .f32) (h1 : a1.IsWhole)
    (a2 : Memref sig .tc .vmem S2048x8 .f32) (h2 : a2.IsWhole) (a3 : Memref sig .tc .vmem S2048x8 .f32) (h3 : a3.IsWhole)
    (a4 : Memref sig .tc .vmem S2048x8x128 .f32) (h4 : a4.IsWhole)
    (X : S2048x1024.Idx → Elt F .f32) (G : S8x1024.Idx → Elt F .f32) (Q : PUnit → sProp 𝕄) :
    iprop(owns (c : Thread nD τ) a0 fullShare X ∗ owns (c : Thread nD τ) a1 fullShare G
        ∗ (∃ d, owns (c : Thread nD τ) a2 fullShare d) ∗ (∃ d, owns (c : Thread nD τ) a3 fullShare d) ∗ (∃ d, owns (c : Thread nD τ) a4 fullShare d)
        ∗ (iprop(owns (c : Thread nD τ) a0 fullShare X ∗ owns (c : Thread nD τ) a1 fullShare G
            ∗ owns (c : Thread nD τ) a2 fullShare (k0_pay3 X G) ∗ owns (c : Thread nD τ) a3 fullShare (k0_pay4 X G)
            ∗ owns (c : Thread nD τ) a4 fullShare (k0_pay1 (k0_pay2 X))) -∗ Q ⟨⟩))
      ⊢ wp frame (wpE (defs₀ (F := F)) 𝒱₀ (c : Thread nD τ) none) Set.univ (cc0__router_body a0 h0 a1 h1 a2 h2 a3 h3 a4 h4) Q := by
  simp only [cc0__router_body_eq_skeleton]; unfold cc0__router_body_skel
  simp only [k0_part1_eq_skeleton]; unfold k0_part1_skel
  unfold owns
  iintro ⟨⟨%f0, %e0, H0⟩, ⟨%f1, %e1, H1⟩, ⟨%d2, %f2, -, H2⟩, ⟨%d3, %f3, -, H3⟩, ⟨%d4, %f4, -, H4⟩, Hk⟩
  subst e0 e1
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; exact (View.read_writes_full _ _ _ _ _).trans (by rw [View.readAt_full, View.readAt_full])
  isplitl [H3]; · iexists _; isplitr; swap; (· iexact H3); ipureintro; exact (View.read_writes_full _ _ _ _ _).trans (by rw [View.readAt_full, View.readAt_full])
  iexists _; isplitr; swap; (· iexact H4); ipureintro; exact (View.read_writes_full _ _ _ _ _).trans (by rw [View.readAt_full])

/-! ## The proof data, at the contents the call is entered from -/

/-- Proof data of a call that is not the one at hand: anything. -/
def junkDat {cfg : Idealize.ShloMosaic.Pipeline.Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

variable (V : Valuation τ sig (Elt F))

/-- The tokens and the gate's weights as the call's fetches stage them. -/
abbrev stgX : (cfg0.win 0).block.Idx → Elt F (cfg0.win 0).elt := ((cfg0.win 0).blk t0_0).view.read (Elt F) (V (Proc.devRef .tc main_v0))
abbrev stgG : (cfg0.win 1).block.Idx → Elt F (cfg0.win 1).elt := ((cfg0.win 1).blk t0_0).view.read (Elt F) (V (Proc.devRef .tc main_arg1))

def routerDat (n : ℕ) (c : Dev nD) : Dat τ (Elt F) (HIx 2) ℕ UU ℕ cfg0 c where
  A w := V (Proc.devRef .tc (Pipeline.arrRef spec0 w))
  after w _ := match w with
    | ⟨0, _⟩ => stgX V
    | ⟨1, _⟩ => stgG V
    | ⟨2, _⟩ => k0_pay3 (stgX V) (stgG V)
    | ⟨3, _⟩ => k0_pay4 (stgX V) (stgG V)
    | ⟨4, _⟩ => k0_pay1 (k0_pay2 (stgX V))
  Φ _ := Pipeline.scopedRest spec0 c
  q _ := fullShare
  owed _ := (K (F := F)).Otc c n
  recorded _ := lowPairs (F := F) c n

def routerDats (a : (p : Fin 3) → (pcfgs (F := F) p).Adm) (n : ℕ) :
    (p : Fin 3) → (c : Dev nD) → Dat τ (Elt F) (HIx 2) ℕ UU ℕ (Pipeline.pin (pcfgs (F := F)) a p) c
  | ⟨0, _⟩ => fun c => routerDat V n c
  | ⟨1, _⟩ => fun c => junkDat c
  | ⟨2, _⟩ => fun c => junkDat c

/-- What the body finds in the tokens’ buffer. -/
theorem router_before0 (n : ℕ) (c : Dev nD) (d) : (routerDat V n c).before 0 t0_0 d = stgX V := by
  unfold Dat.before; rw [if_pos (by decide)]; rfl
/-- What the body finds in the matrix’s buffer. -/
theorem router_before1 (n : ℕ) (c : Dev nD) (d) : (routerDat V n c).before 1 t0_0 d = stgG V := by
  unfold Dat.before; rw [if_pos (by decide)]; rfl

/-- The library's obligation of the router's body, by its run. -/
theorem router_obligation (n : ℕ) (c : Dev nD) : BodyObligation (routerDat V n c) (defs₀ (F := F)) 𝒱₀ none Set.univ := fun t => by
  obtain rfl := fin_N0 t
  rw [bigSep_W0, bigSep_W0]
  rw [show (routerDat V n c).owesAt none t0_0.succ = (routerDat V n c).owesAt none t0_0.castSucc from rfl,
    show (routerDat V n c).Φ t0_0.succ = (routerDat V n c).Φ t0_0.castSucc from rfl]
  refine BIBase.Entails.trans ?_ (router_run c (st0_0 t0_0) (hstage0_0 0) (st0_1 t0_0) (hstage0_1 0) (st0_2 t0_0) (hstage0_2 0) (st0_3 t0_0) (hstage0_3 0) (st0_4 t0_0) (hstage0_4 0)
    (stgX V) (stgG V) _)
  iintro ⟨HΦ, Howes, ⟨%d0, H0⟩, ⟨%d1, H1⟩, ⟨%d2, H2⟩, ⟨%d3, H3⟩, ⟨%d4, H4⟩⟩
  rw [router_before0, router_before1]
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The tokens’ block is the whole array. -/
theorem stgX_eq : stgX V = V (Proc.devRef .tc main_v0) := by
  funext j; unfold stgX; blk_simp
  exact congrArg _ (funext fun a => Fin.ext (by
    match a with
    | 0 => show 0 + 1 * (j 0).val = _; omega
    | 1 => show 0 + 1 * (j 1).val = _; omega))
/-- The matrix’s block is the whole array. -/
theorem stgG_eq : stgG V = V (Proc.devRef .tc main_arg1) := by
  funext j; unfold stgG; blk_simp
  exact congrArg _ (funext fun a => Fin.ext (by
    match a with
    | 0 => show 0 + 1 * (j 0).val = _; omega
    | 1 => show 0 + 1 * (j 1).val = _; omega))

/-- What the call leaves in its three results, from what it was entered from. -/
theorem router_arr2 (n : ℕ) (c : Dev nD) : (routerDat V n c).arrAt 2 cfg0.N = k0_pay3 (V (Proc.devRef .tc main_v0)) (V (Proc.devRef .tc main_arg1)) := by
  refine (routerDat V n c).arrAt_eq_of_after_last 2 t0_0 (by decide) _ fun j => ?_
  blk_simp
  show k0_pay3 (stgX V) (stgG V) j = _
  rw [stgX_eq, stgG_eq]
/-- The combine weights after the call. -/
theorem router_arr3 (n : ℕ) (c : Dev nD) : (routerDat V n c).arrAt 3 cfg0.N = k0_pay4 (V (Proc.devRef .tc main_v0)) (V (Proc.devRef .tc main_arg1)) := by
  refine (routerDat V n c).arrAt_eq_of_after_last 3 t0_0 (by decide) _ fun j => ?_
  blk_simp
  show k0_pay4 (stgX V) (stgG V) j = _
  rw [stgX_eq, stgG_eq]
/-- The packed tokens after the call. -/
theorem router_arr4 (n : ℕ) (c : Dev nD) : (routerDat V n c).arrAt 4 cfg0.N = k0_pay1 (k0_pay2 (V (Proc.devRef .tc main_v0))) := by
  refine (routerDat V n c).arrAt_eq_of_after_last 4 t0_0 (by decide) _ fun j => ?_
  blk_simp
  show k0_pay1 (k0_pay2 (stgX V)) j = _
  rw [stgX_eq]

/-- The buffers after the call: its three results written. -/
def routerOut : Valuation τ sig (Elt F) :=
  Function.update (Function.update (Function.update V
    (Proc.devRef .tc main_v1_0) (k0_pay3 (V (Proc.devRef .tc main_v0)) (V (Proc.devRef .tc main_arg1))))
    (Proc.devRef .tc main_v1_1) (k0_pay4 (V (Proc.devRef .tc main_v0)) (V (Proc.devRef .tc main_arg1))))
    (Proc.devRef .tc main_v1_2) (k0_pay1 (k0_pay2 (V (Proc.devRef .tc main_v0))))

/-- The logits after the call. -/
theorem routerOut_logits : routerOut V (Proc.devRef .tc main_v1_0) = k0_pay3 (V (Proc.devRef .tc main_v0)) (V (Proc.devRef .tc main_arg1)) := by
  unfold routerOut
  rw [Function.update_of_ne (by decide), Function.update_of_ne (by decide), Function.update_self]
/-- The combine weights’ buffer after the call. -/
theorem routerOut_comb : routerOut V (Proc.devRef .tc main_v1_1) = k0_pay4 (V (Proc.devRef .tc main_v0)) (V (Proc.devRef .tc main_arg1)) := by
  unfold routerOut
  rw [Function.update_of_ne (by decide), Function.update_self]
/-- The packed tokens’ buffer after the call. -/
theorem routerOut_pack : routerOut V (Proc.devRef .tc main_v1_2) = k0_pay1 (k0_pay2 (V (Proc.devRef .tc main_v0))) := by
  unfold routerOut
  rw [Function.update_self]
/-- The call changes no other buffer. -/
theorem routerOut_ne {b : DevRef τ sig} (h0 : b ≠ Proc.devRef .tc main_v1_0) (h1 : b ≠ Proc.devRef .tc main_v1_1) (h2 : b ≠ Proc.devRef .tc main_v1_2) :
    routerOut V b = V b := by
  unfold routerOut
  rw [Function.update_of_ne h2, Function.update_of_ne h1, Function.update_of_ne h0]

/-- The call’s invariant from step to step. -/
theorem router_inv (a : (p : Fin 3) → (pcfgs (F := F) p).Adm) (n : ℕ) (c : Dev nD) (t) :
    (routerDats V a n 0 c).Φ t = Pipeline.scopedRest (Pipeline.pin (pcfgs (F := F)) a 0).spec c := by
  show (routerDat V n c).Φ t = _
  unfold routerDat
  exact congrArg (fun s : Fin 5 → Pipeline.WinSpec sig _ => (Pipeline.scopedRest s c : sProp 𝕄)) (show spec0 = (Pipeline.pin (pcfgs (F := F)) a 0).spec from rfl)

/-- The TensorCore's program steps over the router's call. -/
theorem router_step (a : (p : Fin 3) → (pcfgs (F := F) p).Adm)
    (P : (K (F := F)).Pay (N := 2) (nD := nD) (Val := Elt F) (Name := ℕ) (U := UU)) [SparseCore.Cfg.Pay.IsStorable P]
    (n : ℕ) (d : Dev nD) (κ : GSem nD τ sig → ℕ) (Q : PUnit → sProp 𝕄) :
    iprop((K (F := F)).ctx EH P κ ∗ (K (F := F)).tcSt EH d n ∗ boundary (SparseCore.T d)
        ∗ StableHlo.held (SparseCore.T d) (Pipeline.ucRefs τ sig) V ∗ callGhost a 0 d
        ∗ (iprop((K (F := F)).tcSt EH d n ∗ boundary (SparseCore.T d) ∗ StableHlo.held (SparseCore.T d) (Pipeline.ucRefs τ sig) (routerOut V)) -∗ Q ⟨⟩))
      ⊢ wp frame (wpE ((K (F := F)).defs (D (F := F))) 𝒱 (SparseCore.T d) none) Set.univ
          (Prog.lift (.customCall (SparseCore.inner (Pipeline.entry 0)) ())) Q := by
  refine call_step a P 0 n d κ _ _ Q fun Q' => ?_
  refine BIBase.Entails.trans ?_ (Pipeline.RegionSeg.wp (pcfgs (F := F)) a (routerDats V a n) none (cellOf_inj a) EP defs₀ 𝒱₀ (K (F := F)).L (K (F := F)).lev
    (segOf a (routerDats V a n) 0 n (launch0 (F := F)).to₀ rfl (fun c => (router_obligation V n c).loose) (fun _ _ => rfl) (fun _ _ => rfl) (router_inv V a n)
      (fun c => StableHlo.held (c.tc : Thread nD τ) (Pipeline.ucRefs τ sig) V) (fun c => StableHlo.held (c.tc : Thread nD τ) (Pipeline.ucRefs τ sig) (routerOut V))
      (fun c => Pipeline.unscopedRest spec0 c fun b => V (Proc.devRef .tc b))
      (fun c => ?_) (fun c => ?_)) d none (fun _ h => nomatch h) pure Q')
  · exact .rfl
  · rw [← Pipeline.unscopedBufs_held]
    exact Pipeline.arrays_of_unscopedBufs (p := 0) (pcfgs (F := F)) a (routerDats V a n) (launch0 (F := F)).win (launch0 (F := F)).arr_whole c
      ((routerDats V a n 0 c).share_full fun _ => rfl) _ fun _ => rfl
  · rw [← Pipeline.unscopedBufs_held]
    refine Pipeline.unscopedBufs_of_arrays (p := 0) (pcfgs (F := F)) a (launch0 (F := F)).win (launch0 (F := F)).arr_whole c
      (routerDats V a n) ((routerDats V a n 0 c).share_full fun _ => rfl) _ _ _ (fun w => ?_) (fun b hb => ?_)
    · fin_cases w
      · exact ((routerDat V n c).arrAt_in 0 rfl _).trans (routerOut_ne V (by decide) (by decide) (by decide)).symm
      · exact ((routerDat V n c).arrAt_in 1 rfl _).trans (routerOut_ne V (by decide) (by decide) (by decide)).symm
      · exact (router_arr2 V n c).trans (routerOut_logits V).symm
      · exact (router_arr3 V n c).trans (routerOut_comb V).symm
      · exact (router_arr4 V n c).trans (routerOut_pack V).symm
    · have hne : ∀ w : Fin 5, b ≠ Pipeline.arrRef spec0 w := fun w h => hb (Finset.mem_image.mpr ⟨w, Finset.mem_univ _, h.symm⟩)
      exact routerOut_ne V (fun h => hne 2 (Proc.devRef_injective _ h)) (fun h => hne 3 (Proc.devRef_injective _ h)) (fun h => hne 4 (Proc.devRef_injective _ h))

end Cert.Proof.Moe

end
-- ==== Proof.Chain.lean ====
/-
  The host program around the five calls: its operations as lists, and what each list leaves in the buffers that matter.
-/
module

public import proofs.«01_k».proof.Proof.Router
public import Idealize.ShloMosaic.Lib.StableHlo.RunHlo
public import Idealize.ShloMosaic.Lib.StableHlo.RunRead
public import Idealize.ShloMosaic.Lib.StableHlo.ReadAt

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat BodyObligation)

variable {F : FTy → Type} [FloatOps F]

/-- The operations of a row-wise argmax. -/
def argmaxOps (arg0 : StableHlo.TRef sig ⟨S2048x8, .f32⟩) (φ : fn_argmax.Bufs) : List (HloOp τ sig (Elt F)) :=
  [ StableHlo.TRef.nullary φ.v0 (iotaInDim S2048x8 32 1)
    , StableHlo.TRef.nullary φ.cst (constant S_ .f32 0xFF800000#32)
    , StableHlo.TRef.nullary φ.c (constantI S_ 32 0#32)
    , StableHlo.TRef.quaternary arg0 φ.v0 φ.cst φ.c φ.v1_0 (fun x y u v j => (Host.argReduce reducer_argmax_f32_i32 x y u v reducesTo_S2048x8_S2048_d1 h_S_ j).1)
    , StableHlo.TRef.quaternary arg0 φ.v0 φ.cst φ.c φ.v1_1 (fun x y u v j => (Host.argReduce reducer_argmax_f32_i32 x y u v reducesTo_S2048x8_S2048_d1 h_S_ j).2) ]

/-- The called function is the list run in order. -/
theorem argmaxOps_seq (arg0 : StableHlo.TRef sig ⟨S2048x8, .f32⟩) (φ : fn_argmax.Bufs) : fn_argmax.body (F := F) arg0 φ = StableHlo.seq (argmaxOps arg0 φ) := rfl

/-- The operations of a select with a scalar. -/
def whereOps (arg0 : StableHlo.TRef sig ⟨S2048x8, .i1⟩) (arg1 : StableHlo.TRef sig ⟨S_, .f32⟩) (arg2 : StableHlo.TRef sig ⟨S2048x8, .f32⟩) (φ : fn_where.Bufs) : List (HloOp τ sig (Elt F)) :=
  [ StableHlo.TRef.unary arg1 φ.v0 id
    , StableHlo.TRef.unary φ.v0 φ.v1 (broadcastInDim S2048x8 ![] bcast_S_S2048x8)
    , StableHlo.TRef.ternary arg0 φ.v1 arg2 φ.v2 select ]

/-- The called function is the list run in order. -/
theorem whereOps_seq (arg0 : StableHlo.TRef sig ⟨S2048x8, .i1⟩) (arg1 : StableHlo.TRef sig ⟨S_, .f32⟩) (arg2 : StableHlo.TRef sig ⟨S2048x8, .f32⟩) (φ : fn_where.Bufs) : fn_where.body (F := F) arg0 arg1 arg2 φ = StableHlo.seq (whereOps arg0 arg1 arg2 φ) := rfl

/-- The operations of the running sum down 4096 rows. -/
def cumOps (arg0 : StableHlo.TRef sig ⟨S4096x8, .i32⟩) (φ : fn_cumsum.Bufs) : List (HloOp τ sig (Elt F)) :=
  [ StableHlo.TRef.nullary φ.call0.c (constantI S_ 32 0#32)
    , StableHlo.TRef.unary φ.call0.c φ.call0.v0 (broadcastInDim S_ ![] bcast_S_S_)
    , StableHlo.TRef.binary arg0 φ.call0.v0 φ.call0.v1 (fun x v => Host.reduceWindow IntOp.addi ![4096, 1] ![1, 1] ![4095, 0] ![0, 0] x v reduceWindows_S4096x8_S4096x8_w4096s1p4095_0_w1s1p0_0 h_S_) ]

/-- The called function is the list run in order. -/
theorem cumOps_seq (arg0 : StableHlo.TRef sig ⟨S4096x8, .i32⟩) (φ : fn_cumsum.Bufs) : fn_cumsum.body (F := F) arg0 φ = StableHlo.seq (cumOps arg0 φ) := rfl

/-- The operations that take one entry of each row. -/
def takeOps (arg0 : StableHlo.TRef sig ⟨S4096x8, .i32⟩) (arg1 : StableHlo.TRef sig ⟨S4096x1, .i32⟩) (φ : fn_take_along_axis.Bufs) : List (HloOp τ sig (Elt F)) :=
  [ StableHlo.TRef.nullary φ.c (constantI S_ 32 0#32)
    , StableHlo.TRef.unary φ.c φ.v0 (broadcastInDim S4096x1 ![] bcast_S_S4096x1)
    , StableHlo.TRef.binary arg1 φ.v0 φ.v1 (cmpi .slt)
    , StableHlo.TRef.nullary φ.c_0 (constantI S_ 32 8#32)
    , StableHlo.TRef.unary φ.c_0 φ.v2 (broadcastInDim S4096x1 ![] bcast_S_S4096x1)
    , StableHlo.TRef.binary arg1 φ.v2 φ.v3 addi
    , StableHlo.TRef.ternary φ.v1 φ.v3 arg1 φ.v4 select
    , StableHlo.TRef.reshape φ.v4 φ.v5 (rfl : (.i32 : EltTy) = .i32) shapeCasts_S4096x1_S4096x1x1
    , StableHlo.TRef.nullary φ.c_1 (constantI S1 32 7#32)
    , StableHlo.TRef.nullary φ.c_2 (constantI S_ 32 0#32)
    , StableHlo.TRef.unary φ.c_2 φ.v6 (broadcastInDim S4096x1x1 ![] bcast_S_S4096x1x1)
    , StableHlo.TRef.binary φ.v5 φ.v6 φ.v7 (cmpi .sge)
    , StableHlo.TRef.unary φ.c_1 φ.v8 (broadcastInDim S1x1x1 ![2] bcast_S1_S1x1x1_2)
    , StableHlo.TRef.unary φ.v8 φ.v9 (broadcastInDim S4096x1x1 ![0, 1, 2] bcast_S1x1x1_S4096x1x1_0_1_2)
    , StableHlo.TRef.binary φ.v5 φ.v9 φ.v10 (cmpi .sle)
    , StableHlo.TRef.binary φ.v7 φ.v10 φ.v11 andi
    , StableHlo.TRef.nullary φ.c_3 (constantI S_ 1 1#1)
    , StableHlo.TRef.binary φ.v11 φ.c_3 φ.v12 (fun x v => Host.reduce IntOp.andi x v reducesTo_S4096x1x1_S4096x1_d2 h_S_)
    , StableHlo.TRef.binary arg0 φ.v5 φ.v13 (fun x i => Host.gather gather_S4096x8_S4096x1x1_S4096x1_n_1_0_0_1_2_11 x i)
    , StableHlo.TRef.nullary φ.c_4 (constantI S_ 32 2147483648#32)
    , StableHlo.TRef.unary φ.c_4 φ.v14 (broadcastInDim S4096x1 ![] bcast_S_S4096x1)
    , StableHlo.TRef.ternary φ.v12 φ.v13 φ.v14 φ.v15 select ]

/-- The called function is the list run in order. -/
theorem takeOps_seq (arg0 : StableHlo.TRef sig ⟨S4096x8, .i32⟩) (arg1 : StableHlo.TRef sig ⟨S4096x1, .i32⟩) (φ : fn_take_along_axis.Bufs) : fn_take_along_axis.body (F := F) arg0 arg1 φ = StableHlo.seq (takeOps arg0 arg1 φ) := rfl

/-- The operations of the floor division. -/
def divOps (arg0 : StableHlo.TRef sig ⟨S8, .i32⟩) (arg1 : StableHlo.TRef sig ⟨S_, .i32⟩) (φ : fn_floor_divide.Bufs) : List (HloOp τ sig (Elt F)) :=
  [ StableHlo.TRef.unary arg1 φ.v0 id
    , StableHlo.TRef.unary φ.v0 φ.v1 (broadcastInDim S8 ![] bcast_S_S8)
    , StableHlo.TRef.binary arg0 φ.v1 φ.v2 Host.divsi
    , StableHlo.TRef.unary arg0 φ.v3 signi
    , StableHlo.TRef.unary φ.v0 φ.v4 signi
    , StableHlo.TRef.unary φ.v4 φ.v5 (broadcastInDim S8 ![] bcast_S_S8)
    , StableHlo.TRef.binary φ.v3 φ.v5 φ.v6 (cmpi .ne)
    , StableHlo.TRef.unary φ.v0 φ.v7 (broadcastInDim S8 ![] bcast_S_S8)
    , StableHlo.TRef.binary arg0 φ.v7 φ.v8 Host.remsi
    , StableHlo.TRef.nullary φ.c (constantI S_ 32 0#32)
    , StableHlo.TRef.unary φ.c φ.v9 (broadcastInDim S8 ![] bcast_S_S8)
    , StableHlo.TRef.binary φ.v8 φ.v9 φ.v10 (cmpi .ne)
    , StableHlo.TRef.binary φ.v6 φ.v10 φ.v11 andi
    , StableHlo.TRef.nullary φ.c_0 (constantI S_ 32 1#32)
    , StableHlo.TRef.unary φ.c_0 φ.v12 (broadcastInDim S8 ![] bcast_S_S8)
    , StableHlo.TRef.binary φ.v2 φ.v12 φ.v13 subi
    , StableHlo.TRef.ternary φ.v11 φ.v13 φ.v2 φ.call0.v0 select ]

/-- The called function is the list run in order. -/
theorem divOps_seq (arg0 : StableHlo.TRef sig ⟨S8, .i32⟩) (arg1 : StableHlo.TRef sig ⟨S_, .i32⟩) (φ : fn_floor_divide.Bufs) : fn_floor_divide.body (F := F) arg0 arg1 φ = StableHlo.seq (divOps arg0 arg1 φ) := rfl

/-- The operations of the running sum of eight words. -/
def cum8Ops (arg0 : StableHlo.TRef sig ⟨S8, .i32⟩) (φ : fn_cumsum_2.Bufs) : List (HloOp τ sig (Elt F)) :=
  [ StableHlo.TRef.nullary φ.call0.c (constantI S_ 32 0#32)
    , StableHlo.TRef.unary φ.call0.c φ.call0.v0 (broadcastInDim S_ ![] bcast_S_S_)
    , StableHlo.TRef.binary arg0 φ.call0.v0 φ.call0.v1 (fun x v => Host.reduceWindow IntOp.addi ![8] ![1] ![7] ![0] x v reduceWindows_S8_S8_w8s1p7_0 h_S_) ]

/-- The called function is the list run in order. -/
theorem cum8Ops_seq (arg0 : StableHlo.TRef sig ⟨S8, .i32⟩) (φ : fn_cumsum_2.Bufs) : fn_cumsum_2.body (F := F) arg0 φ = StableHlo.seq (cum8Ops arg0 φ) := rfl

/-- The two best experts of each token, before they are listed. -/
def opsA0 : List (HloOp τ sig (Elt F)) :=
  [ StableHlo.nullary main_v2 (iotaInDim S8 32 0)
    , StableHlo.unary main_v2 main_v3 (broadcastInDim S1x8 ![1] bcast_S8_S1x8_1 : (⟨S8, .i32⟩ : BufTy).Contents (Elt F) → (⟨S1x8, .i32⟩ : BufTy).Contents (Elt F))
    , StableHlo.nullary main_cst (constant S_ .f32 0xFF800000#32)
    , StableHlo.binary main_v1_1 main_cst main_v4 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)) ]
  ++ argmaxOps (.of main_v1_1) main_call0
  ++ [ StableHlo.unary main_v5 main_v6 (broadcastInDim S2048x1 ![0] bcast_S2048_S2048x1_0 : (⟨S2048, .i32⟩ : BufTy).Contents (Elt F) → (⟨S2048x1, .i32⟩ : BufTy).Contents (Elt F))
    , StableHlo.unary main_v3 main_v7 (broadcastInDim S2048x8 ![0, 1] bcast_S1x8_S2048x8_0_1 : (⟨S1x8, .i32⟩ : BufTy).Contents (Elt F) → (⟨S2048x8, .i32⟩ : BufTy).Contents (Elt F))
    , StableHlo.unary main_v6 main_v8 (broadcastInDim S2048x8 ![0, 1] bcast_S2048x1_S2048x8_0_1 : (⟨S2048x1, .i32⟩ : BufTy).Contents (Elt F) → (⟨S2048x8, .i32⟩ : BufTy).Contents (Elt F))
    , StableHlo.binary main_v7 main_v8 main_v9 (cmpi .eq : (⟨S2048x8, .i32⟩ : BufTy).Contents (Elt F) → (⟨S2048x8, .i32⟩ : BufTy).Contents (Elt F) → (⟨S2048x8, .i1⟩ : BufTy).Contents (Elt F))
    , StableHlo.nullary main_cst_0 (constant S_ .f32 0xBF800000#32) ]
  ++ whereOps (.of main_v9) (.of main_cst_0) (.of main_v1_1) main_call1
  ++ [ StableHlo.nullary main_cst_1 (constant S_ .f32 0xFF800000#32)
    , StableHlo.binary main_v10 main_cst_1 main_v11 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F)) ]
  ++ argmaxOps (.of main_v10) main_call2

/-- The two best experts of each token. -/
def opsA : List (HloOp τ sig (Elt F)) :=
  opsA0 ++ [ StableHlo.binary main_v5 main_v12 main_v13 ((fun a b => concatenate S4096 0 [⟨S2048, a⟩, ⟨S2048, b⟩] concatenates_S2048_S2048_S4096_d0) : (⟨S2048, .i32⟩ : BufTy).Contents (Elt F) → (⟨S2048, .i32⟩ : BufTy).Contents (Elt F) → (⟨S4096, .i32⟩ : BufTy).Contents (Elt F)) ]

/-- Each assignment's place among its expert's, and each expert's number of assignments. -/
def opsB : List (HloOp τ sig (Elt F)) :=
  [ StableHlo.unary main_v13 main_v14 (broadcastInDim S4096x1 ![0] bcast_S4096_S4096x1_0 : (⟨S4096, .i32⟩ : BufTy).Contents (Elt F) → (⟨S4096x1, .i32⟩ : BufTy).Contents (Elt F))
    , StableHlo.unary main_v14 main_v15 (broadcastInDim S4096x8 ![0, 1] bcast_S4096x1_S4096x8_0_1 : (⟨S4096x1, .i32⟩ : BufTy).Contents (Elt F) → (⟨S4096x8, .i32⟩ : BufTy).Contents (Elt F))
    , StableHlo.unary main_v3 main_v16 (broadcastInDim S4096x8 ![0, 1] bcast_S1x8_S4096x8_0_1 : (⟨S1x8, .i32⟩ : BufTy).Contents (Elt F) → (⟨S4096x8, .i32⟩ : BufTy).Contents (Elt F))
    , StableHlo.binary main_v15 main_v16 main_v17 (cmpi .eq : (⟨S4096x8, .i32⟩ : BufTy).Contents (Elt F) → (⟨S4096x8, .i32⟩ : BufTy).Contents (Elt F) → (⟨S4096x8, .i1⟩ : BufTy).Contents (Elt F))
    , StableHlo.unary main_v17 main_v18 ((extui 32 · natLt_1_32) : (⟨S4096x8, .i1⟩ : BufTy).Contents (Elt F) → (⟨S4096x8, .i32⟩ : BufTy).Contents (Elt F)) ]
  ++ cumOps (.of main_v18) main_call3
  ++ [ StableHlo.unary main_v13 main_v20 (broadcastInDim S4096x1 ![0] bcast_S4096_S4096x1_0 : (⟨S4096, .i32⟩ : BufTy).Contents (Elt F) → (⟨S4096x1, .i32⟩ : BufTy).Contents (Elt F)) ]
  ++ takeOps (.of main_v19) (.of main_v20) main_call4
  ++ [ StableHlo.reshape main_v21 main_v22 (rfl : (.i32 : EltTy) = .i32) shapeCasts_S4096x1_S4096
    , StableHlo.nullary main_c (constantI S_ 32 1#32)
    , StableHlo.unary main_c main_v23 (broadcastInDim S4096 ![] bcast_S_S4096 : (⟨S_, .i32⟩ : BufTy).Contents (Elt F) → (⟨S4096, .i32⟩ : BufTy).Contents (Elt F))
    , StableHlo.binary main_v22 main_v23 main_v24 (subi : (⟨S4096, .i32⟩ : BufTy).Contents (Elt F) → (⟨S4096, .i32⟩ : BufTy).Contents (Elt F) → (⟨S4096, .i32⟩ : BufTy).Contents (Elt F))
    , StableHlo.unary main_v19 main_v25 ((extractStridedSlice S1x8 ![4095, 0] · slices_S4096x8_S1x8_4095_0) : (⟨S4096x8, .i32⟩ : BufTy).Contents (Elt F) → (⟨S1x8, .i32⟩ : BufTy).Contents (Elt F))
    , StableHlo.reshape main_v25 main_v26 (rfl : (.i32 : EltTy) = .i32) shapeCasts_S1x8_S8 ]

/-- How many blocks each expert needs, and the running sum of these. -/
def opsC0 : List (HloOp τ sig (Elt F)) :=
  [ StableHlo.nullary main_c_2 (constantI S_ 32 256#32)
    , StableHlo.unary main_c_2 main_v27 (broadcastInDim S8 ![] bcast_S_S8 : (⟨S_, .i32⟩ : BufTy).Contents (Elt F) → (⟨S8, .i32⟩ : BufTy).Contents (Elt F))
    , StableHlo.binary main_v26 main_v27 main_v28 (addi : (⟨S8, .i32⟩ : BufTy).Contents (Elt F) → (⟨S8, .i32⟩ : BufTy).Contents (Elt F) → (⟨S8, .i32⟩ : BufTy).Contents (Elt F))
    , StableHlo.nullary main_c_3 (constantI S_ 32 1#32)
    , StableHlo.unary main_c_3 main_v29 (broadcastInDim S8 ![] bcast_S_S8 : (⟨S_, .i32⟩ : BufTy).Contents (Elt F) → (⟨S8, .i32⟩ : BufTy).Contents (Elt F))
    , StableHlo.binary main_v28 main_v29 main_v30 (subi : (⟨S8, .i32⟩ : BufTy).Contents (Elt F) → (⟨S8, .i32⟩ : BufTy).Contents (Elt F) → (⟨S8, .i32⟩ : BufTy).Contents (Elt F))
    , StableHlo.nullary main_c_4 (constantI S_ 32 256#32) ]
  ++ divOps (.of main_v30) (.of main_c_4) main_call5
  ++ [ StableHlo.nullary main_c_5 (constantI S_ 32 0#32)
    , StableHlo.unary main_c_5 main_v32 (broadcastInDim S1 ![] bcast_S_S1 : (⟨S_, .i32⟩ : BufTy).Contents (Elt F) → (⟨S1, .i32⟩ : BufTy).Contents (Elt F)) ]
  ++ cum8Ops (.of main_v31) main_call6
  ++ [ StableHlo.unary main_v33 main_v34 ((extractStridedSlice S7 ![0] · slices_S8_S7_0) : (⟨S8, .i32⟩ : BufTy).Contents (Elt F) → (⟨S7, .i32⟩ : BufTy).Contents (Elt F)) ]

/-- How many blocks each expert needs, and where its blocks start. -/
def opsC : List (HloOp τ sig (Elt F)) :=
  opsC0 ++ [ StableHlo.binary main_v32 main_v34 main_v35 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)) ]

/-- Where each assignment's row goes. -/
def opsD : List (HloOp τ sig (Elt F)) :=
  [ StableHlo.nullary main_c_6 (constantI S_ 32 0#32)
    , StableHlo.unary main_c_6 main_v36 (broadcastInDim S4096 ![] bcast_S_S4096 : (⟨S_, .i32⟩ : BufTy).Contents (Elt F) → (⟨S4096, .i32⟩ : BufTy).Contents (Elt F))
    , StableHlo.binary main_v13 main_v36 main_v37 (cmpi .slt : (⟨S4096, .i32⟩ : BufTy).Contents (Elt F) → (⟨S4096, .i32⟩ : BufTy).Contents (Elt F) → (⟨S4096, .i1⟩ : BufTy).Contents (Elt F))
    , StableHlo.nullary main_c_7 (constantI S_ 32 8#32)
    , StableHlo.unary main_c_7 main_v38 (broadcastInDim S4096 ![] bcast_S_S4096 : (⟨S_, .i32⟩ : BufTy).Contents (Elt F) → (⟨S4096, .i32⟩ : BufTy).Contents (Elt F))
    , StableHlo.binary main_v13 main_v38 main_v39 (addi : (⟨S4096, .i32⟩ : BufTy).Contents (Elt F) → (⟨S4096, .i32⟩ : BufTy).Contents (Elt F) → (⟨S4096, .i32⟩ : BufTy).Contents (Elt F))
    , StableHlo.ternary main_v37 main_v39 main_v13 main_v40 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
    , StableHlo.unary main_v40 main_v41 (broadcastInDim S4096x1 ![0] bcast_S4096_S4096x1_0 : (⟨S4096, .i32⟩ : BufTy).Contents (Elt F) → (⟨S4096x1, .i32⟩ : BufTy).Contents (Elt F))
    , StableHlo.binary main_v35 main_v41 main_v42 ((fun x i => Host.gather gather_S8_S4096x1_S4096_n_0_n_n_0_1_1 x i) : (⟨S8, .i32⟩ : BufTy).Contents (Elt F) → (⟨S4096x1, .i32⟩ : BufTy).Contents (Elt F) → (⟨S4096, .i32⟩ : BufTy).Contents (Elt F))
    , StableHlo.nullary main_c_8 (constantI S_ 32 256#32)
    , StableHlo.unary main_c_8 main_v43 (broadcastInDim S4096 ![] bcast_S_S4096 : (⟨S_, .i32⟩ : BufTy).Contents (Elt F) → (⟨S4096, .i32⟩ : BufTy).Contents (Elt F))
    , StableHlo.binary main_v42 main_v43 main_v44 (muli : (⟨S4096, .i32⟩ : BufTy).Contents (Elt F) → (⟨S4096, .i32⟩ : BufTy).Contents (Elt F) → (⟨S4096, .i32⟩ : BufTy).Contents (Elt F))
    , StableHlo.binary main_v44 main_v24 main_v45 (addi : (⟨S4096, .i32⟩ : BufTy).Contents (Elt F) → (⟨S4096, .i32⟩ : BufTy).Contents (Elt F) → (⟨S4096, .i32⟩ : BufTy).Contents (Elt F))
    , StableHlo.binary main_v35 main_v31 main_v46 (addi : (⟨S8, .i32⟩ : BufTy).Contents (Elt F) → (⟨S8, .i32⟩ : BufTy).Contents (Elt F) → (⟨S8, .i32⟩ : BufTy).Contents (Elt F)) ]

/-- Which expert each block belongs to. -/
def opsE : List (HloOp τ sig (Elt F)) :=
  [ StableHlo.nullary main_v47 (iotaInDim S23 32 0)
    , StableHlo.unary main_v47 main_v48 (broadcastInDim S23x1 ![0] bcast_S23_S23x1_0 : (⟨S23, .i32⟩ : BufTy).Contents (Elt F) → (⟨S23x1, .i32⟩ : BufTy).Contents (Elt F))
    , StableHlo.unary main_v46 main_v49 (broadcastInDim S1x8 ![1] bcast_S8_S1x8_1 : (⟨S8, .i32⟩ : BufTy).Contents (Elt F) → (⟨S1x8, .i32⟩ : BufTy).Contents (Elt F))
    , StableHlo.unary main_v48 main_v50 (broadcastInDim S23x8 ![0, 1] bcast_S23x1_S23x8_0_1 : (⟨S23x1, .i32⟩ : BufTy).Contents (Elt F) → (⟨S23x8, .i32⟩ : BufTy).Contents (Elt F))
    , StableHlo.unary main_v49 main_v51 (broadcastInDim S23x8 ![0, 1] bcast_S1x8_S23x8_0_1 : (⟨S1x8, .i32⟩ : BufTy).Contents (Elt F) → (⟨S23x8, .i32⟩ : BufTy).Contents (Elt F))
    , StableHlo.binary main_v50 main_v51 main_v52 (cmpi .sge : (⟨S23x8, .i32⟩ : BufTy).Contents (Elt F) → (⟨S23x8, .i32⟩ : BufTy).Contents (Elt F) → (⟨S23x8, .i1⟩ : BufTy).Contents (Elt F))
    , StableHlo.unary main_v52 main_v53 ((extui 32 · natLt_1_32) : (⟨S23x8, .i1⟩ : BufTy).Contents (Elt F) → (⟨S23x8, .i32⟩ : BufTy).Contents (Elt F))
    , StableHlo.nullary main_c_9 (constantI S_ 32 0#32)
    , StableHlo.binary main_v53 main_c_9 main_v54 ((fun x v => Host.reduce IntOp.addi x v reducesTo_S23x8_S23_d1 h_S_) : (⟨S23x8, .i32⟩ : BufTy).Contents (Elt F) → (⟨S_, .i32⟩ : BufTy).Contents (Elt F) → (⟨S23, .i32⟩ : BufTy).Contents (Elt F))
    , StableHlo.nullary main_c_10 (constantI S_ 32 7#32)
    , StableHlo.unary main_c_10 main_v55 (broadcastInDim S23 ![] bcast_S_S23 : (⟨S_, .i32⟩ : BufTy).Contents (Elt F) → (⟨S23, .i32⟩ : BufTy).Contents (Elt F))
    , StableHlo.binary main_v54 main_v55 main_v56 (minsi : (⟨S23, .i32⟩ : BufTy).Contents (Elt F) → (⟨S23, .i32⟩ : BufTy).Contents (Elt F) → (⟨S23, .i32⟩ : BufTy).Contents (Elt F)) ]

/-- The tokens as rows. -/
def ops0 : List (HloOp τ sig (Elt F)) :=
  [ StableHlo.reshape main_arg0 main_v0 (rfl : (.f32 : EltTy) = .f32) shapeCasts_S1x2048x1024_S2048x1024 ]

/-- The table of blocks. -/
def ops2 : List (HloOp τ sig (Elt F)) :=
  [ StableHlo.unary main_v46 main_v58 ((extractStridedSlice S1 ![7] · slices_S8_S1_7) : (⟨S8, .i32⟩ : BufTy).Contents (Elt F) → (⟨S1, .i32⟩ : BufTy).Contents (Elt F))
    , StableHlo.binary main_v56 main_v58 main_v59 ((fun a b => concatenate S24 0 [⟨S23, a⟩, ⟨S1, b⟩] concatenates_S23_S1_S24_d0) : (⟨S23, .i32⟩ : BufTy).Contents (Elt F) → (⟨S1, .i32⟩ : BufTy).Contents (Elt F) → (⟨S24, .i32⟩ : BufTy).Contents (Elt F)) ]

/-- The arguments of the last call. -/
def ops3 : List (HloOp τ sig (Elt F)) :=
  [ StableHlo.reshape main_v61 main_v62 (rfl : (.f32 : EltTy) = .f32) shapeCasts_S4096x8x128_S2x2048x8x128
    , StableHlo.unary main_v4 main_v63 (broadcastInDim S2048x1 ![0] bcast_S2048_S2048x1_0 : (⟨S2048, .f32⟩ : BufTy).Contents (Elt F) → (⟨S2048x1, .f32⟩ : BufTy).Contents (Elt F))
    , StableHlo.unary main_v11 main_v64 (broadcastInDim S2048x1 ![0] bcast_S2048_S2048x1_0 : (⟨S2048, .f32⟩ : BufTy).Contents (Elt F) → (⟨S2048x1, .f32⟩ : BufTy).Contents (Elt F)) ]

/-- The results. -/
def ops4 : List (HloOp τ sig (Elt F)) :=
  [ StableHlo.reshape main_v65 main_v66 (rfl : (.f32 : EltTy) = .f32) shapeCasts_S2048x1024_S1x2048x1024
    , StableHlo.reshape main_v1_0 main_v67 (rfl : (.f32 : EltTy) = .f32) shapeCasts_S2048x8_S1x2048x8 ]

/-- The program between the calls. -/
theorem main_eq (d : Dev nD) : main (F := F) d = (StableHlo.seq ops0 >>= fun _ =>
    Prog.lift (.customCall (SparseCore.inner (Pipeline.entry 0)) ()) >>= fun _ => StableHlo.seq (opsA ++ (opsB ++ (opsC ++ (opsD ++ opsE)))) >>= fun _ =>
    sc.run d 0 >>= fun _ => StableHlo.seq ops2 >>= fun _ =>
    Prog.lift (.customCall (SparseCore.inner (Pipeline.entry 1)) ()) >>= fun _ => sc.run d 1 >>= fun _ => StableHlo.seq ops3 >>= fun _ =>
    Prog.lift (.customCall (SparseCore.inner (Pipeline.entry 2)) ()) >>= fun _ => StableHlo.seq ops4 >>= fun _ => pure ⟨⟩) := by
  simp only [main, main_part0, main_part1, argmaxOps_seq, whereOps_seq, cumOps_seq, takeOps_seq, divOps_seq, cum8Ops_seq,
    opsA, opsA0, opsB, opsC, opsC0, opsD, opsE, ops0, ops2, ops3, ops4, StableHlo.seq_append, bind_assoc, StableHlo.seq, pure_bind]

/-- The list's operations work on the TensorCore's buffers and allocate nothing. -/
theorem ops0_good : (ops0 : List (HloOp τ sig (Elt F))).Forall fun op => op.bufs ⊆ StableHlo.tcRefs τ sig ∧ op.fresh = ∅ := by
  simp only [ops0, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem opsA_good : (opsA : List (HloOp τ sig (Elt F))).Forall fun op => op.bufs ⊆ StableHlo.tcRefs τ sig ∧ op.fresh = ∅ := by
  simp only [opsA, opsA0, argmaxOps, whereOps, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem opsB_good : (opsB : List (HloOp τ sig (Elt F))).Forall fun op => op.bufs ⊆ StableHlo.tcRefs τ sig ∧ op.fresh = ∅ := by
  simp only [opsB, cumOps, takeOps, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem opsC_good : (opsC : List (HloOp τ sig (Elt F))).Forall fun op => op.bufs ⊆ StableHlo.tcRefs τ sig ∧ op.fresh = ∅ := by
  simp only [opsC, opsC0, divOps, cum8Ops, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem opsD_good : (opsD : List (HloOp τ sig (Elt F))).Forall fun op => op.bufs ⊆ StableHlo.tcRefs τ sig ∧ op.fresh = ∅ := by
  simp only [opsD, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem opsE_good : (opsE : List (HloOp τ sig (Elt F))).Forall fun op => op.bufs ⊆ StableHlo.tcRefs τ sig ∧ op.fresh = ∅ := by
  simp only [opsE, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem ops2_good : (ops2 : List (HloOp τ sig (Elt F))).Forall fun op => op.bufs ⊆ StableHlo.tcRefs τ sig ∧ op.fresh = ∅ := by
  simp only [ops2, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem ops3_good : (ops3 : List (HloOp τ sig (Elt F))).Forall fun op => op.bufs ⊆ StableHlo.tcRefs τ sig ∧ op.fresh = ∅ := by
  simp only [ops3, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

/-- The list's operations work on the TensorCore's buffers and allocate nothing. -/
theorem ops4_good : (ops4 : List (HloOp τ sig (Elt F))).Forall fun op => op.bufs ⊆ StableHlo.tcRefs τ sig ∧ op.fresh = ∅ := by
  simp only [ops4, List.forall_append, List.forall_cons, List.Forall, List.cons_append, List.nil_append]
  repeat' apply And.intro
  all_goals first | trivial | with_reducible rfl | with_reducible exact StableHlo.nullary_bufs_sub .. | with_reducible exact StableHlo.unary_bufs_sub .. | with_reducible exact StableHlo.binary_bufs_sub .. | with_reducible exact StableHlo.ternary_bufs_sub .. | with_reducible exact StableHlo.quaternary_bufs_sub .. | with_reducible exact StableHlo.reshape_bufs_sub .. | rfl

end Cert.Proof.Moe

end
-- ==== Proof.ChainRead.lean ====
/-
  What the host program leaves in the buffers that matter, as functions of what it reads.
-/
module

public import proofs.«01_k».proof.Proof.Chain
public import Idealize.ShloMosaic.Lib.StableHlo.RunHlo
public import Idealize.ShloMosaic.Lib.StableHlo.RunRead
public import Idealize.ShloMosaic.Lib.StableHlo.ReadAt

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat BodyObligation)

variable {F : FTy → Type} [FloatOps F]

/-! ### What the lists leave -/

/-- A row's largest entry. -/
def maxOf (p : S2048x8.Idx → Elt F .f32) : S2048.Idx → Elt F .f32 :=
  Host.reduce FloatOps.maximumf p (constant S_ .f32 0xFF800000#32) reducesTo_S2048x8_S2048_d1 h_S_

/-- The place of a row's largest entry. -/
def argOf (p : S2048x8.Idx → Elt F .f32) : S2048.Idx → BitVec 32 := fun j =>
  (Host.argReduce reducer_argmax_f32_i32 p (iotaInDim S2048x8 32 1) (constant S_ .f32 0xFF800000#32) (constantI S_ 32 0#32)
    reducesTo_S2048x8_S2048_d1 h_S_ j).2

/-- The experts' numbers as one row. -/
def eRow : IVec S1x8 32 := broadcastInDim S1x8 ![1] bcast_S8_S1x8_1 (iotaInDim S8 32 0)

/-- The rows with the entry at a place replaced by −1. -/
def offOf (p : S2048x8.Idx → Elt F .f32) (e : S2048.Idx → BitVec 32) : S2048x8.Idx → Elt F .f32 :=
  select (cmpi .eq (broadcastInDim S2048x8 ![0, 1] bcast_S1x8_S2048x8_0_1 eRow)
      (broadcastInDim S2048x8 ![0, 1] bcast_S2048x1_S2048x8_0_1 (broadcastInDim S2048x1 ![0] bcast_S2048_S2048x1_0 e)))
    (broadcastInDim S2048x8 ![] bcast_S_S2048x8 (constant S_ .f32 0xBF800000#32)) p

/-- The assignments: each token's first expert, then each token's second. -/
def flatOf (e1 e2 : S2048.Idx → BitVec 32) : IVec S4096 32 :=
  concatenate S4096 0 [⟨S2048, e1⟩, ⟨S2048, e2⟩] concatenates_S2048_S2048_S4096_d0

/-- Whether an assignment is to an expert. -/
def hotOf (fl : IVec S4096 32) : IVec S4096x8 32 :=
  extui 32 (cmpi .eq (broadcastInDim S4096x8 ![0, 1] bcast_S4096x1_S4096x8_0_1 (broadcastInDim S4096x1 ![0] bcast_S4096_S4096x1_0 fl))
    (broadcastInDim S4096x8 ![0, 1] bcast_S1x8_S4096x8_0_1 eRow)) natLt_1_32

/-- How many assignments up to one are to an expert. -/
def cumOf (h : IVec S4096x8 32) : IVec S4096x8 32 :=
  Host.reduceWindow IntOp.addi ![4096, 1] ![1, 1] ![4095, 0] ![0, 0] h (broadcastInDim S_ ![] bcast_S_S_ (constantI S_ 32 0#32))
    reduceWindows_S4096x8_S4096x8_w4096s1p4095_0_w1s1p0_0 h_S_

/-- An index, counted from the end when it is negative. -/
def wrapIx (ix : IVec S4096x1 32) : IVec S4096x1x1 32 :=
  shapeCast S4096x1x1 (select (cmpi .slt ix (broadcastInDim S4096x1 ![] bcast_S_S4096x1 (constantI S_ 32 0#32)))
    (addi ix (broadcastInDim S4096x1 ![] bcast_S_S4096x1 (constantI S_ 32 8#32))) ix) shapeCasts_S4096x1_S4096x1x1

/-- One entry of each row. -/
def takeOf (x : IVec S4096x8 32) (ix : IVec S4096x1 32) : IVec S4096x1 32 :=
  select (Host.reduce IntOp.andi (andi (cmpi .sge (wrapIx ix) (broadcastInDim S4096x1x1 ![] bcast_S_S4096x1x1 (constantI S_ 32 0#32)))
        (cmpi .sle (wrapIx ix) (broadcastInDim S4096x1x1 ![0, 1, 2] bcast_S1x1x1_S4096x1x1_0_1_2
          (broadcastInDim S1x1x1 ![2] bcast_S1_S1x1x1_2 (constantI S1 32 7#32)))))
      (constantI S_ 1 1#1) reducesTo_S4096x1x1_S4096x1_d2 h_S_)
    (Host.gather gather_S4096x8_S4096x1x1_S4096x1_n_1_0_0_1_2_11 x (wrapIx ix))
    (broadcastInDim S4096x1 ![] bcast_S_S4096x1 (constantI S_ 32 2147483648#32))

/-- An assignment's place among those to its expert. -/
def rankOf (fl : IVec S4096 32) : IVec S4096 32 :=
  subi (shapeCast S4096 (takeOf (cumOf (hotOf fl)) (broadcastInDim S4096x1 ![0] bcast_S4096_S4096x1_0 fl)) shapeCasts_S4096x1_S4096)
    (broadcastInDim S4096 ![] bcast_S_S4096 (constantI S_ 32 1#32))

/-- The number of assignments to each expert. -/
def cntOf (fl : IVec S4096 32) : IVec S8 32 :=
  shapeCast S8 (extractStridedSlice S1x8 ![4095, 0] (cumOf (hotOf fl)) slices_S4096x8_S1x8_4095_0) shapeCasts_S1x8_S8

/-- The floor of a quotient of words. -/
def fdivOf (x : IVec S8 32) (n : IVec S_ 32) : IVec S8 32 :=
  select (andi (cmpi .ne (signi x) (broadcastInDim S8 ![] bcast_S_S8 (signi n)))
      (cmpi .ne (Host.remsi x (broadcastInDim S8 ![] bcast_S_S8 n)) (broadcastInDim S8 ![] bcast_S_S8 (constantI S_ 32 0#32))))
    (subi (Host.divsi x (broadcastInDim S8 ![] bcast_S_S8 n)) (broadcastInDim S8 ![] bcast_S_S8 (constantI S_ 32 1#32)))
    (Host.divsi x (broadcastInDim S8 ![] bcast_S_S8 n))

/-- How many blocks of 256 rows an expert's assignments need. -/
def blkOf (cnt : IVec S8 32) : IVec S8 32 :=
  fdivOf (subi (addi cnt (broadcastInDim S8 ![] bcast_S_S8 (constantI S_ 32 256#32))) (broadcastInDim S8 ![] bcast_S_S8 (constantI S_ 32 1#32)))
    (constantI S_ 32 256#32)

/-- The running sum of eight words. -/
def cum8Of (x : IVec S8 32) : IVec S8 32 :=
  Host.reduceWindow IntOp.addi ![8] ![1] ![7] ![0] x (broadcastInDim S_ ![] bcast_S_S_ (constantI S_ 32 0#32)) reduceWindows_S8_S8_w8s1p7_0 h_S_

/-- The first block of each expert. -/
def startOf (blk : IVec S8 32) : IVec S8 32 :=
  concatenate S8 0 [⟨S1, (broadcastInDim S1 ![] bcast_S_S1 (constantI S_ 32 0#32) : IVec S1 32)⟩,
    ⟨S7, extractStridedSlice S7 ![0] (cum8Of blk) slices_S8_S7_0⟩] concatenates_S1_S7_S8_d0

/-- The row of each assignment. -/
def destAt (fl : IVec S4096 32) (start : IVec S8 32) (rank : IVec S4096 32) : IVec S4096 32 :=
  addi (muli (Host.gather gather_S8_S4096x1_S4096_n_0_n_n_0_1_1 start (broadcastInDim S4096x1 ![0] bcast_S4096_S4096x1_0
      (select (cmpi .slt fl (broadcastInDim S4096 ![] bcast_S_S4096 (constantI S_ 32 0#32)))
        (addi fl (broadcastInDim S4096 ![] bcast_S_S4096 (constantI S_ 32 8#32))) fl)))
    (broadcastInDim S4096 ![] bcast_S_S4096 (constantI S_ 32 256#32))) rank

/-- The expert of each block. -/
def beOf (fin : IVec S8 32) : IVec S23 32 :=
  minsi (Host.reduce IntOp.addi (extui 32 (cmpi .sge
      (broadcastInDim S23x8 ![0, 1] bcast_S23x1_S23x8_0_1 (broadcastInDim S23x1 ![0] bcast_S23_S23x1_0 (iotaInDim S23 32 0)))
      (broadcastInDim S23x8 ![0, 1] bcast_S1x8_S23x8_0_1 (broadcastInDim S1x8 ![1] bcast_S8_S1x8_1 fin))) natLt_1_32)
    (constantI S_ 32 0#32) reducesTo_S23x8_S23_d1 h_S_) (broadcastInDim S23 ![] bcast_S_S23 (constantI S_ 32 7#32))

/-- The table that the grouped call prefetches. -/
def tblOf (be : IVec S23 32) (fin : IVec S8 32) : IVec S24 32 :=
  concatenate S24 0 [⟨S23, be⟩, ⟨S1, extractStridedSlice S1 ![7] fin slices_S8_S1_7⟩] concatenates_S23_S1_S24_d0

/-- Two lists one after the other. -/
theorem after_app (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

section Reads

variable (V : Valuation τ sig (Elt F))

/-- The tokens as rows. -/
theorem r0_v0 : StableHlo.after ops0 V (Proc.devRef .tc main_v0) = shapeCast S2048x1024 (V (Proc.devRef .tc main_arg0)) shapeCasts_S1x2048x1024_S2048x1024 := by
  unfold ops0; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The experts' numbers. -/
theorem rA_v3 : StableHlo.after opsA V (Proc.devRef .tc main_v3) = eRow := by
  unfold opsA opsA0 argmaxOps whereOps; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The first weights. -/
theorem rA_v4 : StableHlo.after opsA V (Proc.devRef .tc main_v4) = maxOf (V (Proc.devRef .tc main_v1_1)) := by
  unfold opsA opsA0 argmaxOps whereOps; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The first experts. -/
theorem rA_v5 : StableHlo.after opsA V (Proc.devRef .tc main_v5) = argOf (V (Proc.devRef .tc main_v1_1)) := by
  unfold opsA opsA0 argmaxOps whereOps; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The second weights. -/
theorem rA_v11 : StableHlo.after opsA V (Proc.devRef .tc main_v11) = maxOf (offOf (V (Proc.devRef .tc main_v1_1)) (argOf (V (Proc.devRef .tc main_v1_1)))) := by
  unfold opsA opsA0 argmaxOps whereOps; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The second experts. -/
theorem rA_v12 : StableHlo.after opsA V (Proc.devRef .tc main_v12) = argOf (offOf (V (Proc.devRef .tc main_v1_1)) (argOf (V (Proc.devRef .tc main_v1_1)))) := by
  unfold opsA opsA0 argmaxOps whereOps; after_reads_simp
  try simp -implicitDefEqProofs only [StableHlo.TRef.toBuf, StableHlo.TRef.ofBuf, cast_cast, cast_eq, id]
  try simp -implicitDefEqProofs only [argOf, offOf, eRow]
  try rfl

/-- The assignments. -/
theorem rA_v13 : StableHlo.after opsA V (Proc.devRef .tc main_v13) = flatOf (argOf (V (Proc.devRef .tc main_v1_1))) (argOf (offOf (V (Proc.devRef .tc main_v1_1)) (argOf (V (Proc.devRef .tc main_v1_1))))) := by
  rw [← rA_v12 V, ← rA_v5 V]
  unfold opsA
  rw [after_app]
  generalize StableHlo.after opsA0 V = V'
  after_reads_simp
  rfl

/-- The places. -/
theorem rB_v24 (h3 : V (Proc.devRef .tc main_v3) = eRow) : StableHlo.after opsB V (Proc.devRef .tc main_v24) = rankOf (V (Proc.devRef .tc main_v13)) := by
  unfold opsB cumOps takeOps; after_reads_simp
  try simp -implicitDefEqProofs only [StableHlo.TRef.toBuf, StableHlo.TRef.ofBuf, cast_cast, cast_eq, id, h3]
  try simp -implicitDefEqProofs only [maxOf, argOf, offOf, flatOf, hotOf, cumOf, wrapIx, takeOf, rankOf, cntOf, fdivOf, blkOf, cum8Of, startOf, destAt, beOf, tblOf]
  try rfl

/-- The counts. -/
theorem rB_v26 (h3 : V (Proc.devRef .tc main_v3) = eRow) : StableHlo.after opsB V (Proc.devRef .tc main_v26) = cntOf (V (Proc.devRef .tc main_v13)) := by
  unfold opsB cumOps takeOps; after_reads_simp
  try simp -implicitDefEqProofs only [StableHlo.TRef.toBuf, StableHlo.TRef.ofBuf, cast_cast, cast_eq, id, h3]
  try simp -implicitDefEqProofs only [maxOf, argOf, offOf, flatOf, hotOf, cumOf, wrapIx, takeOf, rankOf, cntOf, fdivOf, blkOf, cum8Of, startOf, destAt, beOf, tblOf]
  try rfl

/-- The numbers of blocks. -/
theorem rC_v31 : StableHlo.after opsC V (Proc.devRef .tc main_v31) = blkOf (V (Proc.devRef .tc main_v26)) := by
  unfold opsC opsC0 divOps cum8Ops; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The running sum of the numbers of blocks. -/
theorem rC_v33 : StableHlo.after opsC V (Proc.devRef .tc main_v33) = cum8Of (blkOf (V (Proc.devRef .tc main_v26))) := by
  unfold opsC opsC0 divOps cum8Ops; after_reads_simp
  try simp -implicitDefEqProofs only [StableHlo.TRef.toBuf, StableHlo.TRef.ofBuf, cast_cast, cast_eq, id]
  try simp -implicitDefEqProofs only [fdivOf, blkOf, cum8Of]
  try rfl

/-- The first of the starts. -/
theorem rC_v32 : StableHlo.after opsC V (Proc.devRef .tc main_v32) = (broadcastInDim S1 ![] bcast_S_S1 (constantI S_ 32 0#32) : IVec S1 32) := by
  unfold opsC opsC0 divOps cum8Ops; after_reads_simp

/-- The other starts. -/
theorem rC_v34 : StableHlo.after opsC V (Proc.devRef .tc main_v34) = extractStridedSlice S7 ![0] (cum8Of (blkOf (V (Proc.devRef .tc main_v26)))) slices_S8_S7_0 := by
  rw [← rC_v33 V]
  unfold opsC opsC0 divOps cum8Ops; after_reads_simp
  try rfl

/-- The first blocks. -/
theorem rC_v35 : StableHlo.after opsC V (Proc.devRef .tc main_v35) = startOf (blkOf (V (Proc.devRef .tc main_v26))) := by
  unfold startOf
  rw [← rC_v34 V, ← rC_v32 V]
  unfold opsC
  rw [after_app]
  generalize StableHlo.after opsC0 V = V'
  after_reads_simp
  rfl

/-- The rows. -/
theorem rD_v45 : StableHlo.after opsD V (Proc.devRef .tc main_v45) = destAt (V (Proc.devRef .tc main_v13)) (V (Proc.devRef .tc main_v35)) (V (Proc.devRef .tc main_v24)) := by
  unfold opsD; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The ends. -/
theorem rD_v46 : StableHlo.after opsD V (Proc.devRef .tc main_v46) = addi (V (Proc.devRef .tc main_v35)) (V (Proc.devRef .tc main_v31)) := by
  unfold opsD; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The experts of the blocks. -/
theorem rE_v56 : StableHlo.after opsE V (Proc.devRef .tc main_v56) = beOf (V (Proc.devRef .tc main_v46)) := by
  unfold opsE; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The table. -/
theorem r2_v59 : StableHlo.after ops2 V (Proc.devRef .tc main_v59) = tblOf (V (Proc.devRef .tc main_v56)) (V (Proc.devRef .tc main_v46)) := by
  unfold ops2; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The gathered rows. -/
theorem r3_v62 : StableHlo.after ops3 V (Proc.devRef .tc main_v62) = shapeCast S2x2048x8x128 (V (Proc.devRef .tc main_v61)) shapeCasts_S4096x8x128_S2x2048x8x128 := by
  unfold ops3; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The first weights as a column. -/
theorem r3_v63 : StableHlo.after ops3 V (Proc.devRef .tc main_v63) = broadcastInDim S2048x1 ![0] bcast_S2048_S2048x1_0 (V (Proc.devRef .tc main_v4)) := by
  unfold ops3; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The second weights as a column. -/
theorem r3_v64 : StableHlo.after ops3 V (Proc.devRef .tc main_v64) = broadcastInDim S2048x1 ![0] bcast_S2048_S2048x1_0 (V (Proc.devRef .tc main_v11)) := by
  unfold ops3; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The first result. -/
theorem r4_v66 : StableHlo.after ops4 V (Proc.devRef .tc main_v66) = shapeCast S1x2048x1024 (V (Proc.devRef .tc main_v65)) shapeCasts_S2048x1024_S1x2048x1024 := by
  unfold ops4; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

/-- The second result. -/
theorem r4_v67 : StableHlo.after ops4 V (Proc.devRef .tc main_v67) = shapeCast S1x2048x8 (V (Proc.devRef .tc main_v1_0)) shapeCasts_S2048x8_S1x2048x8 := by
  unfold ops4; after_reads_simp
  try simp -implicitDefEqProofs only [StableHlo.TRef.toBuf, StableHlo.TRef.ofBuf, cast_cast, cast_eq, id]
  try simp -implicitDefEqProofs only [maxOf, argOf, offOf, eRow, flatOf, hotOf, cumOf, wrapIx, takeOf, rankOf, cntOf, fdivOf, blkOf, cum8Of, startOf, destAt, beOf, tblOf]
  try rfl

end Reads

end Cert.Proof.Moe

end
-- ==== Proof.Kept.lean ====
/-
  What the host lists leave as it was.
-/
module

public import proofs.«01_k».proof.Proof.ChainRead

@[expose] public section

set_option backward.isDefEq.respectTransparency.types false

noncomputable section

namespace Cert.Proof.Moe

open Cert.KernelIdeal Cert.KernelIdeal.Gen
open Idealize.ShloMosaic

variable {F : FTy → Type} [FloatOps F]

/-- The second contents are the first on the references of a list. -/
def Kept (l : List (Ref sig .tc)) (V V' : Valuation τ sig (Elt F)) : Prop := ∀ r ∈ l, V' (Proc.devRef .tc r) = V (Proc.devRef .tc r)

/-- The arguments, the logits and the packed tokens. -/
abbrev keep0 : List (Ref sig .tc) := [main_arg0, main_arg1, main_arg2, main_arg3, main_arg4, main_v1_0, main_v1_2]

variable (V : Valuation τ sig (Elt F))

/-- What the list keeps. -/
theorem ops0_kept : Kept keep0 V (StableHlo.after ops0 V) := by
  intro r hr
  simp only [keep0, List.cons_append, List.nil_append, List.mem_cons, List.not_mem_nil, or_false] at hr
  unfold ops0
  rcases hr with rfl | rfl | rfl | rfl | rfl | rfl | rfl <;> after_reads_simp

/-- What the list keeps. -/
theorem opsA_kept : Kept keep0 V (StableHlo.after opsA V) := by
  intro r hr
  simp only [keep0, List.cons_append, List.nil_append, List.mem_cons, List.not_mem_nil, or_false] at hr
  unfold opsA opsA0 argmaxOps whereOps
  rcases hr with rfl | rfl | rfl | rfl | rfl | rfl | rfl <;> after_reads_simp

/-- What the list keeps. -/
theorem opsB_kept : Kept (keep0 ++ [main_v4, main_v11, main_v13]) V (StableHlo.after opsB V) := by
  intro r hr
  simp only [keep0, List.cons_append, List.nil_append, List.mem_cons, List.not_mem_nil, or_false] at hr
  unfold opsB cumOps takeOps
  rcases hr with rfl | rfl | rfl | rfl | rfl | rfl | rfl | rfl | rfl | rfl <;> after_reads_simp

/-- What the list keeps. -/
theorem opsC_kept : Kept (keep0 ++ [main_v4, main_v11, main_v13, main_v24]) V (StableHlo.after opsC V) := by
  intro r hr
  simp only [keep0, List.cons_append, List.nil_append, List.mem_cons, List.not_mem_nil, or_false] at hr
  unfold opsC opsC0 divOps cum8Ops
  rcases hr with rfl | rfl | rfl | rfl | rfl | rfl | rfl | rfl | rfl | rfl | rfl <;> after_reads_simp

/-- What the list keeps. -/
theorem opsD_kept : Kept (keep0 ++ [main_v4, main_v11]) V (StableHlo.after opsD V) := by
  intro r hr
  simp only [keep0, List.cons_append, List.nil_append, List.mem_cons, List.not_mem_nil, or_false] at hr
  unfold opsD
  rcases hr with rfl | rfl | rfl | rfl | rfl | rfl | rfl | rfl | rfl <;> after_reads_simp

/-- What the list keeps. -/
theorem opsE_kept : Kept (keep0 ++ [main_v4, main_v11, main_v45, main_v46]) V (StableHlo.after opsE V) := by
  intro r hr
  simp only [keep0, List.cons_append, List.nil_append, List.mem_cons, List.not_mem_nil, or_false] at hr
  unfold opsE
  rcases hr with rfl | rfl | rfl | rfl | rfl | rfl | rfl | rfl | rfl | rfl | rfl <;> after_reads_simp

/-- What the list keeps. -/
theorem ops2_kept : Kept (keep0 ++ [main_v4, main_v11, main_v45, main_v57]) V (StableHlo.after ops2 V) := by
  intro r hr
  simp only [keep0, List.cons_append, List.nil_append, List.mem_cons, List.not_mem_nil, or_false] at hr
  unfold ops2
  rcases hr with rfl | rfl | rfl | rfl | rfl | rfl | rfl | rfl | rfl | rfl | rfl <;> after_reads_simp

/-- What the list keeps. -/
theorem ops3_kept : Kept keep0 V (StableHlo.after ops3 V) := by
  intro r hr
  simp only [keep0, List.cons_append, List.nil_append, List.mem_cons, List.not_mem_nil, or_false] at hr
  unfold ops3
  rcases hr with rfl | rfl | rfl | rfl | rfl | rfl | rfl <;> after_reads_simp

/-- What the list keeps. -/
theorem ops4_kept : Kept keep0 V (StableHlo.after ops4 V) := by
  intro r hr
  simp only [keep0, List.cons_append, List.nil_append, List.mem_cons, List.not_mem_nil, or_false] at hr
  unfold ops4
  rcases hr with rfl | rfl | rfl | rfl | rfl | rfl | rfl <;> after_reads_simp

end Cert.Proof.Moe

end
-- ==== Proof.ScValues.lean ====
/-
  The values of the scatter: which elements of the sorted array a stream's named rows are, and what it leaves there.
-/
module

public import proofs.«01_k».proof.Proof.Setup

@[expose] public section

set_option backward.isDefEq.respectTransparency.types false

noncomputable section

namespace Cert.Proof.Moe

open Cert.KernelIdeal Cert.KernelIdeal.Gen

open Idealize.ShloMosaic
open Idealize.ShloMosaic.SparseCore (S V)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueIdx

variable {F : FTy → Type} [FloatOps F]

/-- What the slots the router assigns must be: rows of the sorted array, no two assignments at one. -/
structure DestOk (dest : S4096.Idx → BitVec 32) : Prop where
  lt : ∀ a, (dest a).toNat < 5888
  inj : Function.Injective fun a => (dest a).toNat

/-- The rows of `[:, o : o + 2, :]` that chunk `r` of tile `(c, s)` fills. -/
def SX (dest : S4096.Idx → BitVec 32) (c : Fin 2) (s : Fin 16) (r : Fin 2) (o : ℕ) : Finset S5888x8x128.Idx :=
  open scoped Classical in
  Finset.univ.filter fun x => (o ≤ (x 1).val ∧ (x 1).val < o + 2) ∧ ∃ k : Fin 64,
    (dest (asg (cbase c s r + k.val) (by have := cbase_le c s r; have := k.isLt; omega))).toNat = (x 0).val

/-- The places that a piece of the scatter writes. -/
theorem mem_SX {dest : S4096.Idx → BitVec 32} {c : Fin 2} {s : Fin 16} {r : Fin 2} {o : ℕ} {x : S5888x8x128.Idx} :
    x ∈ SX dest c s r o ↔ (o ≤ (x 1).val ∧ (x 1).val < o + 2) ∧ ∃ k : Fin 64,
      (dest (asg (cbase c s r + k.val) (by have := cbase_le c s r; have := k.isLt; omega))).toNat = (x 0).val := by
  classical
  unfold SX; simp only [Finset.mem_filter, Finset.mem_univ, true_and]

/-- The token of assignment `a`: the assignments are the tokens' first choices, then their second. -/
def tokOf (a : S4096.Idx) : Fin 2048 := ⟨(a 0).val % 2048, Nat.mod_lt _ (by norm_num)⟩

/-- The sorted array: at an assigned slot the assignment's token, elsewhere what was there. -/
def scatVal {E : Type} (dest : S4096.Idx → BitVec 32) (xp : S2048x8x128.Idx → E) (f0 : S5888x8x128.Idx → E) : S5888x8x128.Idx → E :=
  open scoped Classical in
  fun x => if h : ∃ a, (dest a).toNat = (x 0).val then xp (ix3 (tokOf h.choose) (x 1) (x 2)) else f0 x

/-- At an assignment’s row lies its token. -/
theorem scatVal_of_dest {E : Type} {dest : S4096.Idx → BitVec 32} (hd : DestOk dest) (xp : S2048x8x128.Idx → E) (f0 : S5888x8x128.Idx → E)
    (x : S5888x8x128.Idx) (a : S4096.Idx) (h : (dest a).toNat = (x 0).val) : scatVal dest xp f0 x = xp (ix3 (tokOf a) (x 1) (x 2)) := by
  have hex : ∃ a, (dest a).toNat = (x 0).val := ⟨a, h⟩
  unfold scatVal
  rw [dif_pos hex, hd.inj (show (dest hex.choose).toNat = (dest a).toNat from hex.choose_spec.trans h.symm)]

section Slab

variable (c : Fin 2) (s : Fin 16) (r : Fin 2) (dest : S4096.Idx → BitVec 32)

abbrev xsM : Memref sig .scVector .hbm S5888x8x128 .f32 := Memref.whole main_v57_scv
abbrev rowsM : Memref sig .scVector .vmem S64x8x128 .f32 := Memref.whole cc1_scratch1
abbrev idxM : Memref sig .scVector .vmem S64 .i32 := Memref.whole cc1_scratch0

/-- The rows the chunk's list names. -/
abbrev listRows (l : S64.Idx → BitVec 32) (hin : ∀ x, (l x).toNat < S5888x2x128.size gathers_S5888x2x128_S64x2x128.axis) :
    Fin (S64x2x128.size gathers_S5888x2x128_S64x2x128.axis') → Fin (S5888x2x128.size gathers_S5888x2x128_S64x2x128.axis) :=
  SparseCore.rows (F := F) l rfl hin

/-- The row that an entry of the list names. -/
theorem listRows_val (l : S64.Idx → BitVec 32) (hin) (k : Fin 64) : (listRows (F := F) l hin k).val = (l (ix1 k)).toNat := by
  show (l (S64.rowMajor.symm (k.cast _))).toNat = _
  have : S64.rowMajor.symm (k.cast rfl) = (ix1 k : S64.Idx) := by
    rw [Equiv.symm_apply_eq]; apply Fin.ext; rw [Shape.rowMajor_val_one]; rfl
  exact congrArg (fun z => (l z).toNat) this

/-- The list's words name distinct rows. -/
theorem listRows_inj (hd : DestOk dest) (l : S64.Idx → BitVec 32)
    (hl : ∀ k : Fin 64, l (ix1 k) = dest (asg (cbase c s r + k.val) (by have := cbase_le c s r; have := k.isLt; omega))) (hin) :
    Function.Injective (listRows (F := F) l hin) := by
  intro k k' h
  have h' := congrArg Fin.val h
  rw [listRows_val (F := F) l hin k, listRows_val (F := F) l hin k', hl, hl] at h'
  have := congrFun (hd.inj h') 0
  have := congrArg Fin.val this
  apply Fin.ext
  have : cbase c s r + k.val = cbase c s r + k'.val := this
  omega

/-- Where a row of a rectangle lies: the named row on the indexed axis, the row's own coordinates on the others. -/
theorem rowRect_emb_val (sh : Shape) (ax : Fin sh.rank) (k : Fin (sh.size ax)) (y : (sh.rowShape ax).Idx) (a : Fin sh.rank) :
    ((sh.rowRect ax k).emb y a).val = (if a = ax then k.val else 0) + (y a).val := by
  show (if a = ax then k.val else 0) + 1 * (y a).val = _
  rw [one_mul]

/-- A row’s index on the row axis. -/
theorem rowRect_emb_axis (sh : Shape) (ax : Fin sh.rank) (k : Fin (sh.size ax)) (y : (sh.rowShape ax).Idx) (a : Fin sh.rank) (h : a = ax) :
    ((sh.rowRect ax k).emb y a).val = k.val + (y a).val := by rw [rowRect_emb_val, if_pos h]

/-- A row’s index on the other axes. -/
theorem rowRect_emb_ne (sh : Shape) (ax : Fin sh.rank) (k : Fin (sh.size ax)) (y : (sh.rowShape ax).Idx) (a : Fin sh.rank) (h : a ≠ ax) :
    ((sh.rowRect ax k).emb y a).val = (y a).val := by rw [rowRect_emb_val, if_neg h, Nat.zero_add]

/-- An index re-read at an equal shape keeps its coordinates. -/
theorem idxEquiv_symm_val {sh sh' : Shape} (h : sh = sh') (y : sh'.Idx) (a : Fin sh.rank) (a' : Fin sh'.rank) (ha : a.val = a'.val) :
    ((Shape.idxEquiv h).symm y a).val = (y a').val := by
  subst h; obtain rfl : a = a' := Fin.ext ha; rfl

/-- A row of a slab of the sorted array, element by element: the named row, the row's own sublane and lane. -/
theorem slab_row_emb (o : ℕ) (h) (q : Fin (S5888x2x128.size gathers_S5888x2x128_S64x2x128.axis)) (y : (S5888x2x128.rowShape gathers_S5888x2x128_S64x2x128.axis).Idx)
    (y1 : Fin 8) (y2 : Fin 128) (h1 : y1.val = o + (y (1 : Fin 3)).val) (h2 : y2.val = (y (2 : Fin 3)).val) :
    ((slab xsM o h).view.slice (S5888x2x128.rowRect gathers_S5888x2x128_S64x2x128.axis q)).emb y
      = (ix3 (⟨q.val, q.isLt⟩ : Fin 5888) y1 y2 : S5888x8x128.Idx) := by
  have e0 := rowRect_emb_axis S5888x2x128 gathers_S5888x2x128_S64x2x128.axis q y (0 : Fin 3) rfl
  have e1 := rowRect_emb_ne S5888x2x128 gathers_S5888x2x128_S64x2x128.axis q y (1 : Fin 3) (by decide)
  have e2 := rowRect_emb_ne S5888x2x128 gathers_S5888x2x128_S64x2x128.axis q y (2 : Fin 3) (by decide)
  have hy0 : (y (0 : Fin 3)).val = 0 := by
    have h : (y (0 : Fin 3)).val < 1 := (y (0 : Fin 3)).isLt
    omega
  rw [hy0] at e0
  show (slab xsM o h).view.emb ((S5888x2x128.rowRect gathers_S5888x2x128_S64x2x128.axis q).emb y) = _
  rw [slab_emb xsM o h ((S5888x2x128.rowRect gathers_S5888x2x128_S64x2x128.axis q).emb y) (by have := y1.isLt; omega)]
  show (ix3 _ _ _ : S5888x8x128.Idx) = _
  funext a; apply Fin.ext
  match a with
  | ⟨0, _⟩ => exact e0
  | ⟨1, _⟩ => exact (congrArg (o + ·) e1).trans (by simp [h1])
  | ⟨2, _⟩ => exact e2.trans (by simp [h2])

/-- The rows a chunk's stream along the slab names are the chunk's share of the slab. -/
theorem mem_slab_rows (l : S64.Idx → BitVec 32)
    (hl : ∀ k : Fin 64, l (ix1 k) = dest (asg (cbase c s r + k.val) (by have := cbase_le c s r; have := k.isLt; omega))) (hin) (o : ℕ) (h) (ho : o + 2 ≤ 8) (x : S5888x8x128.Idx) :
    x ∈ SX dest c s r o ↔ ∃ k : Fin 64, x ∈ ((slab xsM o h).view.slice (S5888x2x128.rowRect gathers_S5888x2x128_S64x2x128.axis (listRows (F := F) l hin k))).set := by
  rw [mem_SX]
  constructor
  · rintro ⟨⟨h1, h2⟩, k, hk⟩
    refine ⟨k, ?_⟩
    rw [View.set_slice, Finset.mem_map]
    refine ⟨ix3 (x 0) (⟨(x 1).val - o, by omega⟩ : Fin 2) (x 2), ?_, ?_⟩
    · refine Rect.mem_set_unit.mpr fun a => ?_
      match a with
      | ⟨0, _⟩ =>
        show (listRows (F := F) l hin k).val ≤ (x 0).val ∧ (x 0).val < (listRows (F := F) l hin k).val + 1
        rw [listRows_val, hl, hk]; omega
      | ⟨1, _⟩ => show 0 ≤ (x 1).val - o ∧ (x 1).val - o < 0 + 2; omega
      | ⟨2, _⟩ => have := (x 2).isLt; show 0 ≤ (x 2).val ∧ (x 2).val < 0 + 128; exact ⟨Nat.zero_le _, by simpa using this⟩
    · rw [slab_emb xsM o h _ (by show o + ((x 1).val - o) < 8; have := (x 1).isLt; omega)]
      show (ix3 _ _ _ : S5888x8x128.Idx) = _
      funext a; apply Fin.ext
      match a with
      | ⟨0, _⟩ => rfl
      | ⟨1, _⟩ => show o + ((x 1).val - o) = (x 1).val; omega
      | ⟨2, _⟩ => rfl
  · rintro ⟨k, hk⟩
    obtain ⟨y, -, rfl⟩ := Finset.mem_map.mp hk
    have hy1 : (y (1 : Fin 3)).val < 2 := (y (1 : Fin 3)).isLt
    have hy2 : (y (2 : Fin 3)).val < 128 := (y (2 : Fin 3)).isLt
    rw [slab_row_emb o h (listRows (F := F) l hin k) y ⟨o + (y (1 : Fin 3)).val, by omega⟩ ⟨(y (2 : Fin 3)).val, hy2⟩ rfl rfl]
    refine ⟨⟨?_, ?_⟩, k, ?_⟩
    · show o ≤ o + _; omega
    · show o + _ < o + 2; omega
    · show _ = (listRows (F := F) l hin k).val; rw [listRows_val, hl]

/-- What the stream carries for its list's entry `k`: row `k` of the tile's buffer, the slab's two sublanes of it. -/
theorem scatterRowPayload_slab (d : Dev nD) (cc : Fin τ.nSC) (ss : Fin τ.nSub)
    (o : ℕ) (h) (fs : S64x8x128.Idx → Elt F .f32) (k : Fin 64) (y : (S5888x2x128.rowShape gathers_S5888x2x128_S64x2x128.axis).Idx)
    (y1 : Fin 8) (y2 : Fin 128) (h1 : y1.val = o + (y (1 : Fin 3)).val) (h2 : y2.val = (y (2 : Fin 3)).val) :
    SparseCore.scatterRowPayload (V d cc ss) (slab64 rowsM o h) gathers_S5888x2x128_S64x2x128 fs k y = fs (ix3 k y1 y2) := by
  have z0 := idxEquiv_symm_val gathers_S5888x2x128_S64x2x128.rowShape_eq y (0 : Fin 3) (0 : Fin 3) rfl
  have z1 := idxEquiv_symm_val gathers_S5888x2x128_S64x2x128.rowShape_eq y (1 : Fin 3) (1 : Fin 3) rfl
  have z2 := idxEquiv_symm_val gathers_S5888x2x128_S64x2x128.rowShape_eq y (2 : Fin 3) (2 : Fin 3) rfl
  have e0 := rowRect_emb_axis S64x2x128 gathers_S5888x2x128_S64x2x128.axis' k ((Shape.idxEquiv gathers_S5888x2x128_S64x2x128.rowShape_eq).symm y) (0 : Fin 3) rfl
  have e1 := rowRect_emb_ne S64x2x128 gathers_S5888x2x128_S64x2x128.axis' k ((Shape.idxEquiv gathers_S5888x2x128_S64x2x128.rowShape_eq).symm y) (1 : Fin 3) (by decide)
  have e2 := rowRect_emb_ne S64x2x128 gathers_S5888x2x128_S64x2x128.axis' k ((Shape.idxEquiv gathers_S5888x2x128_S64x2x128.rowShape_eq).symm y) (2 : Fin 3) (by decide)
  have hy0 : (y (0 : Fin 3)).val = 0 := by
    have h : (y (0 : Fin 3)).val < 1 := (y (0 : Fin 3)).isLt
    omega
  rw [z0, hy0] at e0
  rw [z1] at e1
  rw [z2] at e2
  show fs ((slab64 rowsM o h).view.emb ((S64x2x128.rowRect gathers_S5888x2x128_S64x2x128.axis' k).emb ((Shape.idxEquiv gathers_S5888x2x128_S64x2x128.rowShape_eq).symm y))) = _
  congr 1
  rw [slab64_emb rowsM o h _ (by have := y1.isLt; omega)]
  show (ix3 _ _ _ : S64x8x128.Idx) = _
  funext a; apply Fin.ext
  match a with
  | ⟨0, _⟩ => exact e0
  | ⟨1, _⟩ => exact (congrArg (o + ·) e1).trans (by simp [h1])
  | ⟨2, _⟩ => exact e2.trans (by simp [h2])

/-- The stream leaves, on the rows it names, the sorted array's value there. -/
theorem scatterBuf_slab (hd : DestOk dest) (d : Dev nD) (cc : Fin τ.nSC) (ss : Fin τ.nSub) (xp : S2048x8x128.Idx → Elt F .f32) (f0 : S5888x8x128.Idx → Elt F .f32)
    (l : S64.Idx → BitVec 32)
    (hl : ∀ k : Fin 64, l (ix1 k) = dest (asg (cbase c s r + k.val) (by have := cbase_le c s r; have := k.isLt; omega)))
    (fs : S64x8x128.Idx → Elt F .f32)
    (hfs : ∀ (k : Fin 64) (y1 : Fin 8) (y2 : Fin 128), fs (ix3 k y1 y2) = xp (ix3 (tokOf (asg (cbase c s r + k.val) (by have := cbase_le c s r; have := k.isLt; omega))) y1 y2))
    (hin) (o : ℕ) (h) (h64) (ho : o + 2 ≤ 8) (fd : S5888x8x128.Idx → Elt F .f32) (x : S5888x8x128.Idx) (hx : x ∈ SX dest c s r o) :
    SparseCore.scatterBuf (V d cc ss) (slab xsM o h).view gathers_S5888x2x128_S64x2x128.axis (listRows (F := F) l hin)
      (SparseCore.scatterRowPayload (V d cc ss) (slab64 rowsM o h64) gathers_S5888x2x128_S64x2x128 fs) fd x = scatVal dest xp f0 x := by
  refine ((mem_slab_rows (F := F) c s r dest l hl hin o h ho x).mp hx).elim fun k hk => ?_
  rw [SparseCore.scatterBuf_of_mem (V d cc ss) (slab xsM o h).view gathers_S5888x2x128_S64x2x128.axis (listRows (F := F) l hin) (listRows_inj c s r dest hd l hl hin) _ fd hk]
  obtain ⟨y, -, rfl⟩ := Finset.mem_map.mp hk
  have hy1 : (y (1 : Fin 3)).val < 2 := (y (1 : Fin 3)).isLt
  have hy2 : (y (2 : Fin 3)).val < 128 := (y (2 : Fin 3)).isLt
  rw [View.write_emb_of_mem _ _ (Finset.mem_univ _), slab_row_emb o h (listRows (F := F) l hin k) y ⟨o + (y (1 : Fin 3)).val, by omega⟩ ⟨(y (2 : Fin 3)).val, hy2⟩ rfl rfl,
    scatVal_of_dest hd xp f0 _ (asg (cbase c s r + k.val) (by have := cbase_le c s r; have := k.isLt; omega)) (by
      show _ = (listRows (F := F) l hin k).val; rw [listRows_val, hl]),
    scatterRowPayload_slab d cc ss o h64 fs k y ⟨o + (y (1 : Fin 3)).val, by omega⟩ ⟨(y (2 : Fin 3)).val, hy2⟩ rfl rfl, hfs]
  rfl

end Slab

end Cert.Proof.Moe

end
-- ==== Proof.Dispatch.lean ====
/-
  The dispatch in whole numbers: every assignment's row, every block's expert, read off the experts the assignments name.
-/
module

public import proofs.«01_k».proof.Proof.ChainRead
public import proofs.«01_k».proof.Proof.ScValues
public import Idealize.ShloMosaic.Lib.Routing.OpsOne
public import Idealize.ShloMosaic.Lib.Routing.Words
public import Idealize.ShloMosaic.Lib.ReduceAll

@[expose] public section

set_option backward.isDefEq.respectTransparency.types false

noncomputable section

namespace Cert.Proof.Moe

open Cert.KernelIdeal Cert.KernelIdeal.Gen
open Idealize.ShloMosaic Idealize.ShloMosaic.ValueIdx Idealize.ShloMosaic.Routing

/-! ### Whole numbers -/

/-- The assignments before the k-th that name an expert. -/
def cntN (g : ℕ → ℕ) (e k : ℕ) : ℕ := Nat.count (fun i => g i = e) k

/-- The blocks of an expert. -/
def blkN (g : ℕ → ℕ) (e : ℕ) : ℕ := (cntN g e 4096 + 255) / 256

/-- The blocks before an expert's. -/
def stN (g : ℕ → ℕ) (e : ℕ) : ℕ := ((List.range e).map (blkN g)).sum

/-- The row of an assignment. -/
def destN (g : ℕ → ℕ) (n : ℕ) : ℕ := stN g (g n) * 256 + cntN g (g n) n

/-- An expert’s first block is the last one’s first block and its number of blocks. -/
theorem stN_succ (g : ℕ → ℕ) (e : ℕ) : stN g (e + 1) = stN g e + blkN g e := by
  unfold stN; rw [List.range_succ, List.map_append, List.sum_append, List.map_singleton, List.sum_singleton]

/-- The starts grow. -/
theorem stN_mono (g : ℕ → ℕ) {a b : ℕ} (h : a ≤ b) : stN g a ≤ stN g b := by
  induction b, h using Nat.le_induction with
  | base => exact le_rfl
  | succ n _ ih => rw [stN_succ]; omega

/-- Every assignment names one of eight experts. -/
theorem cntN_sum (g : ℕ → ℕ) (hg : ∀ n, g n < 8) (k : ℕ) :
    cntN g 0 k + cntN g 1 k + cntN g 2 k + cntN g 3 k + cntN g 4 k + cntN g 5 k + cntN g 6 k + cntN g 7 k = k := by
  induction k with
  | zero => rfl
  | succ k ih =>
    unfold cntN at ih ⊢
    simp only [Nat.count_succ]
    have := hg k
    have h : g k = 0 ∨ g k = 1 ∨ g k = 2 ∨ g k = 3 ∨ g k = 4 ∨ g k = 5 ∨ g k = 6 ∨ g k = 7 := by omega
    rcases h with h | h | h | h | h | h | h | h <;> simp [h] <;> omega

/-- The blocks fit the grid. -/
theorem stN_eight (g : ℕ → ℕ) (hg : ∀ n, g n < 8) : stN g 8 ≤ 23 := by
  have h := cntN_sum g hg 4096
  simp only [show (8 : ℕ) = 0 + 1 + 1 + 1 + 1 + 1 + 1 + 1 + 1 from rfl, stN_succ]
  have h0 : stN g 0 = 0 := rfl
  rw [h0]
  unfold blkN
  simp only [Nat.zero_add, Nat.reduceAdd]
  omega

/-- An assignment's place is among its expert's assignments. -/
theorem cntN_lt (g : ℕ → ℕ) {n : ℕ} (hn : n < 4096) : cntN g (g n) n < cntN g (g n) 4096 := by
  unfold cntN
  exact Nat.count_strict_mono (p := fun i => g i = g n) rfl hn

/-- A row lies in its expert's blocks. -/
theorem destN_block (g : ℕ → ℕ) {n : ℕ} (hn : n < 4096) :
    stN g (g n) * 256 ≤ destN g n ∧ destN g n < stN g (g n + 1) * 256 := by
  have h := cntN_lt g hn
  rw [stN_succ]; unfold destN blkN
  omega

/-- Every row is in range. -/
theorem destN_lt (g : ℕ → ℕ) (hg : ∀ n, g n < 8) {n : ℕ} (hn : n < 4096) : destN g n < 5888 := by
  have h := (destN_block g hn).2
  have h2 := stN_mono g (show g n + 1 ≤ 8 from hg n)
  have h3 := stN_eight g hg
  omega

/-- Different assignments have different rows. -/
theorem destN_inj (g : ℕ → ℕ) {n m : ℕ} (hn : n < 4096) (hm : m < 4096) (h : destN g n = destN g m) : n = m := by
  have bn := destN_block g hn
  have bm := destN_block g hm
  rcases lt_trichotomy (g n) (g m) with hl | he | hl
  · have := stN_mono g (show g n + 1 ≤ g m from hl); omega
  · unfold destN at h
    rw [he] at h
    have hc : cntN g (g m) n = cntN g (g m) m := by omega
    unfold cntN at hc
    exact Nat.count_injective (p := fun i => g i = g m) he rfl hc
  · have := stN_mono g (show g m + 1 ≤ g n from hl); omega

/-- The experts whose blocks end by a block of an expert are those before it. -/
theorem count_ends (g : ℕ → ℕ) {b e : ℕ} (he : e < 8) (h1 : stN g e ≤ b) (h2 : b < stN g (e + 1)) :
    Nat.count (fun k => stN g (k + 1) ≤ b) 8 = e := by
  have h8 : 8 = e + (8 - e) := by omega
  rw [h8, Nat.count_add]
  have hA : Nat.count (fun k => stN g (k + 1) ≤ b) e = e := by
    refine Nat.count_iff_forall.mpr fun k hk => ?_
    have := stN_mono g (show k + 1 ≤ e from hk); omega
  have hB : Nat.count (fun k => stN g (e + k + 1) ≤ b) (8 - e) = 0 := by
    refine Nat.count_iff_forall_not.mpr fun k _ => ?_
    have := stN_mono g (show e + 1 ≤ e + k + 1 by omega); omega
  rw [hA, hB]; rfl

/-! ### Words -/

/-- The expert that an assignment names. -/
def gOf (fl : IVec S4096 32) (n : ℕ) : ℕ := if h : n < 4096 then (fl (ValueIdx.ix1 ⟨n, h⟩)).toNat else 0

/-- A list of assignments, each naming one of eight experts. -/
def FlatOk (fl : IVec S4096 32) : Prop := ∀ n : Fin 4096, (fl (ValueIdx.ix1 n)).toNat < 8

section Words

variable {fl : IVec S4096 32} (hf : FlatOk fl)

include hf in
/-- Every expert’s number is below eight. -/
theorem gOf_lt (n : ℕ) : gOf fl n < 8 := by
  unfold gOf; split
  · exact hf _
  · decide

/-- A word of the list, from its number. -/
theorem fl_eq (n : Fin 4096) : fl (ValueIdx.ix1 n) = BitVec.ofNat 32 (gOf fl n.val) := by
  unfold gOf; rw [dif_pos n.isLt, BitVec.ofNat_toNat, BitVec.setWidth_eq]

/-- A sum of zeros and ones is a count. -/
theorem sum_count (g : ℕ → ℕ) (e k : ℕ) : ((List.range k).map fun i => if g i = e then 1 else 0).sum = cntN g e k := by
  induction k with
  | zero => rfl
  | succ k ih =>
    rw [List.range_succ, List.map_append, List.sum_append, List.map_singleton, List.sum_singleton, ih]
    unfold cntN; rw [Nat.count_succ]

include hf in
/-- The one-hot rows. -/
theorem hotOf_apply (n : Fin 4096) (e : Fin 8) :
    hotOf fl (ValueIdx.ix2 n e) = BitVec.ofNat 32 (if gOf fl n.val = e.val then 1 else 0) := by
  have h1 : broadcastInDim S4096x8 ![0, 1] bcast_S4096x1_S4096x8_0_1 (broadcastInDim S4096x1 ![0] bcast_S4096_S4096x1_0 fl) (ValueIdx.ix2 n e) = fl (ValueIdx.ix1 n) := bcRows ..
  have h2 : broadcastInDim S4096x8 ![0, 1] bcast_S1x8_S4096x8_0_1 eRow (ValueIdx.ix2 n e) = BitVec.ofNat 32 e.val := (bcCols ..).trans (iota1_ap e)
  show ((IntOp.cmpi .eq (_ : BitVec 32) _).setWidth 32) = _
  rw [h1, h2, fl_eq (fl := fl) n, WordCmp.cmpi_eq_ofNat (w := 32) (by have := gOf_lt hf n.val; omega) (by have := e.isLt; omega), setWidth_ofBool]

include hf in
/-- The running counts. -/
theorem cumOf_apply (n : Fin 4096) (e : Fin 8) :
    cumOf (hotOf fl) (ValueIdx.ix2 n e) = BitVec.ofNat 32 (cntN (gOf fl) e.val (n.val + 1)) := by
  rw [← sum_count]
  exact cumsum_rows (R := 4096) (Rm1 := 4095) (C := 8) rfl (hotOf fl) (fun i e => if gOf fl i = e then 1 else 0) (hotOf_apply hf) _ (bc0 _ _ _) _ _ n e

/-- An index in range is not changed. -/
theorem wrapIx_apply (ix : IVec S4096x1 32) (n : Fin 4096) (k : ℕ) (hk : k < 8) (h : ix (ValueIdx.ix2 n 0) = BitVec.ofNat 32 k) :
    wrapIx ix (ValueIdx.ix3 n 0 0) = BitVec.ofNat 32 k := by
  unfold wrapIx
  rw [shapeCast_apply _ _ (ValueIdx.ix3 n 0 0) (ValueIdx.ix2 n 0) (by
    rw [Shape.rowMajor_val_two, Shape.rowMajor_val_three]; show n.val * 1 + 0 = (n.val * 1 + 0) * 1 + 0; omega)]
  show Scalar.select (IntOp.cmpi .slt (ix (ValueIdx.ix2 n 0)) 0#32) (_ : BitVec 32) (ix (ValueIdx.ix2 n 0)) = _
  rw [wrap_of_lt _ _ (by rw [h, BitVec.toNat_ofNat]; omega), h]

/-- One entry of a row, the indices in range. -/
theorem takeOf_apply (x : IVec S4096x8 32) (ix : IVec S4096x1 32) (g : Fin 4096 → Fin 8) (h : ∀ n, ix (ValueIdx.ix2 n 0) = BitVec.ofNat 32 (g n).val) (n : Fin 4096) :
    takeOf x ix (ValueIdx.ix2 n 0) = x (ValueIdx.ix2 n (g n)) := by
  have hw := fun n => wrapIx_apply ix n (g n).val (g n).isLt (h n)
  have hk := (g n).isLt
  unfold takeOf
  have hm : Host.reduce IntOp.andi (andi (cmpi .sge (wrapIx ix) (broadcastInDim S4096x1x1 ![] bcast_S_S4096x1x1 (constantI S_ 32 0#32)))
        (cmpi .sle (wrapIx ix) (broadcastInDim S4096x1x1 ![0, 1, 2] bcast_S1x1x1_S4096x1x1_0_1_2
          (broadcastInDim S1x1x1 ![2] bcast_S1_S1x1x1_2 (constantI S1 32 7#32)))))
      (constantI S_ 1 1#1) reducesTo_S4096x1x1_S4096x1_d2 h_S_ (ValueIdx.ix2 n 0) = 1#1 := by
    refine Host.reduce_andi_one _ _ _ _ _ rfl fun i => ?_
    obtain ⟨m, hm⟩ : ∃ m : Fin 4096, i = ValueIdx.ix3 m 0 0 := ⟨i 0, funext fun a => by
      match a with
      | 0 => rfl
      | 1 => exact Subsingleton.elim (α := Fin 1) _ _
      | 2 => exact Subsingleton.elim (α := Fin 1) _ _⟩
    show IntOp.andi (IntOp.cmpi .sge (wrapIx ix i) 0#32) (IntOp.cmpi .sle (wrapIx ix i) 7#32) = 1#1
    rw [hm, hw m]
    have := (g m).isLt
    generalize (g m).val = c at this
    interval_cases c <;> decide
  show Scalar.select _ (Host.gather gather_S4096x8_S4096x1x1_S4096x1_n_1_0_0_1_2_11 x (wrapIx ix) (ValueIdx.ix2 n 0)) _ = _
  rw [hm]
  show x (gather_S4096x8_S4096x1x1_S4096x1_n_1_0_0_1_2_11.operandIdx (ValueIdx.ix2 n 0) (wrapIx ix)) = _
  refine congrArg x (funext fun a => Fin.ext ?_)
  match a with
  | 0 =>
    show GatherDims.start _ _ _ _ + GatherDims.batchCoord _ _ _ + GatherDims.offCoord _ _ _ = n.val
    rw [GatherDims.start_batching _ _ _ _ (by decide), GatherDims.offCoord_eq_zero _ _ _ (by decide)]
    unfold GatherDims.batchCoord
    rw [dif_pos (by decide)]
    simp only [Nat.zero_add, Nat.add_zero]
    rfl
  | 1 =>
    show GatherDims.start _ _ _ _ + GatherDims.batchCoord _ _ _ + GatherDims.offCoord _ _ _ = (g n).val
    rw [GatherDims.batchCoord_eq_zero _ _ _ (by decide), GatherDims.offCoord_eq_zero _ _ _ (by decide)]
    unfold GatherDims.start
    rw [dif_pos (by decide)]
    have e : gather_S4096x8_S4096x1x1_S4096x1_n_1_0_0_1_2_11.siIdx (ValueIdx.ix2 n 0) ⟨List.idxOf (1 : Fin S4096x8.rank) gather_S4096x8_S4096x1x1_S4096x1_n_1_0_0_1_2_11.startIndexMap, by decide⟩ = ValueIdx.ix3 n 0 0 := by
      funext a
      match a with
      | 0 => rfl
      | 1 => rfl
      | 2 => rfl
    rw [e, hw n]
    generalize (g n).val = c at hk
    interval_cases c <;> rfl

include hf in
/-- An assignment's place among those to its expert. -/
theorem rankOf_apply (n : Fin 4096) : rankOf fl (ValueIdx.ix1 n) = BitVec.ofNat 32 (cntN (gOf fl) (gOf fl n.val) n.val) := by
  have hg := gOf_lt hf n.val
  unfold rankOf
  rw [subi_ap, cast21 (a := 4096) (b := 1) _ _ n 0 n (by simp),
    takeOf_apply _ _ (fun n => ⟨gOf fl n.val, gOf_lt hf n.val⟩) (fun n => (bcCol _ _ _).trans (fl_eq (fl := fl) n)) n, cumOf_apply hf]
  show BitVec.ofNat 32 (cntN (gOf fl) (gOf fl n.val) (n.val + 1)) - 1#32 = _
  have : cntN (gOf fl) (gOf fl n.val) (n.val + 1) = cntN (gOf fl) (gOf fl n.val) n.val + 1 := by
    unfold cntN; rw [Nat.count_succ, if_pos rfl]
  rw [this, BitVec.ofNat_add]
  simp

include hf in
/-- The number of assignments to an expert. -/
theorem cntOf_apply (e : Fin 8) : cntOf fl (ValueIdx.ix1 e) = BitVec.ofNat 32 (cntN (gOf fl) e.val 4096) := by
  unfold cntOf
  rw [cast21 (a := 1) (b := 8) _ _ 0 e e (by simp)]
  rw [show extractStridedSlice S1x8 ![4095, 0] (cumOf (hotOf fl)) slices_S4096x8_S1x8_4095_0 (ValueIdx.ix2 (0 : Fin 1) e)
      = cumOf (hotOf fl) (ValueIdx.ix2 (4095 : Fin 4096) e) from congrArg (cumOf (hotOf fl)) (funext fun a => Fin.ext (by
        match a with | 0 => rfl | 1 => exact Nat.zero_add _)), cumOf_apply hf]
  rfl

/-- A count is at most the length. -/
theorem cntN_le (g : ℕ → ℕ) (e k : ℕ) : cntN g e k ≤ k := Nat.count_le _

include hf in
/-- The blocks of an expert. -/
theorem blkOf_apply (e : Fin 8) : blkOf (cntOf fl) (ValueIdx.ix1 e) = BitVec.ofNat 32 (blkN (gOf fl) e.val) := by
  have hc := cntN_le (gOf fl) e.val 4096
  refine pyDiv_ap (a := cntN (gOf fl) e.val 4096 + 255) (b := 256) bcast_S_S8 _ _ _ ?_ rfl (by omega) (by decide) (by decide)
  rw [subi_ap, addi_ap, cntOf_apply hf]
  show BitVec.ofNat 32 _ + 256#32 - 1#32 = _
  refine BitVec.eq_of_toNat_eq ?_
  simp only [BitVec.toNat_sub, BitVec.toNat_add, BitVec.toNat_ofNat]; omega

include hf in
/-- The running sum of the blocks. -/
theorem cum8Of_apply (e : Fin 8) : cum8Of (blkOf (cntOf fl)) (ValueIdx.ix1 e) = BitVec.ofNat 32 (stN (gOf fl) (e.val + 1)) :=
  cumsum1 (N := 8) (Nm1 := 7) rfl _ (blkN (gOf fl)) (blkOf_apply hf) _ (bc0 _ _ _) _ _ e

include hf in
/-- The blocks before an expert's. -/
theorem startOf_apply (e : Fin 8) : startOf (blkOf (cntOf fl)) (ValueIdx.ix1 e) = BitVec.ofNat 32 (stN (gOf fl) e.val) := by
  unfold startOf
  by_cases he : e.val = 0
  · refine (concatenate_pair_apply_left (t := S8) (s₁ := S1) (s₂ := S7) (0 : Fin 1) _ _ _ _ rfl (ValueIdx.ix1 (0 : Fin 1)) fun b => ?_).trans ?_
    · match b with | 0 => exact he.symm
    · rw [he]; rfl
  · refine (concatenate_pair_apply_right (t := S8) (s₁ := S1) (s₂ := S7) (0 : Fin 1) _ _ _ _ rfl rfl (ValueIdx.ix1 (⟨e.val - 1, by have := e.isLt; omega⟩ : Fin 7)) (fun b hb => ?_) ?_).trans ?_
    · match b with | 0 => exact absurd rfl hb
    · show e.val - 1 + 1 = e.val; omega
    · have := cum8Of_apply hf ⟨e.val - 1, by have := e.isLt; omega⟩
      refine Eq.trans ?_ (this.trans (congrArg (fun k => BitVec.ofNat 32 (stN (gOf fl) k)) (show e.val - 1 + 1 = e.val by omega)))
      exact congrArg (cum8Of _) (funext fun a => Fin.ext (by match a with | 0 => exact Nat.zero_add _))

/-- The rows of the assignments, read off the list of experts. -/
def destOf (fl : IVec S4096 32) : IVec S4096 32 := destAt fl (startOf (blkOf (cntOf fl))) (rankOf fl)

/-- The ends of the experts' blocks. -/
def finOf (fl : IVec S4096 32) : IVec S8 32 := addi (startOf (blkOf (cntOf fl))) (blkOf (cntOf fl))

include hf in
/-- An assignment's row. -/
theorem destOf_apply (n : Fin 4096) : destOf fl (ValueIdx.ix1 n) = BitVec.ofNat 32 (destN (gOf fl) n.val) := by
  have hg := gOf_lt hf n.val
  unfold destOf destAt
  rw [addi_ap, muli_ap, rankOf_apply hf, gather_take1 (N := 8) (n := 4096) _ rfl rfl rfl rfl _ _ n ⟨gOf fl n.val, hg⟩ ?_ (by decide), startOf_apply hf]
  · show BitVec.ofNat 32 _ * 256#32 + BitVec.ofNat 32 _ = _
    unfold destN
    rw [BitVec.ofNat_add, BitVec.ofNat_mul]
  · rw [bcCol]
    show Scalar.select (IntOp.cmpi .slt (fl (ValueIdx.ix1 n)) 0#32) (_ : BitVec 32) (fl (ValueIdx.ix1 n)) = _
    rw [wrap_of_lt _ _ (by have := hf n; omega), fl_eq (fl := fl) n]

include hf in
/-- An assignment’s row, as a number. -/
theorem destOf_toNat (n : Fin 4096) : (destOf fl (ValueIdx.ix1 n)).toNat = destN (gOf fl) n.val := by
  rw [destOf_apply hf, BitVec.toNat_ofNat, Nat.mod_eq_of_lt]
  have := destN_lt (gOf fl) (gOf_lt hf) n.isLt; omega

include hf in
/-- The rows are in range and distinct. -/
theorem destOf_ok : DestOk (destOf fl) where
  lt a := by
    obtain ⟨n, rfl⟩ : ∃ n : Fin 4096, a = ValueIdx.ix1 n := ⟨a 0, ValueIdx.eq_ix1 a⟩
    exact lt_of_eq_of_lt (destOf_toNat hf n) (destN_lt (gOf fl) (gOf_lt hf) n.isLt)
  inj a b h := by
    obtain ⟨n, rfl⟩ : ∃ n : Fin 4096, a = ValueIdx.ix1 n := ⟨a 0, ValueIdx.eq_ix1 a⟩
    obtain ⟨m, rfl⟩ : ∃ n : Fin 4096, b = ValueIdx.ix1 n := ⟨b 0, ValueIdx.eq_ix1 b⟩
    have h' : destN (gOf fl) n.val = destN (gOf fl) m.val := (destOf_toNat hf n).symm.trans (h.trans (destOf_toNat hf m))
    exact congrArg ValueIdx.ix1 (Fin.ext (destN_inj (gOf fl) n.isLt m.isLt h'))

include hf in
/-- Where an expert's blocks end. -/
theorem finOf_apply (e : Fin 8) : finOf fl (ValueIdx.ix1 e) = BitVec.ofNat 32 (stN (gOf fl) (e.val + 1)) := by
  unfold finOf
  rw [addi_ap, startOf_apply hf, blkOf_apply hf, stN_succ, BitVec.ofNat_add]

include hf in
/-- Every expert starts at or before block 23. -/
theorem stN_le (e : ℕ) (he : e ≤ 8) : stN (gOf fl) e ≤ 23 := (stN_mono _ he).trans (stN_eight _ (gOf_lt hf))

include hf in
/-- The expert of a block. -/
theorem beOf_apply (b : Fin 23) : beOf (finOf fl) (ValueIdx.ix1 b) = BitVec.ofNat 32 (min (Nat.count (fun k => stN (gOf fl) (k + 1) ≤ b.val) 8) 7) := by
  unfold beOf
  show IntOp.minsi (Host.reduce IntOp.addi _ _ _ _ _) 7#32 = _
  rw [reduce_count (n := 23) (m := 8) (by decide) _ _ _ _ b (fun k => stN (gOf fl) (k + 1) ≤ b.val) (fun q => ?_)]
  · have := Nat.count_le (p := fun k => stN (gOf fl) (k + 1) ≤ b.val) (n := 8)
    generalize Nat.count (fun k => stN (gOf fl) (k + 1) ≤ b.val) 8 = c at this
    interval_cases c <;> decide
  · show IntOp.cmpi .sge (_ : BitVec 32) (_ : BitVec 32) = 1#1 ↔ _
    rw [bcRows (n := 23) (m := 8), bcCols (n := 23) (m := 8), iota1_ap, finOf_apply hf]
    have h1 := stN_le hf (q.val + 1) (by have := q.isLt; omega)
    have h2 := b.isLt
    show BitVec.ofBool ((BitVec.ofNat 32 (stN (gOf fl) (q.val + 1))).sle (BitVec.ofNat 32 b.val)) = 1#1 ↔ _
    exact StableHlo.Predicate.sle_ofNat_iff _ _ (by omega) (by omega)

end Words

end Cert.Proof.Moe

end
-- ==== Proof.Gemm.lean ====
/-
  The grouped expert MLP's call: at each block below the count in use, the block's rows through its expert's three
  matrices; the blocks beyond are left as they were.
-/
module

public import proofs.«01_k».proof.Proof.Router
public import Idealize.ShloMosaic.Lib.Pipeline.ArrRel
public import Idealize.ShloMosaic.Lib.Pipeline.FrameBody
public import Idealize.ShloMosaic.Lib.Pipeline.RegionsLoop
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.VecWindow

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat BodyObligation)

variable {F : FTy → Type} [FloatOps F]

local notation "𝕄" => MT nD τ sig (HIx 2) (Elt F) ℕ UU ℕ

/-- Whether the body runs its matrices at a grid point, the count of the blocks in use the table's last word. -/
abbrev live (i : grid2.Coords) (T : S24.Idx → Elt F .i32) : Prop := k2_cond1 i (T (ValueIdx.ix1 (23 : Fin 24))) = 1#1

/-- The body on whole buffers. -/
theorem gemm_run (c : Dev nD) (i : grid2.Coords) (a0 : Memref sig .tc .vmem S256x8x128 .f32) (h0 : a0.IsWhole) (a1 : Memref sig .tc .vmem S1x1024x1024 .f32) (h1 : a1.IsWhole)
    (a2 : Memref sig .tc .vmem S1x1024x1024 .f32) (h2 : a2.IsWhole) (a3 : Memref sig .tc .vmem S1x1024x1024 .f32) (h3 : a3.IsWhole)
    (a4 : Memref sig .tc .vmem S256x8x128 .f32) (h4 : a4.IsWhole) (T : S24.Idx → Elt F .i32)
    (X0 X4 : S256x8x128.Idx → Elt F .f32) (X1 X2 X3 : S1x1024x1024.Idx → Elt F .f32) (Q : PUnit → sProp 𝕄) :
    iprop(owns (c : Thread nD τ) (Memref.whole main_v59) fullShare T ∗ owns (c : Thread nD τ) a0 fullShare X0 ∗ owns (c : Thread nD τ) a1 fullShare X1
        ∗ owns (c : Thread nD τ) a2 fullShare X2 ∗ owns (c : Thread nD τ) a3 fullShare X3 ∗ owns (c : Thread nD τ) a4 fullShare X4
        ∗ (iprop(owns (c : Thread nD τ) (Memref.whole main_v59) fullShare T ∗ owns (c : Thread nD τ) a0 fullShare X0 ∗ owns (c : Thread nD τ) a1 fullShare X1
            ∗ owns (c : Thread nD τ) a2 fullShare X2 ∗ owns (c : Thread nD τ) a3 fullShare X3
            ∗ (∃ X, ⌜live i T → X = k2_pay1 X0 X1 X2 X3⌝ ∗ owns (c : Thread nD τ) a4 fullShare X)) -∗ Q ⟨⟩))
      ⊢ wp frame (wpE (defs₀ (F := F)) 𝒱₀ (c : Thread nD τ) none) Set.univ
          (cc2__gemm_body i (Memref.whole main_v59) (Memref.isWhole_whole _) a0 h0 a1 h1 a2 h2 a3 h3 a4 h4) Q := by
  simp only [cc2__gemm_body_eq_skeleton]; unfold cc2__gemm_body_skel
  unfold owns
  iintro ⟨⟨%fT, %eT, HT⟩, ⟨%f0, %e0, H0⟩, ⟨%f1, %e1, H1⟩, ⟨%f2, %e2, H2⟩, ⟨%f3, %e3, H3⟩, ⟨%f4, %e4, H4⟩, Hk⟩
  subst e0 e1 e2 e3 e4
  obtain rfl : fT = T := eT
  sl_exec
  sl_step
  iapply Hk
  isplitl [HT]; · iexists _; isplitr; swap; (· iexact HT); ipureintro; rfl
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _
  isplitr
  swap
  · iexists _; isplitr; swap; (· iexact H4); ipureintro; rfl
  ipureintro
  intro hl
  have hl' : k2_cond1 i (gemm_run.sl.r c fT) = 1#1 := by
    refine Eq.trans (congrArg (k2_cond1 i) ?_) hl
    unfold gemm_run.sl.r
    exact congrArg fT (funext fun a => Fin.ext (by match a with | 0 => rfl))
  rw [dif_pos hl']
  exact (View.read_writes_full _ _ _ _ _).trans (by rw [View.readAt_full, View.readAt_full, View.readAt_full, View.readAt_full])

variable (V : Valuation τ sig (Elt F)) (a : (p : Fin 3) → (pcfgs (F := F) p).Adm)

/-- The table of the blocks' experts and, last, the count of the blocks in use. -/
abbrev tabOf (a : (p : Fin 3) → (pcfgs (F := F) p).Adm) : S24.Idx → Elt F .i32 := (a 1).1 (0 : Fin 1)

abbrev cfgG (a : (p : Fin 3) → (pcfgs (F := F) p).Adm) : Pipeline.Cfg sig Λ₀ := Pipeline.pin (pcfgs (F := F)) a 1

/-! What each input window's fetch stages at a point. -/

abbrev stG0 (V : Valuation τ sig (Elt F)) (a : (p : Fin 3) → (pcfgs (F := F) p).Adm) (t : Fin (cfgG a).N) : S256x8x128.Idx → Elt F .f32 :=
  (((cfgG a).win (0 : Fin 5)).blk t).view.read (Elt F) (V (Proc.devRef .tc (Pipeline.arrRef spec2 0)))
abbrev stG1 (V : Valuation τ sig (Elt F)) (a : (p : Fin 3) → (pcfgs (F := F) p).Adm) (t : Fin (cfgG a).N) : S1x1024x1024.Idx → Elt F .f32 :=
  (((cfgG a).win (1 : Fin 5)).blk t).view.read (Elt F) (V (Proc.devRef .tc (Pipeline.arrRef spec2 1)))
abbrev stG2 (V : Valuation τ sig (Elt F)) (a : (p : Fin 3) → (pcfgs (F := F) p).Adm) (t : Fin (cfgG a).N) : S1x1024x1024.Idx → Elt F .f32 :=
  (((cfgG a).win (2 : Fin 5)).blk t).view.read (Elt F) (V (Proc.devRef .tc (Pipeline.arrRef spec2 2)))
abbrev stG3 (V : Valuation τ sig (Elt F)) (a : (p : Fin 3) → (pcfgs (F := F) p).Adm) (t : Fin (cfgG a).N) : S1x1024x1024.Idx → Elt F .f32 :=
  (((cfgG a).win (3 : Fin 5)).blk t).view.read (Elt F) (V (Proc.devRef .tc (Pipeline.arrRef spec2 3)))

def gemmR (n : ℕ) (c : Dev nD) : Pipeline.RDat τ (Elt F) (HIx 2) ℕ UU ℕ (cfgG a) c where
  A w := V (Proc.devRef .tc (Pipeline.arrRef (cfgG a).spec w))
  after w t Y X := match w with
    | ⟨0, _⟩ => X = Y
    | ⟨1, _⟩ => X = Y
    | ⟨2, _⟩ => X = Y
    | ⟨3, _⟩ => X = Y
    | ⟨4, _⟩ => live (grid2.coords t) (tabOf a) → X = k2_pay1 (stG0 V a t) (stG1 V a t) (stG2 V a t) (stG3 V a t)
  Φ _ := iprop(Pipeline.prefHeld pre2 c (fun _ => fullShare) (a 1).1 ∗ Pipeline.scopedRest (cfgG a).spec c)
  q _ := fullShare
  owed _ := (K (F := F)).Otc c n
  recorded _ := lowPairs (F := F) c n

def gemmRs (n : ℕ) : (p : Fin 3) → (c : Dev nD) → Pipeline.RDat τ (Elt F) (HIx 2) ℕ UU ℕ (Pipeline.pin (pcfgs (F := F)) a p) c
  | ⟨0, _⟩ => fun c => (junkDat c).toR
  | ⟨1, _⟩ => fun c => gemmR V a n c
  | ⟨2, _⟩ => fun c => (junkDat c).toR

/-- What the body finds in the sorted tokens’ buffer. -/
theorem gemm_finds0 (n : ℕ) (c : Dev nD) (t) (Y) (h : (gemmR V a n c).Finds (0 : Fin 5) t Y) : Y = stG0 V a t :=
  ((gemmR V a n c).finds_in_eq_fetched (0 : Fin 5) rfl (fun _ _ _ => rfl) (fun _ _ _ h => h) t Y h).elim fun _ e => e
/-- What the body finds in the first weights’ buffer. -/
theorem gemm_finds1 (n : ℕ) (c : Dev nD) (t) (Y) (h : (gemmR V a n c).Finds (1 : Fin 5) t Y) : Y = stG1 V a t :=
  ((gemmR V a n c).finds_in_eq_fetched (1 : Fin 5) rfl (fun _ _ _ => rfl) (fun _ _ _ h => h) t Y h).elim fun _ e => e
/-- What the body finds in the second weights’ buffer. -/
theorem gemm_finds2 (n : ℕ) (c : Dev nD) (t) (Y) (h : (gemmR V a n c).Finds (2 : Fin 5) t Y) : Y = stG2 V a t :=
  ((gemmR V a n c).finds_in_eq_fetched (2 : Fin 5) rfl (fun _ _ _ => rfl) (fun _ _ _ h => h) t Y h).elim fun _ e => e
/-- What the body finds in the third weights’ buffer. -/
theorem gemm_finds3 (n : ℕ) (c : Dev nD) (t) (Y) (h : (gemmR V a n c).Finds (3 : Fin 5) t Y) : Y = stG3 V a t :=
  ((gemmR V a n c).finds_in_eq_fetched (3 : Fin 5) rfl (fun _ _ _ => rfl) (fun _ _ _ h => h) t Y h).elim fun _ e => e

/-- The table held, as the body reads it. -/
theorem gemm_table (c : Dev nD) : (Pipeline.prefHeld pre2 c (fun _ => fullShare) (a 1).1 : sProp 𝕄) = owns (c : Thread nD τ) (Memref.whole main_v59) fullShare (tabOf a) := by
  unfold Pipeline.prefHeld
  rw [owns_whole]
  exact bigSep_singleton

/-- The library's obligation of the body, by its run, at every point at once. -/
theorem gemm_obligation (n : ℕ) (c : Dev nD) : (gemmR V a n c).BodyObligation (defs₀ (F := F)) 𝒱₀ none Set.univ := fun t Y hY => by
  have e0 := gemm_finds0 V a n c t _ (hY (0 : Fin 5))
  have e1 := gemm_finds1 V a n c t _ (hY (1 : Fin 5))
  have e2 := gemm_finds2 V a n c t _ (hY (2 : Fin 5))
  have e3 := gemm_finds3 V a n c t _ (hY (3 : Fin 5))
  rw [bigSep_W2, bigSep_W2]
  rw [show (gemmR V a n c).owesAt none t.succ = (gemmR V a n c).owesAt none t.castSucc from rfl,
    show (gemmR V a n c).Φ t.succ = (gemmR V a n c).Φ t.castSucc from rfl,
    show (gemmR V a n c).Φ t.castSucc = iprop(Pipeline.prefHeld pre2 c (fun _ => fullShare) (a 1).1 ∗ Pipeline.scopedRest (cfgG a).spec c) from rfl, gemm_table]
  refine BIBase.Entails.trans ?_ (gemm_run c (grid2.coords t) _ (hstage2_0 (((cfgG a).slots t (0 : Fin 5)).cast nbuf2_0)) _ (hstage2_1 (((cfgG a).slots t (1 : Fin 5)).cast nbuf2_1))
    _ (hstage2_2 (((cfgG a).slots t (2 : Fin 5)).cast nbuf2_2)) _ (hstage2_3 (((cfgG a).slots t (3 : Fin 5)).cast nbuf2_3)) _ (hstage2_4 (((cfgG a).slots t (4 : Fin 5)).cast nbuf2_4))
    (tabOf a) (Y (0 : Fin 5)) (Y (4 : Fin 5)) (Y (1 : Fin 5)) (Y (2 : Fin 5)) (Y (3 : Fin 5)) _)
  iintro ⟨⟨HT, HΦ⟩, Howes, H0, H1, H2, H3, H4⟩
  isplitl [HT]; · iexact HT
  isplitl [H0]; · iexact H0
  isplitl [H1]; · iexact H1
  isplitl [H2]; · iexact H2
  isplitl [H3]; · iexact H3
  isplitl [H4]; · iexact H4
  iintro ⟨HT, H0, H1, H2, H3, ⟨%X, %hX, H4⟩⟩
  isplitl [HT HΦ]
  · isplitl [HT]; · iexact HT
    iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro
  intro hl
  rw [hX hl, e0, e1, e2, e3]

/-- What the call says of its result: every row of a block in use is the body's of the block's operands. -/
def GoodYs (V : Valuation τ sig (Elt F)) (a : (p : Fin 3) → (pcfgs (F := F) p).Adm) (ys : S5888x8x128.Idx → Elt F .f32) : Prop :=
  ∀ (t : Fin grid2.N) (y : S256x8x128.Idx), live (grid2.coords t) (tabOf a) →
    ys (ValueIdx.ix3 ⟨t.val * 256 + (y 0).val, by have h1 := (y 0).isLt; have h2 : t.val < 23 := lt_of_lt_of_eq t.isLt N_2; change _ < 256 at h1; omega⟩ (y 1) (y 2))
      = k2_pay1 (stG0 V a t) (stG1 V a t) (stG2 V a t) (stG3 V a t) y

/-- The result's window alone: it reads no table. -/
abbrev outG : Pipeline.Window sig grid2 :=
  Pipeline.Window.ofSpec (Memref.whole main_v60) S256x8x128.size cc2_transform_4 reads2_4 true false 2 stage2_4 sem2_4
    hrank2 hreads2_4 hinb2_4 nbuf2_4 (Memref.isWhole_whole _) hwx2_4 hstage2_4

/-- The result’s window. -/
theorem outG_eq : (cfgG a).win (4 : Fin 5) = outG := rfl
/-- The result’s blocks cover it. -/
theorem outG_covers : outG.Covers := by decide +kernel
/-- Each step writes its block back. -/
theorem outG_flush : ∀ t : Fin grid2.N, outG.flush t = true := by decide +kernel
/-- The result’s block at each step. -/
theorem outG_index : ∀ t : Fin grid2.N, outG.index t = ![t.val, 0, 0] := by decide +kernel

/-- Different steps write different blocks. -/
theorem outG_inj : ∀ t t' : Fin grid2.N, outG.flush t = true → outG.flush t' = true → outG.index t = outG.index t' → t = t' := by decide +kernel

/-- After the call every block in use holds what the body put there. -/
theorem gemm_out (n : ℕ) (c : Dev nD) (G) (h : (gemmR V a n c).ArrAt (4 : Fin 5) (cfgG a).N G) : GoodYs V a G := by
  obtain ⟨X, hX, hG⟩ := h.exists_exact
  have hG' := hG (Function.update (fun _ _ _ => Classical.arbitrary _) (4 : Fin 5) X) (fun u _ _ => congrFun (Function.update_self ..) u)
  intro t y hl
  have hd := ((gemmR V a n c).withAfter (Function.update (fun _ _ _ => Classical.arbitrary _) (4 : Fin 5) X)).arrAt_emb_eq_flushed (4 : Fin 5) (Pipeline.Window.hdisj_of_index_inj outG outG_inj) t (outG_flush t) y
  rw [← hG'] at hd
  have hL := hX t t.isLt (outG_flush t)
  obtain ⟨Y, -, hA⟩ := hL
  refine Eq.trans (congrArg G ?_) (hd.trans (Eq.trans ?_ (congrFun (hA hl) y)))
  · show _ = (outG.blk t).view.emb y
    funext b
    refine Fin.ext ?_
    match b with
    | 0 => show t.val * 256 + (y 0).val = outG.index t 0 * 256 + 1 * (y 0).val; rw [outG_index]; show _ = t.val * 256 + 1 * (y 0).val; omega
    | 1 => show (y 1).val = outG.index t 1 * 8 + 1 * (y 1).val; rw [outG_index]; show _ = 0 * 8 + 1 * (y 1).val; omega
    | 2 => show (y 2).val = outG.index t 2 * 128 + 1 * (y 2).val; rw [outG_index]; show _ = 0 * 128 + 1 * (y 2).val; omega
  · refine (cast_eq _ _).trans ?_
    show (Function.update (fun _ _ _ => Classical.arbitrary _) (4 : Fin 5) X : (w' : Fin 5) → _) (4 : Fin 5) t y = X t y
    rw [Function.update_self]

/-! The staged blocks, element by element. -/

/-- The place of the table that a step reads. -/
theorem coords2 : ∀ t : Fin grid2.N, (k2_off1 (grid2.coords t)) 0 = t.val := by decide +kernel
/-- The block of the sorted tokens at each step. -/
theorem index2_0 : ∀ t : Fin grid2.N, cc2_transform_0 (grid2.coords t) = ![t.val, 0, 0] := by decide +kernel

/-- The word of the table that a step reads. -/
theorem tab_at (t : Fin grid2.N) : ((a 1).1.at (0 : Fin 1) (Rect.unit (s := S24) (k2_off1 (grid2.coords t)) S1.size (k2_off1_inb (grid2.coords t))) numel1_S1 : BitVec 32)
    = tabOf a (ValueIdx.ix1 (⟨t.val, by have h2 : t.val < 23 := lt_of_lt_of_eq t.isLt N_2; omega⟩ : Fin 24)) := by
  refine congrArg (tabOf a) (funext fun (b : Fin 1) => Fin.ext ?_)
  match b with
  | 0 => exact coords2 t

/-- The sorted tokens’ block, at an index. -/
theorem stG0_apply (t) (y) : stG0 V a t y = V (Proc.devRef .tc main_v57) (ValueIdx.ix3 (⟨t.val * 256 + (y 0).val, by have h1 := (y 0).isLt; have h2 : t.val < 23 := lt_of_lt_of_eq t.isLt N_2; change _ < 256 at h1; omega⟩ : Fin 5888) (y 1) (y 2)) := by
  refine congrArg (V (Proc.devRef .tc main_v57)) (funext fun b => Fin.ext ?_)
  have e := index2_0 t
  match b with
  | 0 => show cc2_transform_0 (grid2.coords t) 0 * 256 + 1 * (y 0).val = _; rw [e]; show t.val * 256 + 1 * (y 0).val = t.val * 256 + (y 0).val; omega
  | 1 => show cc2_transform_0 (grid2.coords t) 1 * 8 + 1 * (y 1).val = _; rw [e]; show 0 * 8 + 1 * (y 1).val = (y 1).val; omega
  | 2 => show cc2_transform_0 (grid2.coords t) 2 * 128 + 1 * (y 2).val = _; rw [e]; show 0 * 128 + 1 * (y 2).val = (y 2).val; omega

/-- The first weights’ block is the expert’s. -/
theorem stG1_apply (t) (y) (e : Fin 8) (he : (tabOf a (ValueIdx.ix1 (⟨t.val, by have h2 : t.val < 23 := lt_of_lt_of_eq t.isLt N_2; omega⟩ : Fin 24))).toNat = e.val) :
    stG1 V a t y = V (Proc.devRef .tc main_arg2) (ValueIdx.ix3 e (y 1) (y 2)) := by
  refine congrArg (V (Proc.devRef .tc main_arg2)) (funext fun b => Fin.ext ?_)
  have h0 : (y 0).val = 0 := by have := (y 0).isLt; change _ < 1 at this; omega
  match b with
  | 0 =>
    show ((cfgG a).win (1 : Fin 5)).index t 0 * 1 + 1 * (y 0).val = e.val
    rw [show ((cfgG a).win (1 : Fin 5)).index t 0 = e.val from (congrArg BitVec.toNat (tab_at a t)).trans he]; omega
  | 1 => show 0 * 1024 + 1 * (y 1).val = (y 1).val; omega
  | 2 => show 0 * 1024 + 1 * (y 2).val = (y 2).val; omega

/-- The second weights’ block is the expert’s. -/
theorem stG2_apply (t) (y) (e : Fin 8) (he : (tabOf a (ValueIdx.ix1 (⟨t.val, by have h2 : t.val < 23 := lt_of_lt_of_eq t.isLt N_2; omega⟩ : Fin 24))).toNat = e.val) :
    stG2 V a t y = V (Proc.devRef .tc main_arg3) (ValueIdx.ix3 e (y 1) (y 2)) := by
  refine congrArg (V (Proc.devRef .tc main_arg3)) (funext fun b => Fin.ext ?_)
  have h0 : (y 0).val = 0 := by have := (y 0).isLt; change _ < 1 at this; omega
  match b with
  | 0 =>
    show ((cfgG a).win (2 : Fin 5)).index t 0 * 1 + 1 * (y 0).val = e.val
    rw [show ((cfgG a).win (2 : Fin 5)).index t 0 = e.val from (congrArg BitVec.toNat (tab_at a t)).trans he]; omega
  | 1 => show 0 * 1024 + 1 * (y 1).val = (y 1).val; omega
  | 2 => show 0 * 1024 + 1 * (y 2).val = (y 2).val; omega

/-- The third weights’ block is the expert’s. -/
theorem stG3_apply (t) (y) (e : Fin 8) (he : (tabOf a (ValueIdx.ix1 (⟨t.val, by have h2 : t.val < 23 := lt_of_lt_of_eq t.isLt N_2; omega⟩ : Fin 24))).toNat = e.val) :
    stG3 V a t y = V (Proc.devRef .tc main_arg4) (ValueIdx.ix3 e (y 1) (y 2)) := by
  refine congrArg (V (Proc.devRef .tc main_arg4)) (funext fun b => Fin.ext ?_)
  have h0 : (y 0).val = 0 := by have := (y 0).isLt; change _ < 1 at this; omega
  match b with
  | 0 =>
    show ((cfgG a).win (3 : Fin 5)).index t 0 * 1 + 1 * (y 0).val = e.val
    rw [show ((cfgG a).win (3 : Fin 5)).index t 0 = e.val from (congrArg BitVec.toNat (tab_at a t)).trans he]; omega
  | 1 => show 0 * 1024 + 1 * (y 1).val = (y 1).val; omega
  | 2 => show 0 * 1024 + 1 * (y 2).val = (y 2).val; omega

/-! ## The call's step -/

/-- The unscoped buffers after the call, at what it left in its result. -/
def gemmOut (ys : S5888x8x128.Idx → Elt F .f32) : Valuation τ sig (Elt F) := Function.update V (Proc.devRef .tc main_v60) ys

/-- The call’s result buffer after the call. -/
theorem gemmOut_self (ys) : gemmOut V ys (Proc.devRef .tc main_v60) = ys := Function.update_self ..
/-- The call changes no other buffer. -/
theorem gemmOut_ne (ys) {b : DevRef τ sig} (h : b ≠ Proc.devRef .tc main_v60) : gemmOut V ys b = V b := Function.update_of_ne h ..

/-- The call’s invariant from step to step. -/
theorem gemm_inv (n : ℕ) (c : Dev nD) (t) :
    (gemmRs V a n 1 c).Φ t = iprop(Pipeline.prefHeld (pcfgs (F := F) 1).pre c (fun _ => fullShare) (a 1).1 ∗ Pipeline.scopedRest (Pipeline.pin (pcfgs (F := F)) a 1).spec c) := rfl

/-- The call holds each of its arrays whole. -/
theorem gemm_share (n : ℕ) (c : Dev nD) (w) : (gemmRs V a n 1 c).share w = fullShare := by
  unfold Pipeline.RDat.share; exact ite_self _

/-- The call leaves its inputs as they were. -/
theorem gemm_in (n : ℕ) (c : Dev nD) (w : Fin 5) (hw : ((cfgG a).win w).isOut = false) (G) (h : (gemmR V a n c).ArrAt w (cfgG a).N G) :
    G = V (Proc.devRef .tc (Pipeline.arrRef (cfgG a).spec w)) := by
  obtain ⟨X, -, hG⟩ := h.exists_exact
  rw [hG (Function.update (fun _ _ _ => Classical.arbitrary _) w X) (fun u _ _ => congrFun (Function.update_self ..) u)]
  exact ((gemmR V a n c).withAfter (Function.update (fun _ _ _ => Classical.arbitrary _) w X)).arrAt_in w hw _

/-- What the call does not touch stays. -/
theorem gemm_rest (c : Dev nD) (ys) :
    (Pipeline.unscopedRestP pre2 spec2 c (fun b => V (Proc.devRef .tc b)) : sProp 𝕄) = Pipeline.unscopedRestP pre2 spec2 c fun b => gemmOut V ys (Proc.devRef .tc b) := by
  unfold Pipeline.unscopedRestP
  refine bigSep_congr fun b hb => ?_
  have hne : b ≠ Pipeline.arrRef spec2 4 := fun h => (Finset.mem_sdiff.mp (Finset.mem_sdiff.mp hb).1).2 (Finset.mem_image.mpr ⟨4, Finset.mem_univ _, h.symm⟩)
  exact congrArg (fun f => iprop((c.tc : Thread nD τ).loc b ↦{fullShare} f)) (gemmOut_ne V ys fun h => hne (Proc.devRef_injective _ h)).symm

/-- The TensorCore's program steps over the grouped MLP's call. -/
theorem gemm_step (hT : ∀ k, (a 1).1 k = V (Proc.devRef .tc (pre2.ref k)))
    (P : (K (F := F)).Pay (N := 2) (nD := nD) (Val := Elt F) (Name := ℕ) (U := UU)) [SparseCore.Cfg.Pay.IsStorable P]
    (n : ℕ) (d : Dev nD) (κ : GSem nD τ sig → ℕ) (Q : PUnit → sProp 𝕄) :
    iprop((K (F := F)).ctx EH P κ ∗ (K (F := F)).tcSt EH d n ∗ boundary (SparseCore.T d)
        ∗ StableHlo.held (SparseCore.T d) (Pipeline.ucRefs τ sig) V ∗ callGhost a 1 d
        ∗ (iprop((K (F := F)).tcSt EH d n ∗ boundary (SparseCore.T d)
            ∗ (∃ ys, ⌜GoodYs V a ys⌝ ∗ StableHlo.held (SparseCore.T d) (Pipeline.ucRefs τ sig) (gemmOut V ys))) -∗ Q ⟨⟩))
      ⊢ wp frame (wpE ((K (F := F)).defs (D (F := F))) 𝒱 (SparseCore.T d) none) Set.univ
          (Prog.lift (.customCall (SparseCore.inner (Pipeline.entry 1)) ())) Q := by
  refine call_step a P 1 n d κ _ _ Q fun Q' => ?_
  refine BIBase.Entails.trans ?_ (Pipeline.RDat.RegionSeg.wp (pcfgs (F := F)) a (gemmRs V a n) none (cellOf_inj a) EP defs₀ 𝒱₀ (K (F := F)).L (K (F := F)).lev
    (segRel a (gemmRs V a n) 1 n (launch2 (F := F)).to₀ (fun c => gemm_obligation V a n c) (fun _ _ => rfl) (fun _ _ => rfl) (gemm_inv V a n)
      (fun c => StableHlo.held (c.tc : Thread nD τ) (Pipeline.ucRefs τ sig) V)
      (fun c => iprop(∃ ys, ⌜GoodYs V a ys⌝ ∗ StableHlo.held (c.tc : Thread nD τ) (Pipeline.ucRefs τ sig) (gemmOut V ys)))
      (fun c => Pipeline.unscopedRestP pre2 spec2 c fun b => V (Proc.devRef .tc b))
      (fun c => ?_) (fun c => ?_)) d none (fun _ h => nomatch h) pure Q')
  · exact .rfl
  · rw [← Pipeline.unscopedBufs_held]
    refine (Pipeline.RDat.arrays_of_unscopedBufs (p := 1) (pcfgs (F := F)) a (gemmRs V a n) (launch2 (F := F)).win (launch2 (F := F)).arr_whole c
      (gemm_share V a n c) _ fun _ => rfl).trans (sep_mono .rfl ?_)
    refine (Entails.of_eq (Pipeline.unscopedRest_split preFacts2 c _)).trans (sep_mono (Entails.of_eq ?_) .rfl)
    exact congrArg (Pipeline.prefHeld pre2 c (fun _ => fullShare)) (funext fun k => (hT k).symm)
  · rw [Pipeline.RDat.arraysAt_eq (p := 1) (pcfgs (F := F)) a (gemmRs V a n) c (launch2 (F := F)).arr_whole (gemm_share V a n c), bigSep_W2]
    iintro ⟨⟨⟨%F0, %h0, H0⟩, ⟨%F1, %h1, H1⟩, ⟨%F2, %h2, H2⟩, ⟨%F3, %h3, H3⟩, ⟨%F4, %h4, H4⟩⟩, HT, HR⟩
    iexists F4
    isplitr
    · ipureintro; exact gemm_out V a n c F4 h4
    rw [← Pipeline.unscopedBufs_held, Pipeline.unscopedBufs_split (Pipeline.pin (pcfgs (F := F)) a) 1 (launch2 (F := F)).win.arr_unscoped (launch2 (F := F)).win.arr_inj c, bigSep_W2]
    isplitl [H0 H1 H2 H3 H4]
    · isplitl [H0]; · iapply (Entails.of_eq (congrArg (fun f => iprop((c.tc : Thread nD τ).loc main_v57 ↦{fullShare} f)) ((gemm_in V a n c 0 rfl F0 h0).trans (gemmOut_ne V F4 (b := Proc.devRef .tc main_v57) (by decide)).symm))) $$ [H0]; iexact H0
      isplitl [H1]; · iapply (Entails.of_eq (congrArg (fun f => iprop((c.tc : Thread nD τ).loc main_arg2 ↦{fullShare} f)) ((gemm_in V a n c 1 rfl F1 h1).trans (gemmOut_ne V F4 (b := Proc.devRef .tc main_arg2) (by decide)).symm))) $$ [H1]; iexact H1
      isplitl [H2]; · iapply (Entails.of_eq (congrArg (fun f => iprop((c.tc : Thread nD τ).loc main_arg3 ↦{fullShare} f)) ((gemm_in V a n c 2 rfl F2 h2).trans (gemmOut_ne V F4 (b := Proc.devRef .tc main_arg3) (by decide)).symm))) $$ [H2]; iexact H2
      isplitl [H3]; · iapply (Entails.of_eq (congrArg (fun f => iprop((c.tc : Thread nD τ).loc main_arg4 ↦{fullShare} f)) ((gemm_in V a n c 3 rfl F3 h3).trans (gemmOut_ne V F4 (b := Proc.devRef .tc main_arg4) (by decide)).symm))) $$ [H3]; iexact H3
      iapply (Entails.of_eq (congrArg (fun f => iprop((c.tc : Thread nD τ).loc main_v60 ↦{fullShare} f)) (gemmOut_self V F4).symm)) $$ [H4]; iexact H4
    · iapply (Entails.of_eq (Pipeline.unscopedRest_split preFacts2 c _).symm)
      isplitl [HT]
      · iapply (Entails.of_eq (congrArg (Pipeline.prefHeld pre2 c (fun _ => fullShare)) (funext fun k => (hT k).trans (gemmOut_ne V F4 (by revert k; decide)).symm))) $$ [HT]; iexact HT
      · iapply (Entails.of_eq (gemm_rest V c F4)) $$ [HR]; iexact HR

end Cert.Proof.Moe

end
-- ==== Proof.Tables.lean ====
/-
  The experts that the router names are below eight, and what that makes of the grouped call's table.
-/
module

public import proofs.«01_k».proof.Proof.Dispatch
public import proofs.«01_k».proof.Proof.Gemm

@[expose] public section

set_option backward.isDefEq.respectTransparency.types false

noncomputable section

namespace Cert.Proof.Moe

open Cert.KernelIdeal Cert.KernelIdeal.Gen
open Idealize.ShloMosaic Idealize.ShloMosaic.ValueIdx Idealize.ShloMosaic.Routing

variable {F : FTy → Type} [FloatOps F]

/-- The reducer's place is one of its two operands'. -/
theorem argmax_snd (a b : F .f32 × BitVec 32) : (reducer_argmax_f32_i32 a b).2 = a.2 ∨ (reducer_argmax_f32_i32 a b).2 = b.2 := by
  unfold reducer_argmax_f32_i32
  show Scalar.select _ a.2 b.2 = _ ∨ Scalar.select _ a.2 b.2 = _
  unfold Scalar.select
  split
  · exact Or.inl rfl
  · exact Or.inr rfl

/-- A fold of the reducer over places below eight, from one, ends below eight. -/
theorem argmax_fold (l : List (F .f32 × BitVec 32)) (hl : ∀ p ∈ l, p.2.toNat < 8) (b : F .f32 × BitVec 32) (hb : b.2.toNat < 8) :
    (l.foldl reducer_argmax_f32_i32 b).2.toNat < 8 := by
  induction l generalizing b with
  | nil => exact hb
  | cons q l ih =>
    refine ih (fun p hp => hl p (List.mem_cons_of_mem _ hp)) _ ?_
    rcases argmax_snd b q with h | h
    · rw [h]; exact hb
    · rw [h]; exact hl q List.mem_cons_self

/-- The place of a row's largest entry is below eight. -/
theorem argOf_lt (p : S2048x8.Idx → Elt F .f32) (j : S2048.Idx) : (argOf p j).toNat < 8 := by
  have hf : ∀ q ∈ Host.argReduceFiber p (iotaInDim S2048x8 32 1) reducesTo_S2048x8_S2048_d1 j, q.2.toNat < 8 := by
    intro q hq
    obtain ⟨n, -, rfl⟩ := List.mem_map.1 hq
    show (BitVec.ofNat 32 ((S2048x8.rowMajor.symm n) 1).val).toNat < 8
    have := ((S2048x8.rowMajor.symm n) 1).isLt
    change _ < 8 at this
    rw [BitVec.toNat_ofNat]; omega
  unfold argOf
  by_cases h : 2 ≤ (Host.argReduceNaNs p (iotaInDim S2048x8 32 1) reducesTo_S2048x8_S2048_d1 j).length
  · have := Host.argReduce_mem_nans reducer_argmax_f32_i32 p (iotaInDim S2048x8 32 1) (constant S_ .f32 0xFF800000#32) (constantI S_ 32 0#32)
      reducesTo_S2048x8_S2048_d1 h_S_ j h
    exact hf _ ((Host.mem_argReduceNaNs_iff ..).1 this).1
  · rw [Host.argReduce_apply_eq_reduce2 _ _ _ _ _ _ _ _ (by omega), Host.reduce2_eq_foldl_fiber]
    exact argmax_fold _ hf _ (show (0#32 : BitVec 32).toNat < 8 by decide)

/-- The list of assignments at a first choice. -/
theorem flatOf_low (e1 e2 : S2048.Idx → BitVec 32) (n : Fin 4096) (t : Fin 2048) (h : n.val = t.val) : flatOf e1 e2 (ValueIdx.ix1 n) = e1 (ValueIdx.ix1 t) :=
  concatenate_pair_apply_left (t := S4096) (s₁ := S2048) (s₂ := S2048) (0 : Fin 1) _ _ _ _ rfl (ValueIdx.ix1 t) fun b => by
    match b with | 0 => exact h.symm

/-- The list of assignments at a second choice. -/
theorem flatOf_high (e1 e2 : S2048.Idx → BitVec 32) (n : Fin 4096) (t : Fin 2048) (h : n.val = 2048 + t.val) : flatOf e1 e2 (ValueIdx.ix1 n) = e2 (ValueIdx.ix1 t) :=
  concatenate_pair_apply_right (t := S4096) (s₁ := S2048) (s₂ := S2048) (0 : Fin 1) _ _ _ _ rfl rfl (ValueIdx.ix1 t)
    (fun b hb => by match b with | 0 => exact absurd rfl hb) (by show t.val + 2048 = n.val; omega)

/-- The experts of the list are below eight. -/
theorem flatOf_ok (e1 e2 : S2048.Idx → BitVec 32) (h1 : ∀ j, (e1 j).toNat < 8) (h2 : ∀ j, (e2 j).toNat < 8) : FlatOk (flatOf e1 e2) := by
  intro n
  by_cases h : n.val < 2048
  · rw [flatOf_low e1 e2 n ⟨n.val, h⟩ rfl]; exact h1 _
  · rw [flatOf_high e1 e2 n ⟨n.val - 2048, by have := n.isLt; omega⟩ (by show n.val = 2048 + (n.val - 2048); omega)]; exact h2 _

/-- The table of the grouped call, read off the list of experts. -/
def tabM (fl : IVec S4096 32) : IVec S24 32 := tblOf (beOf (finOf fl)) (finOf fl)

variable {fl : IVec S4096 32} (hf : FlatOk fl)

include hf in
/-- A block's word of the table is its expert. -/
theorem tabM_low (b : Fin 24) (hb : b.val < 23) : tabM fl (ValueIdx.ix1 b) = BitVec.ofNat 32 (min (Nat.count (fun k => stN (gOf fl) (k + 1) ≤ b.val) 8) 7) :=
  (concatenate_pair_apply_left (t := S24) (s₁ := S23) (s₂ := S1) (0 : Fin 1) _ _ concatenates_S23_S1_S24_d0 _ rfl (ValueIdx.ix1 (⟨b.val, hb⟩ : Fin 23)) fun c => by
    match c with | 0 => rfl).trans (beOf_apply hf ⟨b.val, hb⟩)

include hf in
/-- The last word of the table is the count of the blocks in use. -/
theorem tabM_last : tabM fl (ValueIdx.ix1 (23 : Fin 24)) = BitVec.ofNat 32 (stN (gOf fl) 8) :=
  (concatenate_pair_apply_right (t := S24) (s₁ := S23) (s₂ := S1) (0 : Fin 1) _ _ concatenates_S23_S1_S24_d0 _ rfl rfl (ValueIdx.ix1 (0 : Fin 1))
    (fun b hb => by match b with | 0 => exact absurd rfl hb) rfl).trans ((congrArg (finOf fl) (funext fun a => Fin.ext (by
      match a with | 0 => rfl))).trans (finOf_apply hf 7))

include hf in
/-- A block’s word of the table is at most seven. -/
theorem tabM_toNat (b : Fin 24) (hb : b.val < 23) : (tabM fl (ValueIdx.ix1 b)).toNat ≤ 7 := by
  rw [tabM_low hf b hb, BitVec.toNat_ofNat]
  exact (Nat.mod_le _ _).trans (Nat.min_le_right _ _)

/-- The table as what the call prefetches. -/
def contM (fl : IVec S4096 32) : pre2.Contents (Elt F) := fun | 0 => tabM fl | ⟨_ + 1, h⟩ => absurd h (Nat.not_lt.2 (Nat.le_add_left _ _))

include hf in
/-- The table’s word at a step. -/
theorem contM_at (i : grid2.Coords) :
    ((contM (F := F) fl).at (0 : Fin 1) (Rect.unit (s := S24) (k2_off1 i) S1.size (k2_off1_inb i)) numel1_S1 : BitVec 32).toNat ≤ 7 := by
  have h : k2_off1 i 0 < 23 := by revert i; decide +kernel
  have e : ((contM (F := F) fl).at (0 : Fin 1) (Rect.unit (s := S24) (k2_off1 i) S1.size (k2_off1_inb i)) numel1_S1 : BitVec 32)
      = tabM fl (ValueIdx.ix1 (⟨k2_off1 i 0, by omega⟩ : Fin 24)) := by
    refine congrArg (tabM fl) (funext fun (b : Fin 1) => Fin.ext ?_)
    match b with
    | 0 => rfl
  rw [e]; exact tabM_toNat hf _ h

include hf in
/-- The table's blocks are inside the matrices. -/
theorem contM_ok : ok2 (contM (F := F) fl) := by
  have h := contM_at (F := F) hf
  refine ⟨fun i => ⟨fun a => ?_, Or.inl rfl⟩, fun i => ⟨fun a => ?_, Or.inl rfl⟩, fun i => ⟨fun a => ?_, Or.inl rfl⟩⟩
  all_goals
    have h' := h i
    match a with
    | 0 =>
      refine (Nat.mul_le_mul_right 1 (Nat.add_le_add_right (show _ ≤ 7 from h') 1)).trans ?_
      decide
    | 1 => exact Nat.le_refl _
    | 2 => exact Nat.le_refl _

/-- The tables of the three calls. -/
def admM (fl : IVec S4096 32) (hf : FlatOk fl) : (p : Fin 3) → (pcfgs (F := F) p).Adm
  | 0 => ⟨fun k => k.elim0, trivial⟩
  | 1 => ⟨contM fl, contM_ok hf⟩
  | 2 => ⟨fun k => k.elim0, trivial⟩

/-- The table that the grouped call reads. -/
theorem admM_tab : tabOf (admM (F := F) fl hf) = tabM fl := rfl

/-- A step’s coordinate is its number. -/
theorem coords2_val : ∀ t : Fin grid2.N, ((grid2.coords t) 0).val = t.val := by decide +kernel

include hf in
/-- An assignment's block: below 23, in use, its expert the assignment's. -/
theorem asg_block (n : Fin 4096) : ∃ hb : destN (gOf fl) n.val / 256 < 23,
    live (F := F) (grid2.coords (⟨destN (gOf fl) n.val / 256, lt_of_lt_of_eq hb N_2.symm⟩ : Fin grid2.N)) (tabM fl)
    ∧ (tabM fl (ValueIdx.ix1 (⟨destN (gOf fl) n.val / 256, by omega⟩ : Fin 24))).toNat = gOf fl n.val := by
  have hg := gOf_lt hf n.val
  obtain ⟨h1, h2⟩ := destN_block (gOf fl) n.isLt
  have h8 := stN_eight (gOf fl) (gOf_lt hf)
  have hm := stN_mono (gOf fl) (show gOf fl n.val + 1 ≤ 8 by omega)
  have hb : destN (gOf fl) n.val / 256 < 23 := by omega
  refine ⟨hb, ?_, ?_⟩
  · show k2_cond1 _ (tabM fl (ValueIdx.ix1 (23 : Fin 24))) = 1#1
    rw [tabM_last hf]
    have hc : ((grid2.coords (⟨destN (gOf fl) n.val / 256, lt_of_lt_of_eq hb N_2.symm⟩ : Fin grid2.N)) 0).val = destN (gOf fl) n.val / 256 := by
      exact coords2_val _
    unfold k2_cond1
    have hs : (Scalar.cmpi .slt (BitVec.ofNat 32 ((grid2.coords (⟨destN (gOf fl) n.val / 256, lt_of_lt_of_eq hb N_2.symm⟩ : Fin grid2.N)) 0).val)
        (BitVec.ofNat 32 (stN (gOf fl) 8)) : BitVec 1) = 1#1 := by
      rw [hc]
      exact (StableHlo.Predicate.slt_ofNat_iff _ _ (by omega) (by omega)).2 (by omega)
    show Scalar.cmpi .ne (Scalar.extui (Scalar.cmpi .slt (BitVec.ofNat 32 _) (BitVec.ofNat 32 (stN (gOf fl) 8)) : BitVec 1) : BitVec 32) 0#32 = 1#1
    rw [hs]; decide
  · rw [tabM_low hf _ hb, count_ends (b := destN (gOf fl) n.val / 256) (gOf fl) hg (by omega) (by omega), BitVec.toNat_ofNat]
    omega

end Cert.Proof.Moe

end
-- ==== Proof.ScScatter.lean ====
/-
  The scatter call's task on one tile: two chunks of 64 assignments, each one's slots and token rows fetched and the rows
  sent to the sorted array, two sublanes at a time.
-/
module

public import proofs.«01_k».proof.Proof.ScValues

@[expose] public section

set_option backward.isDefEq.respectTransparency.types false

noncomputable section

namespace Cert.Proof.Moe

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 2) (Elt F) ℕ UU ℕ

section Issue

variable (d : Dev nD) (cc : Fin τ.nSC) (ss : Fin τ.nSub)
variable (c : Fin 2) (s : Fin 16) (r : Fin 2) (dest : S4096.Idx → BitVec 32)

/-- The rows that a list names lie in the array. -/
theorem list_inb (hd : DestOk dest) (l : S64.Idx → BitVec 32)
    (hl : ∀ k : Fin 64, l (ix1 k) = dest (asg (cbase c s r + k.val) (by have := cbase_le c s r; have := k.isLt; omega))) :
    ∀ x, (l x).toNat < S5888x2x128.size gathers_S5888x2x128_S64x2x128.axis := by
  intro x
  have e : l x = dest _ := (congrArg l (eq_ix1 (n := 64) x)).trans (hl (x 0))
  exact (congrArg BitVec.toNat e).trans_lt (hd.lt _)

set_option maxHeartbeats 1000000 in
/-- One stream of a chunk: it takes the chunk's share of a slab of the sorted array and brings it back at the sorted
    array's value, the tile's buffer and list with it. -/
theorem scatter_issue (hd : DestOk dest) (xp : S2048x8x128.Idx → Elt F .f32) (f0 : S5888x8x128.Idx → Elt F .f32)
    (l : Buf (Elt F) ((V d cc ss : Thread nD τ).loc cc1_scratch0)) (fs : Buf (Elt F) ((V d cc ss : Thread nD τ).loc cc1_scratch1))
    (hl : ∀ k : Fin 64, l (ix1 k) = dest (asg (cbase c s r + k.val) (by have := cbase_le c s r; have := k.isLt; omega)))
    (hfs : ∀ (k : Fin 64) (y1 : Fin 8) (y2 : Fin 128), fs (ix3 k y1 y2) = xp (ix3 (tokOf (asg (cbase c s r + k.val) (by have := cbase_le c s r; have := k.isLt; omega))) y1 y2))
    (o : ℕ) (h) (h64) (ho : o + 2 ≤ 8) {α : Type} {k : PUnit → Prog (TpuEff nD τ sig (Elt F) Λ₀ (V d cc ss : Thread nD τ).2) α} {Q : α → sProp 𝕄} :
    iprop(((V d cc ss : Thread nD τ).loc cc1_scratch1 ↦{fullShare} fs) ∗ (xsLoc d ↦[SX dest c s r o]{fullShare} f0)
        ∗ ((V d cc ss : Thread nD τ).loc cc1_scratch0 ↦{fullShare} l) ∗ semVal ((V d cc ss : Thread nD τ), SemLoc.dma cc1_scratch2.sem) 0)
      ⊢ iprop((Transfers.Flight countersEmb (V d cc ss) (.dma cc1_scratch2.sem) (default : HIx 2) (slab64 rowsM o h64).view.dmaCredit
                iprop(((V d cc ss : Thread nD τ).loc cc1_scratch1 ↦{fullShare} fs) ∗ (xsLoc d ↦[SX dest c s r o]{fullShare} (scatVal dest xp f0 : S5888x8x128.Idx → Elt F .f32))
                  ∗ ((V d cc ss : Thread nD τ).loc cc1_scratch0 ↦{fullShare} l))
              -∗ wp frame (wpE (defs₀ (F := F)) 𝒱₀ (V d cc ss) none) Set.univ (k ⟨⟩) Q)
          -∗ wp frame (wpE (defs₀ (F := F)) 𝒱₀ (V d cc ss) none) Set.univ
            (SparseCore.enqueueIndirectScatter rfl (slab64 rowsM o h64) (slab xsM o h) gathers_S5888x2x128_S64x2x128 idxM rfl cc1_scratch2.sem rfl (Or.inl rfl) >>= k) Q) := by
  have hin := list_inb c s r dest hd l hl
  have hn : S64.numel = S64x2x128.size gathers_S5888x2x128_S64x2x128.axis' := rfl
  have hin' : ∀ x, ((idxM).view.read (Elt F) l x).toNat < S5888x2x128.size gathers_S5888x2x128_S64x2x128.axis := hin
  have hinj : Function.Injective (SparseCore.rows ((idxM).view.read (Elt F) l) hn hin') := listRows_inj (F := F) c s r dest hd l hl hin
  have hset : SparseCore.namedRows (V d cc ss) (slab xsM o h).view gathers_S5888x2x128_S64x2x128.axis (listRows (F := F) l hin) = SX dest c s r o := by
    ext x
    rw [mem_slab_rows (F := F) c s r dest l hl hin o h ho x, SparseCore.namedRows_eq]
    simp only [Finset.mem_biUnion, Finset.mem_univ, true_and]; exact Iff.rfl
  have hi : (idxM).view.set = Finset.univ := View.set_whole _
  have hval : ((slab xsM o h).view.loc (V d cc ss) ↦[SparseCore.namedRows (V d cc ss) (slab xsM o h).view gathers_S5888x2x128_S64x2x128.axis
        (SparseCore.rows ((idxM).view.read (Elt F) l) hn hin')]{fullShare}
        (SparseCore.scatterBuf (V d cc ss) (slab xsM o h).view gathers_S5888x2x128_S64x2x128.axis (SparseCore.rows ((idxM).view.read (Elt F) l) hn hin')
          (SparseCore.scatterRowPayload (V d cc ss) (slab64 rowsM o h64) gathers_S5888x2x128_S64x2x128 fs) f0) : sProp 𝕄)
      = xsLoc d ↦[SX dest c s r o]{fullShare} (scatVal dest xp f0 : S5888x8x128.Idx → Elt F .f32) := by
    rw [show SparseCore.namedRows (V d cc ss) (slab xsM o h).view gathers_S5888x2x128_S64x2x128.axis
        (SparseCore.rows ((idxM).view.read (Elt F) l) hn hin') = SX dest c s r o from hset]
    exact pointsTo_congr (ℓ := xsLoc d) fun x hx => scatterBuf_slab (F := F) c s r dest hd d cc ss xp f0 l hl fs hfs hin o h h64 ho f0 x hx
  iintro ⟨Hr, Hx, Hl, Hv⟩ Hk
  ihave Hr' := (pointsTo_split_subset (q := fullShare) (f := fs) (Finset.subset_univ (slab64 rowsM o h64).view.set)).1 $$ Hr
  icases Hr' with ⟨Hr, Hrest⟩
  ihave Hx' := (Entails.of_eq (show (xsLoc d ↦[SX dest c s r o]{fullShare} f0 : sProp 𝕄)
    = (slab xsM o h).view.loc (V d cc ss) ↦[SparseCore.namedRows (V d cc ss) (slab xsM o h).view gathers_S5888x2x128_S64x2x128.axis (SparseCore.rows ((idxM).view.read (Elt F) l) hn hin')]{fullShare} f0 by
      rw [show SparseCore.namedRows (V d cc ss) (slab xsM o h).view gathers_S5888x2x128_S64x2x128.axis
        (SparseCore.rows ((idxM).view.read (Elt F) l) hn hin') = SX dest c s r o from hset])) $$ Hx
  ihave Hl' := (Entails.of_eq (show ((V d cc ss : Thread nD τ).loc cc1_scratch0 ↦{fullShare} l : sProp 𝕄)
    = (idxM).view.loc (V d cc ss) ↦[(idxM).view.set]{fullShare} l by rw [hi])) $$ Hl
  iapply (SparseCore.wp_indirectScatterLocal countersEmb 𝒱₀ (V d cc ss) none (src := slab64 rowsM o h64) (dst := slab xsM o h)
    (hg := gathers_S5888x2x128_S64x2x128) (offs := idxM) (hn := hn) (fs := fs) (fd := f0) (fo := l) (default : HIx 2) (slab64 rowsM o h64).view.dmaCredit (by decide) hin' hinj
    (SparseCore.sum_scatterCredit_eq_srcCredit (V d cc ss) (slab64 rowsM o h64) (slab xsM o h) gathers_S5888x2x128_S64x2x128 rfl _ (fun _ => rfl) (fun _ => rfl))) $$ [Hr Hx' Hl' Hv]
  · isplitl [Hr]; · iexact Hr
    isplitl [Hx']; · iexact Hx'
    isplitl [Hl']; · iexact Hl'
    iexact Hv
  iintro Hfl
  iapply Hk
  ihave Hfl' := (Transfers.Flight_frame countersEmb (V d cc ss)) $$ [Hrest Hfl]
  · isplitl [Hrest]; · iexact Hrest
    iexact Hfl
  iapply (Transfers.Flight_mono countersEmb (V d cc ss) ?_) $$ Hfl'
  iintro ⟨Hrest, Hx, Hr, Hl⟩
  isplitl [Hrest Hr]
  · iapply (pointsTo_split_subset (q := fullShare) (f := fs) (Finset.subset_univ (slab64 rowsM o h64).view.set)).2
    isplitl [Hr]; · iexact Hr
    iexact Hrest
  isplitl [Hx]
  · iapply (Entails.of_eq hval) $$ Hx
  · iapply (Entails.of_eq (show ((idxM).view.loc (V d cc ss) ↦[(idxM).view.set]{fullShare} l : sProp 𝕄)
      = ((V d cc ss : Thread nD τ).loc cc1_scratch0 ↦{fullShare} l) by rw [hi])) $$ Hl

end Issue

/-! ## The task -/

section Tile

variable (d : Dev nD) (L : grid1.Coords)

abbrev cV (L : grid1.Coords) : Fin τ.nSC := (L 0).castLE hcore1
abbrev jV (L : grid1.Coords) : Fin τ.nSub := (L 1).castLE hsub1
/-- The tile's SparseCore and subcore numbers. -/
abbrev cL (L : grid1.Coords) : Fin 2 := L 0
abbrev sL (L : grid1.Coords) : Fin 16 := L 1

abbrev xpM : Memref sig .scVector .hbm S2048x8x128 .f32 := Memref.whole main_v1_2_scv
abbrev destM : Memref sig .scVector .hbm S4096 .i32 := Memref.whole main_v45_scv

/-- The chunk's list of slots and its token rows, as the task addresses them. -/
abbrev dSl0 (L : grid1.Coords) : Memref sig .scVector .hbm S64 .i32 := destM.slice (Rect.unit (s := S4096) (k1_off1 L 0#32) S64.size (k1_off1_inb L 0)) (fun _ => rfl)
abbrev dSl1 (L : grid1.Coords) : Memref sig .scVector .hbm S64 .i32 := destM.slice (Rect.unit (s := S4096) (k1_off1 L 64#32) S64.size (k1_off1_inb L 1)) (fun _ => rfl)
abbrev xSl0 (L : grid1.Coords) : Memref sig .scVector .hbm S64x8x128 .f32 := xpM.slice (Rect.unit (s := S2048x8x128) (k1_off2 L 0#32) S64x8x128.size (k1_off2_inb L 0)) (fun _ => rfl)
abbrev xSl1 (L : grid1.Coords) : Memref sig .scVector .hbm S64x8x128 .f32 := xpM.slice (Rect.unit (s := S2048x8x128) (k1_off2 L 64#32) S64x8x128.size (k1_off2_inb L 1)) (fun _ => rfl)

/-- The chunk's list read off the slots. -/
theorem dSl_read (r : Fin 2) (h) (dest : S4096.Idx → Elt F .i32) (k : Fin 64) :
    (destM.slice (Rect.unit (s := S4096) (k1_off1 L (BitVec.ofNat 32 (64 * r.val))) S64.size h) (fun _ => rfl)).view.read (Elt F) dest (ix1 k)
      = dest (asg (cbase (cL L) (sL L) r + k.val) (by have := cbase_le (cL L) (sL L) r; have := k.isLt; omega)) := by
  show dest ((Rect.unit (s := S4096) (k1_off1 L (BitVec.ofNat 32 (64 * r.val))) S64.size h).emb (ix1 k)) = _
  congr 1
  funext a; apply Fin.ext
  match a with
  | ⟨0, _⟩ =>
    show k1_off1 L (BitVec.ofNat 32 (64 * r.val)) 0 + 1 * k.val = 256 * (L 1).val + 128 * (L 0).val + 64 * r.val + k.val
    rw [k1_off1_eq]; simp

/-- The chunk's token rows read off the tokens. -/
theorem xSl_read (r : Fin 2) (h) (xp : S2048x8x128.Idx → Elt F .f32) (k : Fin 64) (y1 : Fin 8) (y2 : Fin 128) :
    (xpM.slice (Rect.unit (s := S2048x8x128) (k1_off2 L (BitVec.ofNat 32 (64 * r.val))) S64x8x128.size h) (fun _ => rfl)).view.read (Elt F) xp (ix3 k y1 y2)
      = xp (ix3 (tokOf (asg (cbase (cL L) (sL L) r + k.val) (by have := cbase_le (cL L) (sL L) r; have := k.isLt; omega))) y1 y2) := by
  show xp ((Rect.unit (s := S2048x8x128) (k1_off2 L (BitVec.ofNat 32 (64 * r.val))) S64x8x128.size h).emb (ix3 k y1 y2)) = _
  congr 1
  funext a; apply Fin.ext
  match a with
  | ⟨0, _⟩ =>
    show k1_off2 L (BitVec.ofNat 32 (64 * r.val)) 0 + 1 * k.val = (256 * (L 1).val + 128 * (L 0).val + 64 * r.val + k.val) % 2048
    rw [k1_off2_eq]
    have := (L 0).isLt; have := (L 1).isLt; have := k.isLt; have := r.isLt
    simp; omega
  | ⟨1, _⟩ =>
    show k1_off2 L (BitVec.ofNat 32 (64 * r.val)) 1 + 1 * y1.val = y1.val
    rw [k1_off2_eq]; simp
  | ⟨2, _⟩ =>
    show k1_off2 L (BitVec.ofNat 32 (64 * r.val)) 2 + 1 * y2.val = y2.val
    rw [k1_off2_eq]; simp

abbrev semS (d : Dev nD) (c : Fin τ.nSC) (i : Fin τ.nSub) : GSem nD τ sig := (V d c i, .dma cc1_scratch2.sem)
abbrev semA (d : Dev nD) (c : Fin τ.nSC) (i : Fin τ.nSub) : GSem nD τ sig := (V d c i, .dma cc1_scoped0.sem)
abbrev semB (d : Dev nD) (c : Fin τ.nSC) (i : Fin τ.nSub) : GSem nD τ sig := (V d c i, .dma cc1_scoped1.sem)
abbrev semC (d : Dev nD) (c : Fin τ.nSC) (i : Fin τ.nSub) : GSem nD τ sig := (V d c i, .dma cc1_scoped2.sem)
abbrev semD (d : Dev nD) (c : Fin τ.nSC) (i : Fin τ.nSub) : GSem nD τ sig := (V d c i, .dma cc1_scoped3.sem)

/-- The call's five semaphores are among the subcore's own. -/
theorem ownSems0_V :
    (ownSems0 (V d (cV L) (jV L)) : sProp 𝕄)
      = iprop(semVal (semS d (cV L) (jV L)) 0 ∗ semVal (semA d (cV L) (jV L)) 0 ∗ semVal (semB d (cV L) (jV L)) 0 ∗ semVal (semC d (cV L) (jV L)) 0 ∗ semVal (semD d (cV L) (jV L)) 0
          ∗ bigSep ((((((ownCells (V d (cV L) (jV L))).erase (semS d (cV L) (jV L))).erase (semA d (cV L) (jV L))).erase (semB d (cV L) (jV L))).erase (semC d (cV L) (jV L))).erase (semD d (cV L) (jV L))) fun g => semVal g 0) := by
  unfold SparseCore.Cfg.ownSems0
  have hS := (mem_ownCells (thr := V d (cV L) (jV L)) (g := semS d (cV L) (jV L))).mpr ⟨rfl, by show (SemLoc.dma cc1_scratch2.sem : SemLoc sig).isScoped .scVector = true; decide⟩
  have hA := (mem_ownCells (thr := V d (cV L) (jV L)) (g := semA d (cV L) (jV L))).mpr ⟨rfl, by show (SemLoc.dma cc1_scoped0.sem : SemLoc sig).isScoped .scVector = true; decide⟩
  have hB := (mem_ownCells (thr := V d (cV L) (jV L)) (g := semB d (cV L) (jV L))).mpr ⟨rfl, by show (SemLoc.dma cc1_scoped1.sem : SemLoc sig).isScoped .scVector = true; decide⟩
  have hC := (mem_ownCells (thr := V d (cV L) (jV L)) (g := semC d (cV L) (jV L))).mpr ⟨rfl, by show (SemLoc.dma cc1_scoped2.sem : SemLoc sig).isScoped .scVector = true; decide⟩
  have hD := (mem_ownCells (thr := V d (cV L) (jV L)) (g := semD d (cV L) (jV L))).mpr ⟨rfl, by show (SemLoc.dma cc1_scoped3.sem : SemLoc sig).isScoped .scVector = true; decide⟩
  have ne : ∀ a b : SemLoc sig, a ≠ b → ((V d (cV L) (jV L), a) : GSem nD τ sig) ≠ (V d (cV L) (jV L), b) := fun a b h e => h (congrArg Prod.snd e)
  rw [SparseCore.bigSep_erase' hS,
    SparseCore.bigSep_erase' (Finset.mem_erase.mpr ⟨ne _ _ (by decide), hA⟩),
    SparseCore.bigSep_erase' (Finset.mem_erase.mpr ⟨ne _ _ (by decide), Finset.mem_erase.mpr ⟨ne _ _ (by decide), hB⟩⟩),
    SparseCore.bigSep_erase' (Finset.mem_erase.mpr ⟨ne _ _ (by decide), Finset.mem_erase.mpr ⟨ne _ _ (by decide), Finset.mem_erase.mpr ⟨ne _ _ (by decide), hC⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), hD⟩⟩⟩⟩)]

/-- The call's two scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The chunk's list of slots, -/
def chunkList {E : Type} (dest : S4096.Idx → E) (c : Fin 2) (s : Fin 16) (r : Fin 2) : S64.Idx → E :=
  fun x => dest (asg (cbase c s r + (x 0).val) (by have := cbase_le c s r; have : (x 0).val < 64 := (x 0).isLt; omega))
/-- and its token rows. -/
def chunkRows {E : Type} (xp : S2048x8x128.Idx → E) (c : Fin 2) (s : Fin 16) (r : Fin 2) : S64x8x128.Idx → E :=
  fun x => xp (ix3 (tokOf (asg (cbase c s r + (x 0).val) (by have := cbase_le c s r; have : (x 0).val < 64 := (x 0).isLt; omega))) (x 1) (x 2))

/-- The list’s buffer after the copy holds the list. -/
theorem write_list (r : Fin 2) (h) (dest : S4096.Idx → Elt F .i32) (fs : S64.Idx → Elt F .i32) :
    View.write (Elt F) (idxM).view fs ((destM.slice (Rect.unit (s := S4096) (k1_off1 L (BitVec.ofNat 32 (64 * r.val))) S64.size h) (fun _ => rfl)).view.read (Elt F) dest) Finset.univ
      = chunkList dest (cL L) (sL L) r := by
  refine (View.write_whole_univ _ _ _).trans (funext fun x => ?_)
  exact (congrArg _ (eq_ix1 (n := 64) x)).trans (dSl_read (F := F) L r h dest (x 0))

/-- The rows’ buffer after the copy holds the rows. -/
theorem write_rows (r : Fin 2) (h) (xp : S2048x8x128.Idx → Elt F .f32) (fs : S64x8x128.Idx → Elt F .f32) :
    View.write (Elt F) (rowsM).view fs ((xpM.slice (Rect.unit (s := S2048x8x128) (k1_off2 L (BitVec.ofNat 32 (64 * r.val))) S64x8x128.size h) (fun _ => rfl)).view.read (Elt F) xp) Finset.univ
      = chunkRows xp (cL L) (sL L) r := by
  refine (View.write_whole_univ _ _ _).trans (funext fun x => ?_)
  exact (congrArg _ (eq_ix3 (n0 := 64) (n1 := 8) (n2 := 128) x)).trans (xSl_read (F := F) L r h xp (x 0) (x 1) (x 2))

/-- A tile's share of the sorted array: its two chunks' rows, in the four slabs. -/
def xsPieces (d : Dev nD) (dest : S4096.Idx → BitVec 32) (c : Fin 2) (s : Fin 16) (f : S5888x8x128.Idx → Elt F .f32) : sProp 𝕄 :=
  bigSep (Finset.univ : Finset (Fin 2 × Fin 4)) fun p => iprop(xsLoc d ↦[SX dest c s p.1 (2 * p.2.val)]{fullShare} f)

/-- A tile’s part of the sorted array is its eight pieces. -/
theorem xsPieces_eq (dest : S4096.Idx → BitVec 32) (c : Fin 2) (s : Fin 16) (f : S5888x8x128.Idx → Elt F .f32) :
    xsPieces (F := F) d dest c s f = iprop((xsLoc d ↦[SX dest c s 0 0]{fullShare} f) ∗ (xsLoc d ↦[SX dest c s 0 2]{fullShare} f) ∗ (xsLoc d ↦[SX dest c s 0 4]{fullShare} f) ∗ (xsLoc d ↦[SX dest c s 0 6]{fullShare} f)
      ∗ (xsLoc d ↦[SX dest c s 1 0]{fullShare} f) ∗ (xsLoc d ↦[SX dest c s 1 2]{fullShare} f) ∗ (xsLoc d ↦[SX dest c s 1 4]{fullShare} f) ∗ (xsLoc d ↦[SX dest c s 1 6]{fullShare} f)) :=
  bigSep_univ_eq_bigSepL [((0, 0) : Fin 2 × Fin 4), (0, 1), (0, 2), (0, 3), (1, 0), (1, 1), (1, 2), (1, 3)] (by decide) (by decide) _

set_option maxHeartbeats 4000000 in
/-- The scatter's task on one tile. -/
theorem scatter_body (hF : (K (F := F)).Facts) (dest : S4096.Idx → BitVec 32) (hd : DestOk dest) (xp : S2048x8x128.Idx → Elt F .f32) (f0 : S5888x8x128.Idx → Elt F .f32)
    (qd qx : PosShare TreeShare) (O : CellTallies nD τ sig (HIx 2)) (W : Waits sig (HIx 2)) (hO : ∀ g, O g none = 0) :
    iprop(levAts (K (F := F)).L (K (F := F)).lev ∗ emp
        ∗ ((destLoc d ↦{qd} dest) ∗ (xpLoc d ↦{qx} xp) ∗ xsPieces (F := F) d dest (cL L) (sL L) f0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_scatter_body L xpM (Memref.isWhole_whole _) destM (Memref.isWhole_whole _) xsM (Memref.isWhole_whole _)
            idxM (Memref.isWhole_whole _) rowsM (Memref.isWhole_whole _) cc1_scratch2 cc1_scoped0 cc1_scoped1 cc1_scoped2 cc1_scoped3)
          fun _ => iprop(((destLoc d ↦{qd} dest) ∗ (xpLoc d ↦{qx} xp) ∗ xsPieces (F := F) d dest (cL L) (sL L) (scatVal dest xp f0))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_scatter_body_eq_skeleton]; unfold cc1__sc_scatter_body_skel
  rw [(K (F := F)).scopedBufs_V hF d (cV L) (jV L), SparseCore.Cfg.scopedSems0_V (Val := Elt F) d (cV L) (jV L), ownSems0_V, ownBufs_V, xsPieces_eq, xsPieces_eq]
  iintro ⟨#Hlv, -, ⟨Hd, Hx, H00, H02, H04, H06, H10, H12, H14, H16⟩, ⟨⟨%fs, Hs⟩, ⟨%fr, Hr⟩, Hbufs⟩, ⟨HsemS, HsemA, HsemB, HsemC, HsemD, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hd' := (Entails.of_eq (show (destLoc d ↦{qd} dest : sProp 𝕄) = (destM).view.loc (V d (cV L) (jV L)) ↦{qd} dest from rfl)) $$ Hd
  ihave Hx' := (Entails.of_eq (show (xpLoc d ↦{qx} xp : sProp 𝕄) = (xpM).view.loc (V d (cV L) (jV L)) ↦{qx} xp from rfl)) $$ Hx
  ihave Hs' := (Entails.of_eq (show ((V d (cV L) (jV L)).loc cc1_scratch0 ↦{fullShare} fs : sProp 𝕄) = (idxM).view.loc (V d (cV L) (jV L)) ↦{fullShare} fs from rfl)) $$ Hs
  ihave Hr' := (Entails.of_eq (show ((V d (cV L) (jV L)).loc cc1_scratch1 ↦{fullShare} fr : sProp 𝕄) = (rowsM).view.loc (V d (cV L) (jV L)) ↦{fullShare} fr from rfl)) $$ Hr
  sl_exec
  ihave Hs := (Entails.of_eq (show ((idxM).view.loc (V d (cV L) (jV L)) ↦{fullShare} View.write (Elt F) (idxM).view fs (scatter_body.sl.dma0 L dest) Finset.univ : sProp 𝕄)
    = (V d (cV L) (jV L)).loc cc1_scratch0 ↦{fullShare} chunkList dest (cL L) (sL L) 0 from congrArg _ (write_list (F := F) L 0 _ dest fs))) $$ Hs'
  ihave Hr := (Entails.of_eq (show ((rowsM).view.loc (V d (cV L) (jV L)) ↦{fullShare} View.write (Elt F) (rowsM).view fr (scatter_body.sl.dma0_1 L xp) Finset.univ : sProp 𝕄)
    = (V d (cV L) (jV L)).loc cc1_scratch1 ↦{fullShare} chunkRows xp (cL L) (sL L) 0 from congrArg _ (write_rows (F := F) L 0 _ xp fr))) $$ Hr'
  iapply (scatter_issue (F := F) d (cV L) (jV L) (cL L) (sL L) 0 dest hd xp f0 (chunkList dest (cL L) (sL L) 0) (chunkRows xp (cL L) (sL L) 0)
    (fun _ => rfl) (fun _ _ _ => rfl) 0 _ _ (by norm_num)) $$ [Hr H00 Hs HsemS]
  · isplitl [Hr]; · iexact Hr
    isplitl [H00]; · iexact H00
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H00, Hs⟩, HsemS, HO⟩
  sl_exec
  iapply (scatter_issue (F := F) d (cV L) (jV L) (cL L) (sL L) 0 dest hd xp f0 (chunkList dest (cL L) (sL L) 0) (chunkRows xp (cL L) (sL L) 0)
    (fun _ => rfl) (fun _ _ _ => rfl) 2 _ _ (by norm_num)) $$ [Hr H02 Hs HsemS]
  · isplitl [Hr]; · iexact Hr
    isplitl [H02]; · iexact H02
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H02, Hs⟩, HsemS, HO⟩
  sl_exec
  iapply (scatter_issue (F := F) d (cV L) (jV L) (cL L) (sL L) 0 dest hd xp f0 (chunkList dest (cL L) (sL L) 0) (chunkRows xp (cL L) (sL L) 0)
    (fun _ => rfl) (fun _ _ _ => rfl) 4 _ _ (by norm_num)) $$ [Hr H04 Hs HsemS]
  · isplitl [Hr]; · iexact Hr
    isplitl [H04]; · iexact H04
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H04, Hs⟩, HsemS, HO⟩
  sl_exec
  iapply (scatter_issue (F := F) d (cV L) (jV L) (cL L) (sL L) 0 dest hd xp f0 (chunkList dest (cL L) (sL L) 0) (chunkRows xp (cL L) (sL L) 0)
    (fun _ => rfl) (fun _ _ _ => rfl) 6 _ _ (by norm_num)) $$ [Hr H06 Hs HsemS]
  · isplitl [Hr]; · iexact Hr
    isplitl [H06]; · iexact H06
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H06, Hs⟩, HsemS, HO⟩
  ihave Hs' := (Entails.of_eq (show ((V d (cV L) (jV L)).loc cc1_scratch0 ↦{fullShare} chunkList dest (cL L) (sL L) 0 : sProp 𝕄) = (idxM).view.loc (V d (cV L) (jV L)) ↦{fullShare} chunkList dest (cL L) (sL L) 0 from rfl)) $$ Hs
  ihave Hr' := (Entails.of_eq (show ((V d (cV L) (jV L)).loc cc1_scratch1 ↦{fullShare} chunkRows xp (cL L) (sL L) 0 : sProp 𝕄) = (rowsM).view.loc (V d (cV L) (jV L)) ↦{fullShare} chunkRows xp (cL L) (sL L) 0 from rfl)) $$ Hr
  sl_exec
  ihave Hs := (Entails.of_eq (show ((idxM).view.loc (V d (cV L) (jV L)) ↦{fullShare} View.write (Elt F) (idxM).view (chunkList dest (cL L) (sL L) 0) (scatter_body.sl.dma0_2 L dest) Finset.univ : sProp 𝕄)
    = (V d (cV L) (jV L)).loc cc1_scratch0 ↦{fullShare} chunkList dest (cL L) (sL L) 1 from congrArg _ (write_list (F := F) L 1 _ dest _))) $$ Hs'
  ihave Hr := (Entails.of_eq (show ((rowsM).view.loc (V d (cV L) (jV L)) ↦{fullShare} View.write (Elt F) (rowsM).view (chunkRows xp (cL L) (sL L) 0) (scatter_body.sl.dma0_3 L xp) Finset.univ : sProp 𝕄)
    = (V d (cV L) (jV L)).loc cc1_scratch1 ↦{fullShare} chunkRows xp (cL L) (sL L) 1 from congrArg _ (write_rows (F := F) L 1 _ xp _))) $$ Hr'
  iapply (scatter_issue (F := F) d (cV L) (jV L) (cL L) (sL L) 1 dest hd xp f0 (chunkList dest (cL L) (sL L) 1) (chunkRows xp (cL L) (sL L) 1)
    (fun _ => rfl) (fun _ _ _ => rfl) 0 _ _ (by norm_num)) $$ [Hr H10 Hs HsemS]
  · isplitl [Hr]; · iexact Hr
    isplitl [H10]; · iexact H10
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H10, Hs⟩, HsemS, HO⟩
  sl_exec
  iapply (scatter_issue (F := F) d (cV L) (jV L) (cL L) (sL L) 1 dest hd xp f0 (chunkList dest (cL L) (sL L) 1) (chunkRows xp (cL L) (sL L) 1)
    (fun _ => rfl) (fun _ _ _ => rfl) 2 _ _ (by norm_num)) $$ [Hr H12 Hs HsemS]
  · isplitl [Hr]; · iexact Hr
    isplitl [H12]; · iexact H12
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H12, Hs⟩, HsemS, HO⟩
  sl_exec
  iapply (scatter_issue (F := F) d (cV L) (jV L) (cL L) (sL L) 1 dest hd xp f0 (chunkList dest (cL L) (sL L) 1) (chunkRows xp (cL L) (sL L) 1)
    (fun _ => rfl) (fun _ _ _ => rfl) 4 _ _ (by norm_num)) $$ [Hr H14 Hs HsemS]
  · isplitl [Hr]; · iexact Hr
    isplitl [H14]; · iexact H14
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H14, Hs⟩, HsemS, HO⟩
  sl_exec
  iapply (scatter_issue (F := F) d (cV L) (jV L) (cL L) (sL L) 1 dest hd xp f0 (chunkList dest (cL L) (sL L) 1) (chunkRows xp (cL L) (sL L) 1)
    (fun _ => rfl) (fun _ _ _ => rfl) 6 _ _ (by norm_num)) $$ [Hr H16 Hs HsemS]
  · isplitl [Hr]; · iexact Hr
    isplitl [H16]; · iexact H16
    isplitl [Hs]; · iexact Hs
    iexact HsemS
  iintro Hfl
  sl_exec
  iapply (Transfers.wp_waitLocalO countersEmb 𝒱₀ (V d (cV L) (jV L)) none (default : HIx 2) (rfl : _ = _)) $$ [Hfl HO]
  · isplitl [Hfl]; · iexact Hfl
    isplitl [HO]; · iexact HO
    iapply (Transfers.MayWaits.elim (SemLoc.dma cc1_scratch2.sem)) $$ Hmw
  iintro ⟨⟨Hr, H16, Hs⟩, HsemS, HO⟩
  sl_exec
  sl_step
  isplitl [Hd' Hx' H00 H02 H04 H06 H10 H12 H14 H16]
  · isplitl [Hd']; · iexact Hd'
    isplitl [Hx']; · iexact Hx'
    isplitl [H00]; · iexact H00
    isplitl [H02]; · iexact H02
    isplitl [H04]; · iexact H04
    isplitl [H06]; · iexact H06
    isplitl [H10]; · iexact H10
    isplitl [H12]; · iexact H12
    isplitl [H14]; · iexact H14
    iexact H16
  isplitl [Hs Hr Hbufs]
  · isplitl [Hs]; · iexists _; iexact Hs
    isplitl [Hr]; · iexists _; iexact Hr
    iexact Hbufs
  isplitl [HsemS HsemA HsemB HsemC HsemD Hsems]
  · isplitl [HsemS]; · iexact HsemS
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  repeat (rcases Finset.mem_insert.mp hp with hp | hp; · exact .inr (hp ▸ rfl))
  exact .inl hp

end Tile

end Cert.Proof.Moe

end
-- ==== Proof.ScGather.lean ====
/-
  The gather call's task on one tile: two chunks of 64 assignments, each one's slots fetched, the experts' rows at those slots
  brought in, two sublanes at a time, and the chunk written out.
-/
module

public import proofs.«01_k».proof.Proof.ScScatter

@[expose] public section

set_option backward.isDefEq.respectTransparency.types false

noncomputable section

namespace Cert.Proof.Moe

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 2) (Elt F) ℕ UU ℕ

section Values

/-- The experts' rows in the order of the assignments. -/
def gathVal {E : Type} (dest : S4096.Idx → BitVec 32) (ys : S5888x8x128.Idx → E) : S4096x8x128.Idx → E :=
  fun x => ys (ix3 (⟨(dest (ix1 (x 0))).toNat % 5888, Nat.mod_lt _ (by norm_num)⟩ : Fin 5888) (x 1) (x 2))

variable (c : Fin 2) (s : Fin 16) (r : Fin 2) (dest : S4096.Idx → BitVec 32)

/-- The rows of the gathered array that chunk `r` of tile `(c, s)` fills. -/
def PY (c : Fin 2) (s : Fin 16) (r : Fin 2) : Finset S4096x8x128.Idx :=
  Finset.univ.filter fun x => cbase c s r ≤ (x 0).val ∧ (x 0).val < cbase c s r + 64

/-- The rows of a chunk. -/
theorem mem_PY {c : Fin 2} {s : Fin 16} {r : Fin 2} {x : S4096x8x128.Idx} : x ∈ PY c s r ↔ cbase c s r ≤ (x 0).val ∧ (x 0).val < cbase c s r + 64 := by
  unfold PY; simp only [Finset.mem_filter, Finset.mem_univ, true_and]

abbrev ysM : Memref sig .scVector .hbm S5888x8x128 .f32 := Memref.whole main_v60_scv
abbrev y12M : Memref sig .scVector .hbm S4096x8x128 .f32 := Memref.whole main_v61_scv
abbrev rowsG : Memref sig .scVector .vmem S64x8x128 .f32 := Memref.whole cc3_scratch1
abbrev idxG : Memref sig .scVector .vmem S64 .i32 := Memref.whole cc3_scratch0

/-- The tile's buffer once the sublanes below `o` are gathered. -/
def gmix {E : Type} (ys : S5888x8x128.Idx → E) (fr : S64x8x128.Idx → E) (o : ℕ) : S64x8x128.Idx → E :=
  fun x => if (x 1).val < o then
    ys (ix3 (⟨(dest (asg (cbase c s r + (x 0).val) (by have := cbase_le c s r; have : (x 0).val < 64 := (x 0).isLt; omega))).toNat % 5888, Nat.mod_lt _ (by norm_num)⟩ : Fin 5888) (x 1) (x 2)) else fr x

/-- A stream of the chunk's list fills the next two sublanes. -/
theorem gather_slab (hd : DestOk dest) (ys : S5888x8x128.Idx → Elt F .f32) (fr : S64x8x128.Idx → Elt F .f32) (l : S64.Idx → BitVec 32)
    (hl : ∀ k : Fin 64, l (ix1 k) = dest (asg (cbase c s r + k.val) (by have := cbase_le c s r; have := k.isLt; omega))) (hin) (o : ℕ) (h) (h64) (ho : o + 2 ≤ 8) :
    View.write (Elt F) (slab64 rowsG o h64).view (gmix c s r dest ys fr o)
        (SparseCore.gatherPayload gathers_S5888x2x128_S64x2x128 ((slab ysM o h).view.read (Elt F) ys) (listRows (F := F) l hin)) Finset.univ
      = gmix c s r dest ys fr (o + 2) := by
  funext x
  have hx1 : (x 1).val < 8 := (x 1).isLt
  by_cases hx : o ≤ (x 1).val ∧ (x 1).val < o + 2
  · have hy : (slab64 rowsG o h64).view.emb (ix3 (x 0) (⟨(x 1).val - o, by omega⟩ : Fin 2) (x 2) : S64x2x128.Idx) = x := by
      rw [slab64_emb rowsG o h64 _ (by show o + ((x 1).val - o) < 8; omega)]
      show (ix3 _ _ _ : S64x8x128.Idx) = _
      funext a; apply Fin.ext
      match a with
      | ⟨0, _⟩ => rfl
      | ⟨1, _⟩ => show o + ((x 1).val - o) = (x 1).val; omega
      | ⟨2, _⟩ => rfl
    have e := View.write_emb_of_mem (Val := Elt F) (v := (slab64 rowsG o h64).view) (gmix c s r dest ys fr o)
      (SparseCore.gatherPayload gathers_S5888x2x128_S64x2x128 ((slab ysM o h).view.read (Elt F) ys) (listRows (F := F) l hin))
      (Finset.mem_univ (ix3 (x 0) (⟨(x 1).val - o, by omega⟩ : Fin 2) (x 2) : S64x2x128.Idx))
    rw [hy] at e
    refine e.trans ?_
    unfold gmix
    rw [if_pos hx.2]
    show ys ((slab ysM o h).view.emb (gathers_S5888x2x128_S64x2x128.idx (listRows (F := F) l hin) (ix3 (x 0) (⟨(x 1).val - o, by omega⟩ : Fin 2) (x 2) : S64x2x128.Idx))) = _
    congr 1
    rw [slab_emb ysM o h _ (by show o + ((x 1).val - o) < 8; omega)]
    show (ix3 _ _ _ : S5888x8x128.Idx) = _
    funext a; apply Fin.ext
    match a with
    | ⟨0, _⟩ =>
      show (listRows (F := F) l hin (x 0)).val = _
      rw [listRows_val, hl]
      exact (Nat.mod_eq_of_lt (hd.lt _)).symm
    | ⟨1, _⟩ => show o + ((x 1).val - o) = (x 1).val; omega
    | ⟨2, _⟩ => rfl
  · have e := View.write_of_not_mem (Val := Elt F) (v := (slab64 rowsG o h64).view) (gmix c s r dest ys fr o)
      (SparseCore.gatherPayload gathers_S5888x2x128_S64x2x128 ((slab ysM o h).view.read (Elt F) ys) (listRows (F := F) l hin)) Finset.univ (i := x) (by
        intro hm
        obtain ⟨y, -, hy⟩ := Finset.mem_map.mp hm
        have hy1 : (y 1).val < 2 := (y 1).isLt
        rw [slab64_emb rowsG o h64 y (by omega)] at hy
        have : o + (y 1).val = (x 1).val := congrArg (fun z : S64x8x128.Idx => (z 1).val) hy
        omega)
    refine e.trans ?_
    unfold gmix
    by_cases h1 : (x 1).val < o
    · rw [if_pos h1, if_pos (by omega)]
    · rw [if_neg h1, if_neg (by omega)]

end Values

section Issue

variable (d : Dev nD) (cc : Fin τ.nSC) (ss : Fin τ.nSub)
variable (c : Fin 2) (s : Fin 16) (r : Fin 2) (dest : S4096.Idx → BitVec 32)

set_option maxHeartbeats 1000000 in
/-- One stream of a chunk, bringing two sublanes of the rows at the chunk's slots into the tile's buffer. -/
theorem gather_issue (hd : DestOk dest) (ys : S5888x8x128.Idx → Elt F .f32) (q : PosShare TreeShare)
    (l : Buf (Elt F) ((V d cc ss : Thread nD τ).loc cc3_scratch0)) (fr : Buf (Elt F) ((V d cc ss : Thread nD τ).loc cc3_scratch1))
    (hl : ∀ k : Fin 64, l (ix1 k) = dest (asg (cbase c s r + k.val) (by have := cbase_le c s r; have := k.isLt; omega)))
    (o : ℕ) (h) (h64) (ho : o + 2 ≤ 8) {α : Type} {k : PUnit → Prog (TpuEff nD τ sig (Elt F) Λ₀ (V d cc ss : Thread nD τ).2) α} {Q : α → sProp 𝕄} :
    iprop(((V d cc ss : Thread nD τ).loc cc3_scratch1 ↦{fullShare} gmix c s r dest ys fr o) ∗ (ysLoc d ↦{q} ys)
        ∗ ((V d cc ss : Thread nD τ).loc cc3_scratch0 ↦{fullShare} l) ∗ semVal ((V d cc ss : Thread nD τ), SemLoc.dma cc3_scratch2.sem) 0)
      ⊢ iprop((Transfers.Flight countersEmb (V d cc ss) (.dma cc3_scratch2.sem) (default : HIx 2) (slab64 rowsG o h64).view.dmaCredit
                iprop(((V d cc ss : Thread nD τ).loc cc3_scratch1 ↦{fullShare} gmix c s r dest ys fr (o + 2)) ∗ (ysLoc d ↦{q} ys)
                  ∗ ((V d cc ss : Thread nD τ).loc cc3_scratch0 ↦{fullShare} l))
              -∗ wp frame (wpE (defs₀ (F := F)) 𝒱₀ (V d cc ss) none) Set.univ (k ⟨⟩) Q)
          -∗ wp frame (wpE (defs₀ (F := F)) 𝒱₀ (V d cc ss) none) Set.univ
            (SparseCore.enqueueIndirectGather rfl (slab ysM o h) (slab64 rowsG o h64) gathers_S5888x2x128_S64x2x128 idxG rfl cc3_scratch2.sem (View.wordExact_bits rfl) rfl (Or.inl rfl) >>= k) Q) := by
  have hin := list_inb c s r dest hd l hl
  have hn : S64.numel = S64x2x128.size gathers_S5888x2x128_S64x2x128.axis' := rfl
  have hin' : ∀ x, ((idxG).view.read (Elt F) l x).toNat < S5888x2x128.size gathers_S5888x2x128_S64x2x128.axis := hin
  have hi : (idxG).view.set = Finset.univ := View.set_whole _
  have hval : View.write (Elt F) (slab64 rowsG o h64).view (gmix c s r dest ys fr o)
        (SparseCore.gatherPayload gathers_S5888x2x128_S64x2x128 ((slab ysM o h).view.read (Elt F) ys) (SparseCore.rows ((idxG).view.read (Elt F) l) hn hin')) Finset.univ
      = gmix c s r dest ys fr (o + 2) := gather_slab c s r dest hd ys fr l hl hin o h h64 ho
  have hrest : ((slab64 rowsG o h64).view.loc (V d cc ss) ↦[Finset.univ \ (slab64 rowsG o h64).view.set]{fullShare} gmix c s r dest ys fr o : sProp 𝕄)
      = (slab64 rowsG o h64).view.loc (V d cc ss) ↦[Finset.univ \ (slab64 rowsG o h64).view.set]{fullShare} gmix c s r dest ys fr (o + 2) :=
    pointsTo_congr fun x hx => (View.write_of_not_mem (Val := Elt F) (v := (slab64 rowsG o h64).view) (gmix c s r dest ys fr o) _ Finset.univ (Finset.mem_sdiff.mp hx).2).symm.trans (congrFun hval x)
  iintro ⟨Hr, Hx, Hl, Hv⟩ Hk
  ihave Hr' := (pointsTo_split_subset (ℓ := (slab64 rowsG o h64).view.loc (V d cc ss)) (q := fullShare) (f := gmix c s r dest ys fr o) (Finset.subset_univ (slab64 rowsG o h64).view.set)).1 $$ Hr
  icases Hr' with ⟨Hr, Hrest⟩
  ihave Hrest := (Entails.of_eq hrest) $$ Hrest
  ihave Hx' := (pointsTo_split_subset (ℓ := (slab ysM o h).view.loc (V d cc ss)) (q := q) (f := ys) (Finset.subset_univ (slab ysM o h).view.set)).1 $$ Hx
  icases Hx' with ⟨Hx, Hxrest⟩
  ihave Hl' := (Entails.of_eq (show ((V d cc ss : Thread nD τ).loc cc3_scratch0 ↦{fullShare} l : sProp 𝕄)
    = (idxG).view.loc (V d cc ss) ↦[(idxG).view.set]{fullShare} l by rw [hi])) $$ Hl
  iapply (SparseCore.wp_indirectGatherLocal countersEmb 𝒱₀ (V d cc ss) none (src := slab ysM o h) (dst := slab64 rowsG o h64)
    (hg := gathers_S5888x2x128_S64x2x128) (offs := idxG) (hn := hn) (fs := ys) (fd := gmix c s r dest ys fr o) (fo := l) (default : HIx 2) (slab64 rowsG o h64).view.dmaCredit
    (SparseCore.sum_rowCredit_eq_dmaCredit (slab64 rowsG o h64) gathers_S5888x2x128_S64x2x128.axis' (fun _ => rfl)) (by decide) hin') $$ [Hr Hx Hl' Hv]
  · isplitl [Hx]; · iexact Hx
    isplitl [Hr]; · iexact Hr
    isplitl [Hl']; · iexact Hl'
    iexact Hv
  iintro Hfl
  iapply Hk
  ihave Hfl' := (Transfers.Flight_frame countersEmb (V d cc ss)) $$ [Hrest Hfl]
  · isplitl [Hrest]; · iexact Hrest
    iexact Hfl
  ihave Hfl := (Transfers.Flight_frame countersEmb (V d cc ss)) $$ [Hxrest Hfl']
  · isplitl [Hxrest]; · iexact Hxrest
    iexact Hfl'
  iapply (Transfers.Flight_mono countersEmb (V d cc ss) ?_) $$ Hfl
  iintro ⟨Hxrest, Hrest, Hr, Hx, Hl⟩
  isplitl [Hrest Hr]
  · iapply (pointsTo_split_subset (ℓ := (slab64 rowsG o h64).view.loc (V d cc ss)) (q := fullShare) (f := gmix c s r dest ys fr (o + 2)) (Finset.subset_univ (slab64 rowsG o h64).view.set)).2
    isplitl [Hr]
    · iapply (Entails.of_eq (show ((slab64 rowsG o h64).view.loc (V d cc ss) ↦[(slab64 rowsG o h64).view.set]{fullShare}
          View.write (Elt F) (slab64 rowsG o h64).view (gmix c s r dest ys fr o)
            (SparseCore.gatherPayload gathers_S5888x2x128_S64x2x128 ((slab ysM o h).view.read (Elt F) ys) (SparseCore.rows ((idxG).view.read (Elt F) l) hn hin')) Finset.univ : sProp 𝕄) = _ from congrArg _ hval)) $$ Hr
    iexact Hrest
  isplitl [Hx Hxrest]
  · iapply (pointsTo_split_subset (ℓ := (slab ysM o h).view.loc (V d cc ss)) (q := q) (f := ys) (Finset.subset_univ (slab ysM o h).view.set)).2
    isplitl [Hx]; · iexact Hx
    iexact Hxrest
  · iapply (Entails.of_eq (show ((idxG).view.loc (V d cc ss) ↦[(idxG).view.set]{fullShare} l : sProp 𝕄)
      = ((V d cc ss : Thread nD τ).loc cc3_scratch0 ↦{fullShare} l) by rw [hi])) $$ Hl

end Issue

/-! ## The task -/

section Tile

variable (d : Dev nD) (L : grid3.Coords)

abbrev cW (L : grid3.Coords) : Fin τ.nSC := (L 0).castLE hcore3
abbrev jW (L : grid3.Coords) : Fin τ.nSub := (L 1).castLE hsub3
abbrev cG (L : grid3.Coords) : Fin 2 := L 0
abbrev sG (L : grid3.Coords) : Fin 16 := L 1

/-- The chunk's rows of the gathered array, as the task addresses them. -/
abbrev ySl0 (L : grid3.Coords) : Memref sig .scVector .hbm S64x8x128 .f32 := y12M.slice (Rect.unit (s := S4096x8x128) (k3_off2 L 0#32) S64x8x128.size (k3_off2_inb L 0)) (fun _ => rfl)
abbrev ySl1 (L : grid3.Coords) : Memref sig .scVector .hbm S64x8x128 .f32 := y12M.slice (Rect.unit (s := S4096x8x128) (k3_off2 L 64#32) S64x8x128.size (k3_off2_inb L 1)) (fun _ => rfl)

/-- An index of a chunk in the whole array. -/
theorem ySl_emb (r : Fin 2) (h) (y : S64x8x128.Idx) :
    (y12M.slice (Rect.unit (s := S4096x8x128) (k3_off2 L (BitVec.ofNat 32 (64 * r.val))) S64x8x128.size h) (fun _ => rfl)).view.emb y
      = (ix3 (⟨cbase (cG L) (sG L) r + (y 0).val, by have := cbase_le (cG L) (sG L) r; have : (y 0).val < 64 := (y 0).isLt; omega⟩ : Fin 4096) (y 1) (y 2) : S4096x8x128.Idx) := by
  show (Rect.unit (s := S4096x8x128) (k3_off2 L (BitVec.ofNat 32 (64 * r.val))) S64x8x128.size h).emb y = _
  funext a; apply Fin.ext
  match a with
  | ⟨0, _⟩ =>
    show k3_off2 L (BitVec.ofNat 32 (64 * r.val)) 0 + 1 * (y 0).val = 256 * (L 1).val + 128 * (L 0).val + 64 * r.val + (y 0).val
    rw [k3_off2_eq]; simp
  | ⟨1, _⟩ =>
    show k3_off2 L (BitVec.ofNat 32 (64 * r.val)) 1 + 1 * (y 1).val = (y 1).val
    rw [k3_off2_eq]; simp
  | ⟨2, _⟩ =>
    show k3_off2 L (BitVec.ofNat 32 (64 * r.val)) 2 + 1 * (y 2).val = (y 2).val
    rw [k3_off2_eq]; simp

/-- The indices of a chunk. -/
theorem ySl_set (r : Fin 2) (h) :
    (y12M.slice (Rect.unit (s := S4096x8x128) (k3_off2 L (BitVec.ofNat 32 (64 * r.val))) S64x8x128.size h) (fun _ => rfl)).view.set = PY (cG L) (sG L) r := by
  ext x
  constructor
  · intro hx
    obtain ⟨y, -, rfl⟩ := Finset.mem_map.mp hx
    rw [ySl_emb]
    have : (y 0).val < 64 := (y 0).isLt
    refine mem_PY.mpr ⟨?_, ?_⟩
    · show cbase _ _ _ ≤ cbase _ _ _ + _; omega
    · show cbase _ _ _ + _ < cbase _ _ _ + 64; omega
  · intro hx
    obtain ⟨h1, h2⟩ := mem_PY.mp hx
    have e := ySl_emb L r h (ix3 (⟨(x 0).val - cbase (cG L) (sG L) r, by omega⟩ : Fin 64) (x 1) (x 2))
    have : (ix3 (⟨cbase (cG L) (sG L) r + ((x 0).val - cbase (cG L) (sG L) r), by have : (x 0).val < 4096 := (x 0).isLt; omega⟩ : Fin 4096) (x 1) (x 2) : S4096x8x128.Idx) = x := by
      funext a; apply Fin.ext
      match a with
      | ⟨0, _⟩ => show cbase (cG L) (sG L) r + ((x 0).val - cbase (cG L) (sG L) r) = (x 0).val; omega
      | ⟨1, _⟩ => rfl
      | ⟨2, _⟩ => rfl
    rw [← this]
    exact e ▸ View.emb_mem_set _ _

/-- The chunk written out is the gathered array there. -/
theorem write_out (r : Fin 2) (h) (dest : S4096.Idx → Elt F .i32) (ys : S5888x8x128.Idx → Elt F .f32) (fr : S64x8x128.Idx → Elt F .f32) (g0 : S4096x8x128.Idx → Elt F .f32)
    (w : (Rect.whole (Rect.unit (s := S4096x8x128) (k3_off2 L (BitVec.ofNat 32 (64 * r.val))) S64x8x128.size h).shape).shape.Idx → Elt F .f32)
    (hw : ∀ y : S64x8x128.Idx, w y = gmix (cG L) (sG L) r dest ys fr 8 y) (y : S64x8x128.Idx) :
    (y12M.slice (Rect.unit (s := S4096x8x128) (k3_off2 L (BitVec.ofNat 32 (64 * r.val))) S64x8x128.size h) (fun _ => rfl)).view.writes (Elt F) g0
      [⟨Rect.whole _, w⟩] ((y12M.slice (Rect.unit (s := S4096x8x128) (k3_off2 L (BitVec.ofNat 32 (64 * r.val))) S64x8x128.size h) (fun _ => rfl)).view.emb y)
      = gathVal dest ys ((y12M.slice (Rect.unit (s := S4096x8x128) (k3_off2 L (BitVec.ofNat 32 (64 * r.val))) S64x8x128.size h) (fun _ => rfl)).view.emb y) := by
  have e : (y12M.slice (Rect.unit (s := S4096x8x128) (k3_off2 L (BitVec.ofNat 32 (64 * r.val))) S64x8x128.size h) (fun _ => rfl)).view.emb y
      = ((y12M.slice (Rect.unit (s := S4096x8x128) (k3_off2 L (BitVec.ofNat 32 (64 * r.val))) S64x8x128.size h) (fun _ => rfl)).view.slice (Rect.whole _)).emb y := by
    refine congrArg _ (funext fun a => Fin.ext ?_)
    show (y a).val = 0 + 1 * (y a).val
    omega
  rw [View.writes_singleton]
  refine (congrArg _ e).trans ?_
  refine (View.write_emb_of_mem (Val := Elt F) _ _ (Finset.mem_univ y)).trans ?_
  have h1 : (y 1).val < 8 := (y 1).isLt
  refine (hw y).trans ?_
  rw [ySl_emb]
  unfold gmix gathVal
  rw [if_pos h1]

abbrev gemS (d : Dev nD) (c : Fin τ.nSC) (i : Fin τ.nSub) : GSem nD τ sig := (V d c i, .dma cc3_scratch2.sem)
abbrev gemA (d : Dev nD) (c : Fin τ.nSC) (i : Fin τ.nSub) : GSem nD τ sig := (V d c i, .dma cc3_scoped0.sem)
abbrev gemB (d : Dev nD) (c : Fin τ.nSC) (i : Fin τ.nSub) : GSem nD τ sig := (V d c i, .dma cc3_scoped1.sem)
abbrev gemC (d : Dev nD) (c : Fin τ.nSC) (i : Fin τ.nSub) : GSem nD τ sig := (V d c i, .dma cc3_scoped2.sem)
abbrev gemD (d : Dev nD) (c : Fin τ.nSC) (i : Fin τ.nSub) : GSem nD τ sig := (V d c i, .dma cc3_scoped3.sem)

/-- The call's five semaphores are among the subcore's own. -/
theorem ownSems0_W :
    (ownSems0 (V d (cW L) (jW L)) : sProp 𝕄)
      = iprop(semVal (gemS d (cW L) (jW L)) 0 ∗ semVal (gemA d (cW L) (jW L)) 0 ∗ semVal (gemB d (cW L) (jW L)) 0 ∗ semVal (gemC d (cW L) (jW L)) 0 ∗ semVal (gemD d (cW L) (jW L)) 0
          ∗ bigSep ((((((ownCells (V d (cW L) (jW L))).erase (gemS d (cW L) (jW L))).erase (gemA d (cW L) (jW L))).erase (gemB d (cW L) (jW L))).erase (gemC d (cW L) (jW L))).erase (gemD d (cW L) (jW L))) fun g => semVal g 0) := by
  unfold SparseCore.Cfg.ownSems0
  have hS := (mem_ownCells (thr := V d (cW L) (jW L)) (g := gemS d (cW L) (jW L))).mpr ⟨rfl, by show (SemLoc.dma cc3_scratch2.sem : SemLoc sig).isScoped .scVector = true; decide⟩
  have hA := (mem_ownCells (thr := V d (cW L) (jW L)) (g := gemA d (cW L) (jW L))).mpr ⟨rfl, by show (SemLoc.dma cc3_scoped0.sem : SemLoc sig).isScoped .scVector = true; decide⟩
  have hB := (mem_ownCells (thr := V d (cW L) (jW L)) (g := gemB d (cW L) (jW L))).mpr ⟨rfl, by show (SemLoc.dma cc3_scoped1.sem : SemLoc sig).isScoped .scVector = true; decide⟩
  have hC := (mem_ownCells (thr := V d (cW L) (jW L)) (g := gemC d (cW L) (jW L))).mpr ⟨rfl, by show (SemLoc.dma cc3_scoped2.sem : SemLoc sig).isScoped .scVector = true; decide⟩
  have hD := (mem_ownCells (thr := V d (cW L) (jW L)) (g := gemD d (cW L) (jW L))).mpr ⟨rfl, by show (SemLoc.dma cc3_scoped3.sem : SemLoc sig).isScoped .scVector = true; decide⟩
  have ne : ∀ a b : SemLoc sig, a ≠ b → ((V d (cW L) (jW L), a) : GSem nD τ sig) ≠ (V d (cW L) (jW L), b) := fun a b h e => h (congrArg Prod.snd e)
  rw [SparseCore.bigSep_erase' hS,
    SparseCore.bigSep_erase' (Finset.mem_erase.mpr ⟨ne _ _ (by decide), hA⟩),
    SparseCore.bigSep_erase' (Finset.mem_erase.mpr ⟨ne _ _ (by decide), Finset.mem_erase.mpr ⟨ne _ _ (by decide), hB⟩⟩),
    SparseCore.bigSep_erase' (Finset.mem_erase.mpr ⟨ne _ _ (by decide), Finset.mem_erase.mpr ⟨ne _ _ (by decide), Finset.mem_erase.mpr ⟨ne _ _ (by decide), hC⟩⟩⟩),
    SparseCore.bigSep_erase' (Finset.mem_erase.mpr ⟨ne _ _ (by decide), Finset.mem_erase.mpr ⟨ne _ _ (by decide), Finset.mem_erase.mpr ⟨ne _ _ (by decide), Finset.mem_erase.mpr ⟨ne _ _ (by decide), hD⟩⟩⟩⟩)]

/-- The call's two scratch buffers are among the subcore's own. -/
theorem ownBufs_W :
    (ownBufs (V d (cW L) (jW L)) : sProp 𝕄)
      = iprop((∃ f, (V d (cW L) (jW L)).loc cc3_scratch0 ↦{fullShare} f) ∗ (∃ f, (V d (cW L) (jW L)).loc cc3_scratch1 ↦{fullShare} f)
          ∗ bigSep (((ownRefs (τ := τ) (.scVector (cW L) (jW L))).erase ((Proc.scVector (cW L) (jW L)).devRef cc3_scratch0)).erase
              ((Proc.scVector (cW L) (jW L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cW L) (jW L))
    (b := (Proc.scVector (cW L) (jW L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cW L) (jW L)) (b := (Proc.scVector (cW L) (jW L)).devRef cc3_scratch1) rfl⟩)]

/-- The chunk's list of slots, fetched. -/
theorem write_listG (r : Fin 2) (h) (dest : S4096.Idx → Elt F .i32) (fs : S64.Idx → Elt F .i32) :
    View.write (Elt F) (idxG).view fs ((destM.slice (Rect.unit (s := S4096) (k3_off1 L (BitVec.ofNat 32 (64 * r.val))) S64.size h) (fun _ => rfl)).view.read (Elt F) dest) Finset.univ
      = chunkList dest (cG L) (sG L) r := by
  refine (View.write_whole_univ _ _ _).trans (funext fun x => ?_)
  show dest ((Rect.unit (s := S4096) (k3_off1 L (BitVec.ofNat 32 (64 * r.val))) S64.size h).emb x) = _
  unfold chunkList
  congr 1
  funext a; apply Fin.ext
  match a with
  | ⟨0, _⟩ =>
    show k3_off1 L (BitVec.ofNat 32 (64 * r.val)) 0 + 1 * (x 0).val = 256 * (L 1).val + 128 * (L 0).val + 64 * r.val + (x 0).val
    rw [k3_off1_eq]; simp

/-- Nothing gathered yet, the buffer holds what it held. -/
theorem gmix_zero {E : Type} (c : Fin 2) (s : Fin 16) (r : Fin 2) (dest : S4096.Idx → BitVec 32) (ys : S5888x8x128.Idx → E) (fr : S64x8x128.Idx → E) :
    gmix c s r dest ys fr 0 = fr := by
  funext x; unfold gmix; rw [if_neg (Nat.not_lt_zero _)]

/-- A tile's share of the gathered array: its two chunks. -/
def y12Pieces (d : Dev nD) (c : Fin 2) (s : Fin 16) (f : S4096x8x128.Idx → Elt F .f32) : sProp 𝕄 :=
  bigSep (Finset.univ : Finset (Fin 2)) fun r => iprop(y12Loc d ↦[PY c s r]{fullShare} f)

/-- A tile’s part of the gathered array is its two chunks. -/
theorem y12Pieces_eq (c : Fin 2) (s : Fin 16) (f : S4096x8x128.Idx → Elt F .f32) :
    y12Pieces (F := F) d c s f = iprop((y12Loc d ↦[PY c s 0]{fullShare} f) ∗ (y12Loc d ↦[PY c s 1]{fullShare} f)) :=
  bigSep_univ_eq_bigSepL [(0 : Fin 2), 1] (by decide) (by decide) _

/-- Owning a chunk is owning its slice. -/
theorem pts_ySl (r : Fin 2) (h) (f : S4096x8x128.Idx → Elt F .f32) :
    ((y12M.slice (Rect.unit (s := S4096x8x128) (k3_off2 L (BitVec.ofNat 32 (64 * r.val))) S64x8x128.size h) (fun _ => rfl)).view.loc (V d (cW L) (jW L))
      ↦[(y12M.slice (Rect.unit (s := S4096x8x128) (k3_off2 L (BitVec.ofNat 32 (64 * r.val))) S64x8x128.size h) (fun _ => rfl)).view.set]{fullShare} f : sProp 𝕄)
      = y12Loc d ↦[PY (cG L) (sG L) r]{fullShare} f := by rw [ySl_set]

/-- What the copies leave in a chunk. -/
theorem out_eq (r : Fin 2) (h) (dest : S4096.Idx → Elt F .i32) (ys : S5888x8x128.Idx → Elt F .f32) (fr : S64x8x128.Idx → Elt F .f32) (g0 : S4096x8x128.Idx → Elt F .f32)
    (w : (Rect.whole (Rect.unit (s := S4096x8x128) (k3_off2 L (BitVec.ofNat 32 (64 * r.val))) S64x8x128.size h).shape).shape.Idx → Elt F .f32)
    (hw : ∀ y : S64x8x128.Idx, w y = gmix (cG L) (sG L) r dest ys fr 8 y) :
    ((y12M.slice (Rect.unit (s := S4096x8x128) (k3_off2 L (BitVec.ofNat 32 (64 * r.val))) S64x8x128.size h) (fun _ => rfl)).view.loc (V d (cW L) (jW L))
      ↦[(y12M.slice (Rect.unit (s := S4096x8x128) (k3_off2 L (BitVec.ofNat 32 (64 * r.val))) S64x8x128.size h) (fun _ => rfl)).view.set]{fullShare}
        (y12M.slice (Rect.unit (s := S4096x8x128) (k3_off2 L (BitVec.ofNat 32 (64 * r.val))) S64x8x128.size h) (fun _ => rfl)).view.writes (Elt F) g0
          [⟨Rect.whole _, w⟩] : sProp 𝕄)
      = y12Loc d ↦[PY (cG L) (sG L) r]{fullShare} gathVal dest ys := by
  rw [← pts_ySl (F := F) d L r h]
  refine pointsTo_congr fun x hx => ?_
  obtain ⟨y, -, rfl⟩ := Finset.mem_map.mp hx
  exact write_out (F := F) L r h dest ys fr g0 w hw y

set_option maxHeartbeats 4000000 in
/-- The gather's task on one tile. -/
theorem gather_body (hF : (K (F := F)).Facts) (dest : S4096.Idx → BitVec 32) (hd : DestOk dest) (ys : S5888x8x128.Idx → Elt F .f32) (g0 : S4096x8x128.Idx → Elt F .f32)
    (qd qy : PosShare TreeShare) (O : CellTallies nD τ sig (HIx 2)) (W : Waits sig (HIx 2)) (hO : ∀ g, O g none = 0) :
    iprop(levAts (K (F := F)).L (K (F := F)).lev ∗ emp
        ∗ ((destLoc d ↦{qd} dest) ∗ (ysLoc d ↦{qy} ys) ∗ y12Pieces (F := F) d (cG L) (sG L) g0)
        ∗ scopedBufs (V d (cW L) (jW L)) ∗ scopedSems0 (V d (cW L) (jW L)) ∗ owes (V d (cW L) (jW L)) O W)
      ⊢ wp frame (wpE (defs₀ (F := F)) 𝒱₀ (V d (cW L) (jW L)) none) Set.univ
          (cc3__sc_gather_body L ysM (Memref.isWhole_whole _) destM (Memref.isWhole_whole _) y12M (Memref.isWhole_whole _)
            idxG (Memref.isWhole_whole _) rowsG (Memref.isWhole_whole _) cc3_scratch2 cc3_scoped0 cc3_scoped1 cc3_scoped2 cc3_scoped3)
          fun _ => iprop(((destLoc d ↦{qd} dest) ∗ (ysLoc d ↦{qy} ys) ∗ y12Pieces (F := F) d (cG L) (sG L) (gathVal dest ys))
            ∗ scopedBufs (V d (cW L) (jW L)) ∗ scopedSems0 (V d (cW L) (jW L))
            ∗ ∃ W', ⌜∀ p ∈ W', p ∈ W ∨ p.2 = none⌝ ∗ owes (V d (cW L) (jW L)) O W') := by
  simp only [cc3__sc_gather_body_eq_skeleton]; unfold cc3__sc_gather_body_skel
  rw [(K (F := F)).scopedBufs_V hF d (cW L) (jW L), SparseCore.Cfg.scopedSems0_V (Val := Elt F) d (cW L) (jW L), ownSems0_W, ownBufs_W, y12Pieces_eq, y12Pieces_eq]
  iintro ⟨#Hlv, -, ⟨Hd, Hx, H0, H1⟩, ⟨⟨%fs, Hs⟩, ⟨%fr, Hr⟩, Hbufs⟩, ⟨HsemS, HsemA, HsemB, HsemC, HsemD, Hsems⟩, HO⟩
  ihave Hmw := (show levAts (K (F := F)).L (K (F := F)).lev ⊢ Transfers.MayWaits (V d (cW L) (jW L)) (default : HIx 2) O from
    (K (F := F)).mayWaits_none (thr := V d (cW L) (jW L)) hO) $$ Hlv
  ihave Hd' := (Entails.of_eq (show (destLoc d ↦{qd} dest : sProp 𝕄) = (destM).view.loc (V d (cW L) (jW L)) ↦{qd} dest from rfl)) $$ Hd
  ihave Hs' := (Entails.of_eq (show ((V d (cW L) (jW L)).loc cc3_scratch0 ↦{fullShare} fs : sProp 𝕄) = (idxG).view.loc (V d (cW L) (jW L)) ↦{fullShare} fs from rfl)) $$ Hs
  ihave H0' := (Entails.of_eq (pts_ySl (F := F) d L 0 (k3_off2_inb L 0) g0).symm) $$ H0
  ihave H1' := (Entails.of_eq (pts_ySl (F := F) d L 1 (k3_off2_inb L 1) g0).symm) $$ H1
  sl_exec
  ihave Hs := (Entails.of_eq (show ((idxG).view.loc (V d (cW L) (jW L)) ↦{fullShare} View.write (Elt F) (idxG).view fs (gather_body.sl.dma0 L dest) Finset.univ : sProp 𝕄)
    = (V d (cW L) (jW L)).loc cc3_scratch0 ↦{fullShare} chunkList dest (cG L) (sG L) 0 from congrArg _ (write_listG (F := F) L 0 _ dest _))) $$ Hs'
  ihave Hr := (Entails.of_eq (show ((V d (cW L) (jW L)).loc cc3_scratch1 ↦{fullShare} fr : sProp 𝕄)
    = (V d (cW L) (jW L)).loc cc3_scratch1 ↦{fullShare} gmix (cG L) (sG L) 0 dest ys (fr) 0 by rw [gmix_zero])) $$ Hr
  iapply (gather_issue (F := F) d (cW L) (jW L) (cG L) (sG L) 0 dest hd ys qy (chunkList dest (cG L) (sG L) 0) (fr)
    (fun _ => rfl) 0 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 0 dest hd ys qy (chunkList dest (cG L) (sG L) 0) (fr)
    (fun _ => rfl) 2 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 0 dest hd ys qy (chunkList dest (cG L) (sG L) 0) (fr)
    (fun _ => rfl) 4 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 0 dest hd ys qy (chunkList dest (cG L) (sG L) 0) (fr)
    (fun _ => rfl) 6 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  ihave Hr' := (Entails.of_eq (show ((V d (cW L) (jW L)).loc cc3_scratch1 ↦{fullShare} gmix (cG L) (sG L) 0 dest ys (fr) (6 + 2) : sProp 𝕄)
    = (rowsG).view.loc (V d (cW L) (jW L)) ↦{fullShare} gmix (cG L) (sG L) 0 dest ys (fr) 8 from rfl)) $$ Hr
  ihave Hs' := (Entails.of_eq (show ((V d (cW L) (jW L)).loc cc3_scratch0 ↦{fullShare} chunkList dest (cG L) (sG L) 0 : sProp 𝕄) = (idxG).view.loc (V d (cW L) (jW L)) ↦{fullShare} chunkList dest (cG L) (sG L) 0 from rfl)) $$ Hs
  sl_exec
  ihave Hr := (Entails.of_eq (show ((rowsG).view.loc (V d (cW L) (jW L)) ↦{fullShare} gmix (cG L) (sG L) 0 dest ys (fr) 8 : sProp 𝕄)
    = (V d (cW L) (jW L)).loc cc3_scratch1 ↦{fullShare} gmix (cG L) (sG L) 0 dest ys (fr) 8 from rfl)) $$ Hr'
  ihave Hs := (Entails.of_eq (show ((idxG).view.loc (V d (cW L) (jW L)) ↦{fullShare} View.write (Elt F) (idxG).view (chunkList dest (cG L) (sG L) 0) (gather_body.sl.dma0_2 L dest) Finset.univ : sProp 𝕄)
    = (V d (cW L) (jW L)).loc cc3_scratch0 ↦{fullShare} chunkList dest (cG L) (sG L) 1 from congrArg _ (write_listG (F := F) L 1 _ dest _))) $$ Hs'
  ihave Hr := (Entails.of_eq (show ((V d (cW L) (jW L)).loc cc3_scratch1 ↦{fullShare} gmix (cG L) (sG L) 0 dest ys fr 8 : sProp 𝕄)
    = (V d (cW L) (jW L)).loc cc3_scratch1 ↦{fullShare} gmix (cG L) (sG L) 1 dest ys (gmix (cG L) (sG L) 0 dest ys fr 8) 0 by rw [gmix_zero])) $$ Hr
  iapply (gather_issue (F := F) d (cW L) (jW L) (cG L) (sG L) 1 dest hd ys qy (chunkList dest (cG L) (sG L) 1) (gmix (cG L) (sG L) 0 dest ys fr 8)
    (fun _ => rfl) 0 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 1 dest hd ys qy (chunkList dest (cG L) (sG L) 1) (gmix (cG L) (sG L) 0 dest ys fr 8)
    (fun _ => rfl) 2 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 1 dest hd ys qy (chunkList dest (cG L) (sG L) 1) (gmix (cG L) (sG L) 0 dest ys fr 8)
    (fun _ => rfl) 4 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  sl_exec
  iapply (gather_issue (F := F) d (cW L) (jW L) (cG L) (sG L) 1 dest hd ys qy (chunkList dest (cG L) (sG L) 1) (gmix (cG L) (sG L) 0 dest ys fr 8)
    (fun _ => rfl) 6 _ _ (by norm_num)) $$ [Hr Hx Hs HsemS]
  · isplitl [Hr]; · iexact Hr
    isplitl [Hx]; · iexact Hx
    isplitl [Hs]; · iexact Hs
    iexact HsemS
  iintro Hfl
  sl_exec
  iapply (Transfers.wp_waitLocalO countersEmb 𝒱₀ (V d (cW L) (jW L)) none (default : HIx 2) (rfl : _ = _)) $$ [Hfl HO]
  · isplitl [Hfl]; · iexact Hfl
    isplitl [HO]; · iexact HO
    iapply (Transfers.MayWaits.elim (SemLoc.dma cc3_scratch2.sem)) $$ Hmw
  iintro ⟨⟨Hr, Hx, Hs⟩, HsemS, HO⟩
  ihave Hr' := (Entails.of_eq (show ((V d (cW L) (jW L)).loc cc3_scratch1 ↦{fullShare} gmix (cG L) (sG L) 1 dest ys (gmix (cG L) (sG L) 0 dest ys fr 8) (6 + 2) : sProp 𝕄)
    = (rowsG).view.loc (V d (cW L) (jW L)) ↦{fullShare} gmix (cG L) (sG L) 1 dest ys (gmix (cG L) (sG L) 0 dest ys fr 8) 8 from rfl)) $$ Hr
  ihave Hs' := (Entails.of_eq (show ((V d (cW L) (jW L)).loc cc3_scratch0 ↦{fullShare} chunkList dest (cG L) (sG L) 1 : sProp 𝕄) = (idxG).view.loc (V d (cW L) (jW L)) ↦{fullShare} chunkList dest (cG L) (sG L) 1 from rfl)) $$ Hs
  sl_exec
  ihave Hr := (Entails.of_eq (show ((rowsG).view.loc (V d (cW L) (jW L)) ↦{fullShare} gmix (cG L) (sG L) 1 dest ys (gmix (cG L) (sG L) 0 dest ys fr 8) 8 : sProp 𝕄)
    = (V d (cW L) (jW L)).loc cc3_scratch1 ↦{fullShare} gmix (cG L) (sG L) 1 dest ys (gmix (cG L) (sG L) 0 dest ys fr 8) 8 from rfl)) $$ Hr'
  sl_step
  isplitl [Hd' Hx H0' H1']
  · isplitl [Hd']; · iexact Hd'
    isplitl [Hx]; · iexact Hx
    isplitl [H0']
    · iapply (Entails.of_eq (out_eq (F := F) d L 0 (k3_off2_inb L 0) dest ys (fr) g0 (gather_body.sl.dma0_1 d L dest ys fr) (fun _ => rfl))) $$ H0'
    iapply (Entails.of_eq (out_eq (F := F) d L 1 (k3_off2_inb L 1) dest ys (gmix (cG L) (sG L) 0 dest ys fr 8) g0 (gather_body.sl.dma0_3 d L dest ys fr) (fun _ => rfl))) $$ H1'
  isplitl [Hs' Hr Hbufs]
  · isplitl [Hs']; · iexists _; iexact Hs'
    isplitl [Hr]; · iexists _; iexact Hr
    iexact Hbufs
  isplitl [HsemS HsemA HsemB HsemC HsemD Hsems]
  · isplitl [HsemS]; · iexact HsemS
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  repeat (rcases Finset.mem_insert.mp hp with hp | hp; · exact .inr (hp ▸ rfl))
  exact .inl hp

end Tile

end Cert.Proof.Moe

end
-- ==== Proof.Splits.lean ====
/-
  How the TensorCore divides the buffers that the two SparseCore calls share among their 32 tiles, and puts them together.
-/
module

public import proofs.«01_k».proof.Proof.ScScatter
public import proofs.«01_k».proof.Proof.ScGather

@[expose] public section

set_option backward.isDefEq.respectTransparency.types false

noncomputable section

namespace Cert.Proof.Moe

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx

variable {F : FTy → Type} [FloatOps F]

local notation "𝕄" => MT nD τ sig (HIx 2) (Elt F) ℕ UU ℕ

/-- A tile's share of a buffer that every tile reads. -/
def tileShare (c : Fin 2) (i : Fin 16) : PosShare TreeShare :=
  pieceOf (pieceOf fullShare 2 (by norm_num) c) 16 (by norm_num) i

/-- A buffer as the tiles' shares of it. -/
theorem pts_tiles (ℓ : Loc nD τ sig) (f : Buf (Elt F) ℓ) (q : PosShare TreeShare) :
    (ℓ ↦{q} f : sProp 𝕄) = bigSep Finset.univ fun c : Fin 2 => bigSep Finset.univ fun i : Fin 16 =>
      ℓ ↦{pieceOf (pieceOf q 2 (by norm_num) c) 16 (by norm_num) i} f := by
  rw [pointsTo_piecesOf Finset.univ f (o := 2) (by norm_num) q]
  exact bigSep_congr fun c _ => pointsTo_piecesOf Finset.univ f (o := 16) (by norm_num) _

/-- A family under a frame, member by member. -/
theorem frame_bigSep {I : Type} [DecidableEq I] (A : sProp 𝕄) (s : Finset I) (Φ Ψ : I → sProp 𝕄) (h : ∀ i ∈ s, iprop(A ∗ Φ i) ⊢ iprop(A ∗ Ψ i)) :
    iprop(A ∗ bigSep s Φ) ⊢ iprop(A ∗ bigSep s Ψ) := by
  induction s using Finset.induction_on with
  | empty => exact .rfl
  | insert i s hi ih =>
    rw [SparseCore.bigSep_insert' hi, SparseCore.bigSep_insert' hi]
    iintro ⟨HA, Hi, Hs⟩
    ihave H1 := (h i (Finset.mem_insert_self ..)) $$ [HA Hi]
    · isplitl [HA] <;> iassumption
    icases H1 with ⟨HA, Hi⟩
    ihave H2 := (ih fun j hj => h j (Finset.mem_insert_of_mem hj)) $$ [HA Hs]
    · isplitl [HA] <;> iassumption
    icases H2 with ⟨HA, Hs⟩
    isplitl [HA]; · iexact HA
    isplitl [Hi] <;> iassumption

/-- A share of unknown contents is a share of the contents that a holder of another share knows. -/
theorem pts_known (ℓ : Loc nD τ sig) (q q' : PosShare TreeShare) (f g : Buf (Elt F) ℓ) :
    iprop((ℓ ↦{q} f) ∗ (ℓ ↦{q'} g)) ⊢ (iprop((ℓ ↦{q} f) ∗ (ℓ ↦{q'} f)) : sProp 𝕄) := by
  iintro H
  ihave H := (persistent_entails_right (pointsTo_agree (ℓ := ℓ) (I := Finset.univ) (J := Finset.univ) (q₁ := q) (q₂ := q') (f := f) (g := g))) $$ H
  icases H with ⟨%h, Hf, Hg⟩
  have e : g = f := funext fun i => (h i (by simp)).1.symm
  subst e
  isplitl [Hf] <;> iassumption

/-- One buffer out of those held. -/
theorem held_erase (d : Dev nD) (S : Finset (DevRef τ sig)) (V : Valuation τ sig (Elt F)) (b : DevRef τ sig) (hb : b ∈ S) :
    (StableHlo.held (SparseCore.T d) S V : sProp 𝕄) = iprop((((SparseCore.T d : Thread nD τ).1, b) ↦{fullShare} V b) ∗ StableHlo.held (SparseCore.T d) (S.erase b) V) :=
  SparseCore.bigSep_erase' hb

/-- The held buffers do not read another's contents. -/
theorem held_update (d : Dev nD) (S : Finset (DevRef τ sig)) (V : Valuation τ sig (Elt F)) (b : DevRef τ sig) (hb : b ∉ S) (f) :
    (StableHlo.held (SparseCore.T d) S (Function.update V b f) : sProp 𝕄) = StableHlo.held (SparseCore.T d) S V :=
  bigSep_congr fun b' hb' => by rw [Function.update_of_ne (show b' ≠ b from fun h => hb (h ▸ hb'))]

/-- The two parts, in the other order. -/
theorem sep_swap (A B : sProp 𝕄) : iprop(A ∗ B) = iprop(B ∗ A) :=
  have e : iprop(A ∗ B) ⊣⊢ iprop(B ∗ A) := sep_comm
  Entails.antisymm e.1 e.2

section Xs

variable (d : Dev nD) {dest : S4096.Idx → BitVec 32} (hd : DestOk dest)

/-- What one copy of one chunk of one tile fills. -/
def xsPart (dest : S4096.Idx → BitVec 32) (k : Fin 2 × Fin 16 × Fin 2 × Fin 4) : Finset S5888x8x128.Idx := SX dest k.1 k.2.1 k.2.2.1 (2 * k.2.2.2.val)

include hd in
/-- Different pieces of the scatter write different places. -/
theorem xsPart_disjoint : ∀ k ∈ (Finset.univ : Finset (Fin 2 × Fin 16 × Fin 2 × Fin 4)), ∀ k' ∈ (Finset.univ : Finset (Fin 2 × Fin 16 × Fin 2 × Fin 4)),
    k ≠ k' → Disjoint (xsPart dest k) (xsPart dest k') := by
  intro k _ k' _ hne
  rw [Finset.disjoint_left]
  intro x hx hx'
  obtain ⟨h1, a, ha⟩ := mem_SX.1 hx
  obtain ⟨h2, b, hb⟩ := mem_SX.1 hx'
  have e := congrArg (fun i : S4096.Idx => (i 0).val) (hd.inj (ha.trans hb.symm))
  obtain ⟨e1, e2, e3, -⟩ := cbase_inj a.isLt b.isLt e
  refine hne (Prod.ext e1 (Prod.ext e2 (Prod.ext e3 (Fin.ext ?_))))
  omega

/-- The rows that no assignment takes. -/
def xsRest (dest : S4096.Idx → BitVec 32) : Finset S5888x8x128.Idx := Finset.univ \ Finset.univ.biUnion (xsPart dest)

include hd in
/-- The sorted array as the tiles' pieces and the rest. -/
theorem xs_split (f : S5888x8x128.Idx → Elt F .f32) :
    (xsLoc d ↦{fullShare} f : sProp 𝕄) = iprop((xsLoc d ↦[xsRest dest]{fullShare} f)
      ∗ bigSep Finset.univ fun c : Fin 2 => bigSep Finset.univ fun i : Fin 16 => xsPieces (F := F) d dest c i f) := by
  have hs : ∀ U : Finset S5888x8x128.Idx, (xsLoc d ↦{fullShare} f : sProp 𝕄) = iprop((xsLoc d ↦[U]{fullShare} f) ∗ xsLoc d ↦[Finset.univ \ U]{fullShare} f) := fun U =>
    have h := pointsTo_split_subset (Ix := HIx 2) (Val := Elt F) (Name := ℕ) (U := UU) (Lvl := ℕ) (ℓ := xsLoc d) (q := fullShare) (f := f) (I := U) (S := Finset.univ) (Finset.subset_univ U)
    Entails.antisymm h.1 h.2
  have h1 := hs (Finset.univ.biUnion (xsPart dest))
  rw [h1, pointsTo_biUnion Finset.univ (ℓ := xsLoc d) (xsPart dest) (xsPart_disjoint hd), bigSep_univ_prod]
  have h2 : ∀ c : Fin 2, (bigSep Finset.univ fun b : Fin 16 × Fin 2 × Fin 4 => (xsLoc d ↦[xsPart dest (c, b)]{fullShare} f : sProp 𝕄))
      = bigSep Finset.univ fun i : Fin 16 => xsPieces (F := F) d dest c i f := fun c => bigSep_univ_prod _
  rw [bigSep_congr fun c _ => h2 c]
  unfold xsRest
  exact sep_swap _ _

/-- The rest of the sorted array is as it was. -/
theorem xsRest_scat (xp : S2048x8x128.Idx → Elt F .f32) (f : S5888x8x128.Idx → Elt F .f32) :
    (xsLoc d ↦[xsRest dest]{fullShare} f : sProp 𝕄) = xsLoc d ↦[xsRest dest]{fullShare} scatVal dest xp f := by
  refine pointsTo_congr fun x hx => ?_
  unfold scatVal
  rw [dif_neg]
  rintro ⟨a, ha⟩
  refine (Finset.mem_sdiff.1 hx).2 (Finset.mem_biUnion.2 ?_)
  have h0 := (a 0).isLt
  change _ < 4096 at h0
  have h1 := (x 1).isLt
  change _ < 8 at h1
  refine ⟨(⟨(a 0).val / 128 % 2, by omega⟩, ⟨(a 0).val / 256, by omega⟩, ⟨(a 0).val / 64 % 2, by omega⟩, ⟨(x 1).val / 2, by omega⟩), Finset.mem_univ _, ?_⟩
  refine mem_SX.2 ⟨⟨by show 2 * ((x 1).val / 2) ≤ _; omega, by show _ < 2 * ((x 1).val / 2) + 2; omega⟩, ⟨(a 0).val % 64, by omega⟩, ?_⟩
  refine Eq.trans (congrArg (fun i => (dest i).toNat) (funext fun b => Fin.ext ?_)) ha
  match b with
  | 0 => show cbase _ _ _ + (a 0).val % 64 = (a 0).val; unfold cbase; dsimp only; omega

end Xs

section Y12

variable (d : Dev nD)

/-- The chunks cover the gathered array. -/
theorem y12_cover : (Finset.univ : Finset (Fin 2 × Fin 16 × Fin 2)).biUnion (fun k => PY k.1 k.2.1 k.2.2) = Finset.univ := by
  refine Finset.eq_univ_iff_forall.2 fun x => Finset.mem_biUnion.2 ?_
  have h0 := (x 0).isLt
  change _ < 4096 at h0
  refine ⟨(⟨(x 0).val / 128 % 2, by omega⟩, ⟨(x 0).val / 256, by omega⟩, ⟨(x 0).val / 64 % 2, by omega⟩), Finset.mem_univ _, mem_PY.2 ?_⟩
  unfold cbase; dsimp only; omega

/-- Different chunks are disjoint. -/
theorem y12_disjoint : ∀ k ∈ (Finset.univ : Finset (Fin 2 × Fin 16 × Fin 2)), ∀ k' ∈ (Finset.univ : Finset (Fin 2 × Fin 16 × Fin 2)),
    k ≠ k' → Disjoint (PY k.1 k.2.1 k.2.2) (PY k'.1 k'.2.1 k'.2.2) := by
  intro k _ k' _ hne
  rw [Finset.disjoint_left]
  intro x hx hx'
  have h1 := mem_PY.1 hx
  have h2 := mem_PY.1 hx'
  obtain ⟨e1, e2, e3, -⟩ := cbase_inj (c := k.1) (c' := k'.1) (s := k.2.1) (s' := k'.2.1) (r := k.2.2) (r' := k'.2.2)
    (k := (x 0).val - cbase k.1 k.2.1 k.2.2) (k' := (x 0).val - cbase k'.1 k'.2.1 k'.2.2) (by omega) (by omega) (by omega)
  exact hne (Prod.ext e1 (Prod.ext e2 e3))

/-- The gathered array as the tiles' pieces. -/
theorem y12_split (f : S4096x8x128.Idx → Elt F .f32) :
    (y12Loc d ↦{fullShare} f : sProp 𝕄) = bigSep Finset.univ fun c : Fin 2 => bigSep Finset.univ fun i : Fin 16 => y12Pieces (F := F) d c i f := by
  rw [show (y12Loc d ↦{fullShare} f : sProp 𝕄) = y12Loc d ↦[(Finset.univ : Finset (Fin 2 × Fin 16 × Fin 2)).biUnion (fun k => PY k.1 k.2.1 k.2.2)]{fullShare} f by rw [y12_cover],
    pointsTo_biUnion Finset.univ (ℓ := y12Loc d) _ y12_disjoint, bigSep_univ_prod]
  exact bigSep_congr fun c _ => bigSep_univ_prod _

end Y12

end Cert.Proof.Moe

end
-- ==== Proof.Combine.lean ====
/-
  The combine call: each token's two expert rows, weighted and added.
-/
module

public import proofs.«01_k».proof.Proof.Router
public import Idealize.ShloMosaic.Lib.Pointwise
public import Idealize.ShloMosaic.Lib.Pipeline.RegionsLoop
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.VecWindow

@[expose] public section

set_option backward.isDefEq.respectTransparency.types false

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueIdx
open Idealize.ShloMosaic.Pipeline (Dat BodyObligation)

variable {F : FTy → Type} [FloatOps F]

local notation "𝕄" => MT nD τ sig (HIx 2) (Elt F) ℕ UU ℕ

/-- The combine body on whole buffers. -/
theorem combine_run (c : Dev nD) (i : grid4.Coords) (a0 : Memref sig .tc .vmem S1x256x8x128 .f32) (h0 : a0.IsWhole) (a1 : Memref sig .tc .vmem S1x256x8x128 .f32) (h1 : a1.IsWhole)
    (a2 : Memref sig .tc .vmem S256x1 .f32) (h2 : a2.IsWhole) (a3 : Memref sig .tc .vmem S256x1 .f32) (h3 : a3.IsWhole)
    (a4 : Memref sig .tc .vmem S256x1024 .f32) (h4 : a4.IsWhole)
    (X0 X1 : S1x256x8x128.Idx → Elt F .f32) (X2 X3 : S256x1.Idx → Elt F .f32) (Q : PUnit → sProp 𝕄) :
    iprop(owns (c : Thread nD τ) a0 fullShare X0 ∗ owns (c : Thread nD τ) a1 fullShare X1
        ∗ owns (c : Thread nD τ) a2 fullShare X2 ∗ owns (c : Thread nD τ) a3 fullShare X3 ∗ (∃ d, owns (c : Thread nD τ) a4 fullShare d)
        ∗ (iprop(owns (c : Thread nD τ) a0 fullShare X0 ∗ owns (c : Thread nD τ) a1 fullShare X1
            ∗ owns (c : Thread nD τ) a2 fullShare X2 ∗ owns (c : Thread nD τ) a3 fullShare X3
            ∗ owns (c : Thread nD τ) a4 fullShare (k4_pay1 X0 X1 X2 X3)) -∗ Q ⟨⟩))
      ⊢ wp frame (wpE (defs₀ (F := F)) 𝒱₀ (c : Thread nD τ) none) Set.univ (cc4__combine_body i a0 h0 a1 h1 a2 h2 a3 h3 a4 h4) Q := by
  simp only [cc4__combine_body_eq_skeleton]; unfold cc4__combine_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro; exact (View.read_writes_full _ _ _ _ _).trans (by rw [View.readAt_full, View.readAt_full, View.readAt_full, View.readAt_full])

variable (V : Valuation τ sig (Elt F))

/-! What each input window's fetch stages at a point. -/

abbrev stC0 (V : Valuation τ sig (Elt F)) (t : Fin cfg4.N) : S1x256x8x128.Idx → Elt F .f32 :=
  ((cfg4.win 0).blk t).view.read (Elt F) (V (Proc.devRef .tc (Pipeline.arrRef spec4 0)))
abbrev stC1 (V : Valuation τ sig (Elt F)) (t : Fin cfg4.N) : S1x256x8x128.Idx → Elt F .f32 :=
  ((cfg4.win 1).blk t).view.read (Elt F) (V (Proc.devRef .tc (Pipeline.arrRef spec4 1)))
abbrev stC2 (V : Valuation τ sig (Elt F)) (t : Fin cfg4.N) : S256x1.Idx → Elt F .f32 :=
  ((cfg4.win 2).blk t).view.read (Elt F) (V (Proc.devRef .tc (Pipeline.arrRef spec4 2)))
abbrev stC3 (V : Valuation τ sig (Elt F)) (t : Fin cfg4.N) : S256x1.Idx → Elt F .f32 :=
  ((cfg4.win 3).blk t).view.read (Elt F) (V (Proc.devRef .tc (Pipeline.arrRef spec4 3)))

def combineDat (n : ℕ) (c : Dev nD) : Dat τ (Elt F) (HIx 2) ℕ UU ℕ cfg4 c where
  A w := V (Proc.devRef .tc (Pipeline.arrRef spec4 w))
  after w t := match w with
    | ⟨0, _⟩ => stC0 V t
    | ⟨1, _⟩ => stC1 V t
    | ⟨2, _⟩ => stC2 V t
    | ⟨3, _⟩ => stC3 V t
    | ⟨4, _⟩ => k4_pay1 (stC0 V t) (stC1 V t) (stC2 V t) (stC3 V t)
  Φ _ := Pipeline.scopedRest spec4 c
  q w := Pipeline.shareOf spec4 w
  owed _ := (K (F := F)).Otc c n
  recorded _ := lowPairs (F := F) c n

def combineDats (a : (p : Fin 3) → (pcfgs (F := F) p).Adm) (n : ℕ) :
    (p : Fin 3) → (c : Dev nD) → Dat τ (Elt F) (HIx 2) ℕ UU ℕ (Pipeline.pin (pcfgs (F := F)) a p) c
  | ⟨0, _⟩ => fun c => junkDat c
  | ⟨1, _⟩ => fun c => junkDat c
  | ⟨2, _⟩ => fun c => combineDat V n c

/-- What the body finds in the first operand’s buffer. -/
theorem combine_before0 (n : ℕ) (c : Dev nD) (t : Fin cfg4.N) (d) : (combineDat V n c).before 0 t d = stC0 V t := by
  unfold Dat.before; rw [if_pos (fetch4_0 t)]; rfl
/-- What the body finds in the second operand’s buffer. -/
theorem combine_before1 (n : ℕ) (c : Dev nD) (t : Fin cfg4.N) (d) : (combineDat V n c).before 1 t d = stC1 V t := by
  unfold Dat.before; rw [if_pos (fetch4_1 t)]; rfl
/-- What the body finds in the first weights’ buffer. -/
theorem combine_before2 (n : ℕ) (c : Dev nD) (t : Fin cfg4.N) (d) : (combineDat V n c).before 2 t d = stC2 V t := by
  unfold Dat.before; rw [if_pos (fetch4_2 t)]; rfl
/-- What the body finds in the second weights’ buffer. -/
theorem combine_before3 (n : ℕ) (c : Dev nD) (t : Fin cfg4.N) (d) : (combineDat V n c).before 3 t d = stC3 V t := by
  unfold Dat.before; rw [if_pos (fetch4_3 t)]; rfl

/-- The library's obligation of the combine body, by its run, at every point at once. -/
theorem combine_obligation (n : ℕ) (c : Dev nD) : BodyObligation (combineDat V n c) (defs₀ (F := F)) 𝒱₀ none Set.univ := fun t => by
  rw [bigSep_W4, bigSep_W4]
  rw [show (combineDat V n c).owesAt none t.succ = (combineDat V n c).owesAt none t.castSucc from rfl,
    show (combineDat V n c).Φ t.succ = (combineDat V n c).Φ t.castSucc from rfl]
  refine BIBase.Entails.trans ?_ (combine_run c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) (st4_3 t) (hstage4_3 ((cfg4.slots t 3).cast nbuf4_3)) (st4_4 t) (hstage4_4 ((cfg4.slots t 4).cast nbuf4_4))
    (stC0 V t) (stC1 V t) (stC2 V t) (stC3 V t) _)
  iintro ⟨HΦ, Howes, ⟨%d0, H0⟩, ⟨%d1, H1⟩, ⟨%d2, H2⟩, ⟨%d3, H3⟩, ⟨%d4, H4⟩⟩
  rw [combine_before0, combine_before1, combine_before2, combine_before3]
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- Each token's two rows, weighted and added. -/
def combOut (Y : S2x2048x8x128.Idx → Elt F .f32) (w1 w2 : S2048x1.Idx → Elt F .f32) : S2048x1024.Idx → Elt F .f32 := fun i =>
  FloatOps.addf (FloatOps.mulf (Y (ValueIdx.ix4 (0 : Fin 2) (i 0) ⟨(i 1).val / 128, by have := (i 1).isLt; change _ < 1024 at this; omega⟩ ⟨(i 1).val % 128, by omega⟩)) (w1 (ValueIdx.ix2 (i 0) (0 : Fin 1))))
    (FloatOps.mulf (Y (ValueIdx.ix4 (1 : Fin 2) (i 0) ⟨(i 1).val / 128, by have := (i 1).isLt; change _ < 1024 at this; omega⟩ ⟨(i 1).val % 128, by omega⟩)) (w2 (ValueIdx.ix2 (i 0) (0 : Fin 1))))

/-- What the body stores, at an index: the two rows by their weights, added. -/
theorem pay4_apply (X0 X1 : S1x256x8x128.Idx → Elt F .f32) (X2 X3 : S256x1.Idx → Elt F .f32) (y : S256x1024.Idx) :
    k4_pay1 X0 X1 X2 X3 y = FloatOps.addf
      (FloatOps.mulf (X0 (ValueIdx.ix4 (0 : Fin 1) (y 0) ⟨(y 1).val / 128, by have := (y 1).isLt; change _ < 1024 at this; omega⟩ ⟨(y 1).val % 128, by omega⟩)) (X2 (ValueIdx.ix2 (y 0) (0 : Fin 1))))
      (FloatOps.mulf (X1 (ValueIdx.ix4 (0 : Fin 1) (y 0) ⟨(y 1).val / 128, by have := (y 1).isLt; change _ < 1024 at this; omega⟩ ⟨(y 1).val % 128, by omega⟩)) (X3 (ValueIdx.ix2 (y 0) (0 : Fin 1)))) := by
  unfold k4_pay1
  pointwise
  rfl

/-- The block of the first operand at each step. -/
theorem ixC0 : ∀ t : Fin cfg4.N, win4_0.index t = ![0, t.val, 0, 0] := (by decide +kernel : ∀ t : Fin grid4.N, _)
/-- The block of the second operand at each step. -/
theorem ixC1 : ∀ t : Fin cfg4.N, win4_1.index t = ![1, t.val, 0, 0] := (by decide +kernel : ∀ t : Fin grid4.N, _)
/-- The block of the first weights at each step. -/
theorem ixC2 : ∀ t : Fin cfg4.N, win4_2.index t = ![t.val, 0] := (by decide +kernel : ∀ t : Fin grid4.N, _)
/-- The block of the second weights at each step. -/
theorem ixC3 : ∀ t : Fin cfg4.N, win4_3.index t = ![t.val, 0] := (by decide +kernel : ∀ t : Fin grid4.N, _)
/-- The block of the result at each step. -/
theorem ixC4 : ∀ t : Fin cfg4.N, win4_4.index t = ![t.val, 0] := (by decide +kernel : ∀ t : Fin grid4.N, _)

/-- The result after all steps. -/
theorem combine_arr (n : ℕ) (c : Dev nD) : (combineDat V n c).arrAt 4 cfg4.N
    = combOut (V (Proc.devRef .tc main_v62)) (V (Proc.devRef .tc main_v63)) (V (Proc.devRef .tc main_v64)) := by
  refine (combineDat V n c).arrAt_eq_of_covers 4 _ (by decide +kernel) fun t hf y => ?_
  blk_simp
  show k4_pay1 (stC0 V t) (stC1 V t) (stC2 V t) (stC3 V t) y = _
  rw [pay4_apply]
  unfold combOut stC0 stC1 stC2 stC3
  blk_simp
  have hk : (((win4_4.blk t).view.emb y) 0).val = t.val * 256 + (y 0).val := by
    show win4_4.index t 0 * 256 + 1 * (y 0).val = _
    rw [ixC4]; show t.val * 256 + 1 * (y 0).val = _; omega
  idx_bounds y
  refine congrArg₂ _ (congrArg₂ _ (congrArg _ ?_) (congrArg _ ?_)) (congrArg₂ _ (congrArg _ ?_) (congrArg _ ?_))
  all_goals blk_ext [ixC0, ixC1, ixC2, ixC3, ixC4]
  all_goals exact hk.symm

/-- The unscoped buffers after the call. -/
def combineOut : Valuation τ sig (Elt F) :=
  Function.update V (Proc.devRef .tc main_v65) (combOut (V (Proc.devRef .tc main_v62)) (V (Proc.devRef .tc main_v63)) (V (Proc.devRef .tc main_v64)))

/-- The call’s result buffer after the call. -/
theorem combineOut_self : combineOut V (Proc.devRef .tc main_v65)
    = combOut (V (Proc.devRef .tc main_v62)) (V (Proc.devRef .tc main_v63)) (V (Proc.devRef .tc main_v64)) := Function.update_self ..
/-- The call changes no other buffer. -/
theorem combineOut_ne {b : DevRef τ sig} (h : b ≠ Proc.devRef .tc main_v65) : combineOut V b = V b := Function.update_of_ne h ..

/-- The call’s invariant from step to step. -/
theorem combine_inv (a : (p : Fin 3) → (pcfgs (F := F) p).Adm) (n : ℕ) (c : Dev nD) (t) :
    (combineDats V a n 2 c).Φ t = Pipeline.scopedRest (Pipeline.pin (pcfgs (F := F)) a 2).spec c := by
  show (combineDat V n c).Φ t = _
  unfold combineDat
  exact congrArg (fun s : Fin 5 → Pipeline.WinSpec sig _ => (Pipeline.scopedRest s c : sProp 𝕄)) (show spec4 = (Pipeline.pin (pcfgs (F := F)) a 2).spec from rfl)

/-- The TensorCore's program steps over the combine call. -/
theorem combine_step (a : (p : Fin 3) → (pcfgs (F := F) p).Adm)
    (P : (K (F := F)).Pay (N := 2) (nD := nD) (Val := Elt F) (Name := ℕ) (U := UU)) [SparseCore.Cfg.Pay.IsStorable P]
    (n : ℕ) (d : Dev nD) (κ : GSem nD τ sig → ℕ) (Q : PUnit → sProp 𝕄) :
    iprop((K (F := F)).ctx EH P κ ∗ (K (F := F)).tcSt EH d n ∗ boundary (SparseCore.T d)
        ∗ StableHlo.held (SparseCore.T d) (Pipeline.ucRefs τ sig) V ∗ callGhost a 2 d
        ∗ (iprop((K (F := F)).tcSt EH d n ∗ boundary (SparseCore.T d) ∗ StableHlo.held (SparseCore.T d) (Pipeline.ucRefs τ sig) (combineOut V)) -∗ Q ⟨⟩))
      ⊢ wp frame (wpE ((K (F := F)).defs (D (F := F))) 𝒱 (SparseCore.T d) none) Set.univ
          (Prog.lift (.customCall (SparseCore.inner (Pipeline.entry 2)) ())) Q := by
  refine call_step a P 2 n d κ _ _ Q fun Q' => ?_
  refine BIBase.Entails.trans ?_ (Pipeline.RegionSeg.wp (pcfgs (F := F)) a (combineDats V a n) none (cellOf_inj a) EP defs₀ 𝒱₀ (K (F := F)).L (K (F := F)).lev
    (segOf a (combineDats V a n) 2 n (launch₀4 (F := F)) rfl (fun c => (combine_obligation V n c).loose) (fun _ _ => rfl) (fun _ _ => rfl) (combine_inv V a n)
      (fun c => StableHlo.held (c.tc : Thread nD τ) (Pipeline.ucRefs τ sig) V) (fun c => StableHlo.held (c.tc : Thread nD τ) (Pipeline.ucRefs τ sig) (combineOut V))
      (fun c => Pipeline.unscopedRest spec4 c fun b => V (Proc.devRef .tc b))
      (fun c => ?_) (fun c => ?_)) d none (fun _ h => nomatch h) pure Q')
  · exact .rfl
  · rw [← Pipeline.unscopedBufs_held]
    exact Pipeline.arrays_of_unscopedBufs_shared (p := 2) (pcfgs (F := F)) a (combineDats V a n) winFacts₀4 sharedIn4 arr_whole4 c
      (fun _ _ => rfl) _ fun _ => rfl
  · rw [← Pipeline.unscopedBufs_held]
    refine Pipeline.unscopedBufs_of_arrays_shared (p := 2) (pcfgs (F := F)) a winFacts₀4 sharedIn4 arr_whole4 c
      (combineDats V a n) (fun _ _ => rfl) _ _ _ (fun w => ?_) (fun b hb => ?_)
    · fin_cases w
      · exact ((combineDat V n c).arrAt_in 0 rfl _).trans (combineOut_ne V (by decide)).symm
      · exact ((combineDat V n c).arrAt_in 1 rfl _).trans (combineOut_ne V (by decide)).symm
      · exact ((combineDat V n c).arrAt_in 2 rfl _).trans (combineOut_ne V (by decide)).symm
      · exact ((combineDat V n c).arrAt_in 3 rfl _).trans (combineOut_ne V (by decide)).symm
      · exact (combine_arr V n c).trans (combineOut_self V).symm
    · have hne : ∀ w : Fin 5, b ≠ Pipeline.arrRef spec4 w := fun w h => hb (Finset.mem_image.mpr ⟨w, Finset.mem_univ _, h.symm⟩)
      exact combineOut_ne V (fun h => hne 4 (Proc.devRef_injective _ h))

end Cert.Proof.Moe

end
-- ==== Proof.Values.lean ====
/-
  The contents of the TensorCore's buffers, from the launch memory to the results.
-/
module

public import proofs.«01_k».proof.Proof.Kept
public import proofs.«01_k».proof.Proof.Tables
public import proofs.«01_k».proof.Proof.Splits
public import proofs.«01_k».proof.Proof.Combine

@[expose] public section

set_option backward.isDefEq.respectTransparency.types false

noncomputable section

namespace Cert.Proof.Moe

open Cert.KernelIdeal Cert.KernelIdeal.Gen
open Idealize.ShloMosaic

variable {F : FTy → Type} [FloatOps F]

variable (m : (ℓ : Loc nD τ sig) → Buf (Elt F) ℓ)

/-- The launch memory. -/
def W0 : Valuation τ sig (Elt F) := fun b => m ((0 : Dev nD), b)
/-- After the reshape. -/
def W1 : Valuation τ sig (Elt F) := StableHlo.after ops0 (W0 m)
/-- After the router. -/
def W2 : Valuation τ sig (Elt F) := routerOut (W1 m)
/-- The router's combine weights. -/
def probs : S2048x8.Idx → Elt F .f32 := W2 m (Proc.devRef .tc main_v1_1)
/-- The combine weights with the first choice taken out. -/
def probs2 : S2048x8.Idx → Elt F .f32 := offOf (probs m) (argOf (probs m))
/-- The list of assignments. -/
def flM : IVec S4096 32 := flatOf (argOf (probs m)) (argOf (probs2 m))

/-- The list names experts below eight. -/
theorem flM_ok : FlatOk (flM m) := flatOf_ok _ _ (argOf_lt _) (argOf_lt _)

/-- After the first lists. -/
def WA : Valuation τ sig (Elt F) := StableHlo.after opsA (W2 m)
def WB : Valuation τ sig (Elt F) := StableHlo.after opsB (WA m)
def WC : Valuation τ sig (Elt F) := StableHlo.after opsC (WB m)
def WD : Valuation τ sig (Elt F) := StableHlo.after opsD (WC m)
/-- Before the scatter. -/
def W3 : Valuation τ sig (Elt F) := StableHlo.after opsE (WD m)

/-- The five lists in a row. -/
theorem W3_eq : StableHlo.after (opsA ++ (opsB ++ (opsC ++ (opsD ++ opsE)))) (W2 m) = W3 m := by
  rw [after_app, after_app, after_app, after_app]; rfl

/-- The list of assignments after the first operations, -/
theorem WA_v13 : WA m (Proc.devRef .tc main_v13) = flM m := rA_v13 _
/-- and after the second. -/
theorem WB_v13 : WB m (Proc.devRef .tc main_v13) = flM m := (opsB_kept (WA m) main_v13 (by decide)).trans (WA_v13 m)
/-- The assignments’ ranks. -/
theorem WB_v24 : WB m (Proc.devRef .tc main_v24) = rankOf (flM m) := (rB_v24 (WA m) (rA_v3 _)).trans (congrArg rankOf (WA_v13 m))
/-- The experts’ counts. -/
theorem WB_v26 : WB m (Proc.devRef .tc main_v26) = cntOf (flM m) := (rB_v26 (WA m) (rA_v3 _)).trans (congrArg cntOf (WA_v13 m))
/-- The list of assignments after the third operations. -/
theorem WC_v13 : WC m (Proc.devRef .tc main_v13) = flM m := (opsC_kept (WB m) main_v13 (by decide)).trans (WB_v13 m)
/-- The ranks after the third operations. -/
theorem WC_v24 : WC m (Proc.devRef .tc main_v24) = rankOf (flM m) := (opsC_kept (WB m) main_v24 (by decide)).trans (WB_v24 m)
/-- The experts’ numbers of blocks. -/
theorem WC_v31 : WC m (Proc.devRef .tc main_v31) = blkOf (cntOf (flM m)) := (rC_v31 (WB m)).trans (congrArg blkOf (WB_v26 m))
/-- The experts’ first blocks. -/
theorem WC_v35 : WC m (Proc.devRef .tc main_v35) = startOf (blkOf (cntOf (flM m))) := (rC_v35 (WB m)).trans (congrArg (fun c => startOf (blkOf c)) (WB_v26 m))
/-- The assignments’ rows, when they are computed. -/
theorem WD_v45 : WD m (Proc.devRef .tc main_v45) = destOf (flM m) := by
  refine (rD_v45 (WC m)).trans ?_
  rw [WC_v13, WC_v35, WC_v24]; rfl
/-- The experts’ last blocks, when they are computed. -/
theorem WD_v46 : WD m (Proc.devRef .tc main_v46) = finOf (flM m) := by
  refine (rD_v46 (WC m)).trans ?_
  rw [WC_v31, WC_v35]; rfl

/-- The assignments' rows. -/
theorem W3_v45 : W3 m (Proc.devRef .tc main_v45) = destOf (flM m) := (opsE_kept (WD m) main_v45 (by decide)).trans (WD_v45 m)
/-- The experts’ last blocks. -/
theorem W3_v46 : W3 m (Proc.devRef .tc main_v46) = finOf (flM m) := (opsE_kept (WD m) main_v46 (by decide)).trans (WD_v46 m)
/-- The blocks’ experts. -/
theorem W3_v56 : W3 m (Proc.devRef .tc main_v56) = beOf (finOf (flM m)) := (rE_v56 (WD m)).trans (congrArg beOf (WD_v46 m))

/-- What every list from the router to the scatter keeps. -/
theorem W3_keep (r : Ref sig .tc) (h : r ∈ keep0) : W3 m (Proc.devRef .tc r) = W2 m (Proc.devRef .tc r) := by
  have h' : ∀ l : List (Ref sig .tc), r ∈ keep0 ++ l := fun l => List.mem_append_left _ h
  exact (opsE_kept (WD m) r (h' _)).trans ((opsD_kept (WC m) r (h' _)).trans ((opsC_kept (WB m) r (h' _)).trans
    ((opsB_kept (WA m) r (h' _)).trans (opsA_kept (W2 m) r h))))

/-- The first weights before the scatter. -/
theorem W3_v4 : W3 m (Proc.devRef .tc main_v4) = maxOf (probs m) :=
  (opsE_kept (WD m) main_v4 (by decide)).trans ((opsD_kept (WC m) main_v4 (by decide)).trans ((opsC_kept (WB m) main_v4 (by decide)).trans
    ((opsB_kept (WA m) main_v4 (by decide)).trans (rA_v4 (W2 m)))))
/-- The second weights before the scatter. -/
theorem W3_v11 : W3 m (Proc.devRef .tc main_v11) = maxOf (probs2 m) :=
  (opsE_kept (WD m) main_v11 (by decide)).trans ((opsD_kept (WC m) main_v11 (by decide)).trans ((opsC_kept (WB m) main_v11 (by decide)).trans
    ((opsB_kept (WA m) main_v11 (by decide)).trans (rA_v11 (W2 m)))))

/-- The assignments’ rows are in range and distinct. -/
theorem destOk : DestOk (destOf (flM m)) := destOf_ok (flM_ok m)

/-- The packed tokens. -/
abbrev xpV : S2048x8x128.Idx → Elt F .f32 := W3 m (Proc.devRef .tc main_v1_2)
/-- The sorted array before the scatter, -/
abbrev xsV0 : S5888x8x128.Idx → Elt F .f32 := W3 m (Proc.devRef .tc main_v57)
/-- and after it. -/
def xsV : S5888x8x128.Idx → Elt F .f32 := scatVal (destOf (flM m)) (xpV m) (xsV0 m)

/-- After the scatter. -/
def W4 : Valuation τ sig (Elt F) := Function.update (W3 m) (Proc.devRef .tc main_v57) (xsV m)
/-- Before the grouped call. -/
def W5 : Valuation τ sig (Elt F) := StableHlo.after ops2 (W4 m)

/-- The scatter changes no other buffer. -/
theorem W4_ne {b : DevRef τ sig} (h : b ≠ Proc.devRef .tc main_v57) : W4 m b = W3 m b := Function.update_of_ne h ..

/-- The sorted array before the grouped call. -/
theorem W5_v57 : W5 m (Proc.devRef .tc main_v57) = xsV m := (ops2_kept (W4 m) main_v57 (by decide)).trans (Function.update_self ..)
/-- The assignments’ rows before the grouped call. -/
theorem W5_v45 : W5 m (Proc.devRef .tc main_v45) = destOf (flM m) := (ops2_kept (W4 m) main_v45 (by decide)).trans ((W4_ne m (by decide)).trans (W3_v45 m))
/-- The table of the grouped call. -/
theorem W5_v59 : W5 m (Proc.devRef .tc main_v59) = tabM (flM m) := by
  refine (r2_v59 (W4 m)).trans ?_
  rw [W4_ne m (b := Proc.devRef .tc main_v56) (by decide), W4_ne m (b := Proc.devRef .tc main_v46) (by decide), W3_v56, W3_v46]; rfl
/-- The first weights before the grouped call. -/
theorem W5_v4 : W5 m (Proc.devRef .tc main_v4) = maxOf (probs m) := (ops2_kept (W4 m) main_v4 (by decide)).trans ((W4_ne m (by decide)).trans (W3_v4 m))
/-- The second weights before the grouped call. -/
theorem W5_v11 : W5 m (Proc.devRef .tc main_v11) = maxOf (probs2 m) := (ops2_kept (W4 m) main_v11 (by decide)).trans ((W4_ne m (by decide)).trans (W3_v11 m))

/-- What everything from the router to the grouped call keeps. -/
theorem W5_keep (r : Ref sig .tc) (h : r ∈ keep0) : W5 m (Proc.devRef .tc r) = W2 m (Proc.devRef .tc r) :=
  (ops2_kept (W4 m) r (List.mem_append_left _ h)).trans ((W4_ne m (fun e => (show main_v57 ∉ keep0 by decide) (Proc.devRef_injective _ e ▸ h))).trans (W3_keep m r h))

/-- The tables of the three calls. -/
abbrev aM : (p : Fin 3) → (pcfgs (F := F) p).Adm := admM (flM m) (flM_ok m)

/-- The grouped call’s table is the buffer’s contents. -/
theorem aM_table (k) : (aM m 1).1 k = W5 m (Proc.devRef .tc (pre2.ref k)) := by
  match k with
  | ⟨0, _⟩ => exact (W5_v59 m).symm

/-- What the grouped call's body puts at each block. -/
def ysV : S5888x8x128.Idx → Elt F .f32 := fun x =>
  let t : Fin grid2.N := ⟨(x 0).val / 256, lt_of_lt_of_eq (by have := (x 0).isLt; change _ < 5888 at this; omega : (x 0).val / 256 < 23) N_2.symm⟩
  k2_pay1 (stG0 (W5 m) (aM m) t) (stG1 (W5 m) (aM m) t) (stG2 (W5 m) (aM m) t) (stG3 (W5 m) (aM m) t)
    (ValueIdx.ix3 (⟨(x 0).val % 256, Nat.mod_lt _ (by norm_num)⟩ : Fin 256) (x 1) (x 2))

/-- Whatever the grouped call left at the blocks beyond those in use, the gather reads what its body put. -/
theorem gath_good (ys : S5888x8x128.Idx → Elt F .f32) (h : GoodYs (W5 m) (aM m) ys) :
    gathVal (destOf (flM m)) ys = gathVal (destOf (flM m)) (ysV m) := by
  funext x
  obtain ⟨hb, hl, -⟩ := asg_block (F := F) (flM_ok m) (x 0)
  have hd := destOf_toNat (flM_ok m) (x 0)
  have hlt := destN_lt (gOf (flM m)) (gOf_lt (flM_ok m)) (x 0).isLt
  have hx := h ⟨destN (gOf (flM m)) (x 0).val / 256, lt_of_lt_of_eq hb N_2.symm⟩
    (ValueIdx.ix3 (⟨destN (gOf (flM m)) (x 0).val % 256, Nat.mod_lt _ (by norm_num)⟩ : Fin 256) (x 1) (x 2)) hl
  unfold gathVal
  have hi : ∀ h1 h2, (ValueIdx.ix3 (⟨(destOf (flM m) (ValueIdx.ix1 (x 0))).toNat % 5888, h1⟩ : Fin 5888) (x 1) (x 2) : S5888x8x128.Idx)
      = ValueIdx.ix3 (⟨destN (gOf (flM m)) (x 0).val, h2⟩ : Fin 5888) (x 1) (x 2) := fun h1 h2 =>
    funext fun b => Fin.ext (by
      match b with
      | 0 => show (destOf (flM m) (ValueIdx.ix1 (x 0))).toNat % 5888 = destN (gOf (flM m)) (x 0).val; rw [hd]; exact Nat.mod_eq_of_lt hlt
      | 1 => rfl
      | 2 => rfl)
  rw [hi _ hlt]
  refine Eq.trans (congrArg ys (funext fun b => Fin.ext ?_)) hx
  match b with
  | 0 => show destN (gOf (flM m)) (x 0).val = destN (gOf (flM m)) (x 0).val / 256 * 256 + destN (gOf (flM m)) (x 0).val % 256; omega
  | 1 => rfl
  | 2 => rfl

/-- The gathered rows. -/
def y12V : S4096x8x128.Idx → Elt F .f32 := gathVal (destOf (flM m)) (ysV m)

/-- After the gather, whatever the grouped call left in the blocks beyond those in use. -/
def W7 (ys : S5888x8x128.Idx → Elt F .f32) : Valuation τ sig (Elt F) := Function.update (gemmOut (W5 m) ys) (Proc.devRef .tc main_v61) (y12V m)
/-- Before the combine call, -/
def W8 (ys : S5888x8x128.Idx → Elt F .f32) : Valuation τ sig (Elt F) := StableHlo.after ops3 (W7 m ys)
/-- after it, -/
def W9 (ys : S5888x8x128.Idx → Elt F .f32) : Valuation τ sig (Elt F) := combineOut (W8 m ys)
/-- and at the end. -/
def W10 (ys : S5888x8x128.Idx → Elt F .f32) : Valuation τ sig (Elt F) := StableHlo.after ops4 (W9 m ys)

/-- The first result. -/
def res0 : S1x2048x1024.Idx → Elt F .f32 :=
  shapeCast S1x2048x1024 (combOut (shapeCast S2x2048x8x128 (y12V m) shapeCasts_S4096x8x128_S2x2048x8x128)
    (broadcastInDim S2048x1 ![0] bcast_S2048_S2048x1_0 (maxOf (probs m))) (broadcastInDim S2048x1 ![0] bcast_S2048_S2048x1_0 (maxOf (probs2 m))))
    shapeCasts_S2048x1024_S1x2048x1024
/-- The second result. -/
def res1 : S1x2048x8.Idx → Elt F .f32 := shapeCast S1x2048x8 (W2 m (Proc.devRef .tc main_v1_0)) shapeCasts_S2048x8_S1x2048x8

section End

variable (ys : S5888x8x128.Idx → Elt F .f32)

/-- The grouped call and the gather change no other buffer. -/
theorem W7_ne {b : DevRef τ sig} (h : b ≠ Proc.devRef .tc main_v61) (h' : b ≠ Proc.devRef .tc main_v60) : W7 m ys b = W5 m b :=
  (Function.update_of_ne h ..).trans (gemmOut_ne _ _ h')

/-- The gathered rows after the gather. -/
theorem W7_v61 : W7 m ys (Proc.devRef .tc main_v61) = y12V m := Function.update_self ..

/-- What everything after the router keeps. -/
theorem W10_keep (r : Ref sig .tc) (h : r ∈ keep0) : W10 m ys (Proc.devRef .tc r) = W2 m (Proc.devRef .tc r) := by
  have hne : ∀ r', r' ∉ keep0 → (Proc.devRef .tc r : DevRef τ sig) ≠ Proc.devRef .tc r' := fun r' hr' e => hr' (Proc.devRef_injective _ e ▸ h)
  exact (ops4_kept (W9 m ys) r h).trans ((combineOut_ne _ (hne _ (by decide))).trans ((ops3_kept (W7 m ys) r h).trans
    ((W7_ne m ys (hne _ (by decide)) (hne _ (by decide))).trans (W5_keep m r h))))

/-- The first result at the end. -/
theorem W10_v66 : W10 m ys (Proc.devRef .tc main_v66) = res0 m := by
  refine (r4_v66 (W9 m ys)).trans ?_
  refine congrArg (fun z => shapeCast S1x2048x1024 z shapeCasts_S2048x1024_S1x2048x1024) ?_
  refine (combineOut_self (W8 m ys)).trans ?_
  unfold W8
  rw [r3_v62, r3_v63, r3_v64, W7_v61, W7_ne m ys (b := Proc.devRef .tc main_v4) (by decide) (by decide),
    W7_ne m ys (b := Proc.devRef .tc main_v11) (by decide) (by decide), W5_v4, W5_v11]

/-- The second result at the end. -/
theorem W10_v67 : W10 m ys (Proc.devRef .tc main_v67) = res1 m := by
  refine (r4_v67 (W9 m ys)).trans ?_
  refine congrArg (fun z => shapeCast S1x2048x8 z shapeCasts_S2048x8_S1x2048x8) ?_
  exact (combineOut_ne _ (by decide)).trans ((ops3_kept (W7 m ys) main_v1_0 (by decide)).trans
    ((W7_ne m ys (by decide) (by decide)).trans (W5_keep m main_v1_0 (by decide))))

/-- The arguments, as the router leaves them. -/
theorem W2_arg (r : Ref sig .tc) (h : r ∈ [main_arg0, main_arg1, main_arg2, main_arg3, main_arg4]) : W2 m (Proc.devRef .tc r) = W0 m (Proc.devRef .tc r) := by
  have hne : ∀ r', r' ∉ [main_arg0, main_arg1, main_arg2, main_arg3, main_arg4] → (Proc.devRef .tc r : DevRef τ sig) ≠ Proc.devRef .tc r' :=
    fun r' hr' e => hr' (Proc.devRef_injective _ e ▸ h)
  exact (routerOut_ne _ (hne _ (by decide)) (hne _ (by decide)) (hne _ (by decide))).trans
    (ops0_kept (W0 m) r (show r ∈ [main_arg0, main_arg1, main_arg2, main_arg3, main_arg4] ++ [main_v1_0, main_v1_2] from List.mem_append_left _ h))

/-- The arguments at the end. -/
theorem W10_arg (r : Ref sig .tc) (h : r ∈ [main_arg0, main_arg1, main_arg2, main_arg3, main_arg4]) : W10 m ys (Proc.devRef .tc r) = W0 m (Proc.devRef .tc r) :=
  (W10_keep m ys r (show r ∈ [main_arg0, main_arg1, main_arg2, main_arg3, main_arg4] ++ [main_v1_0, main_v1_2] from List.mem_append_left _ h)).trans (W2_arg m r h)

end End

end Cert.Proof.Moe

end
-- ==== Proof.Rows.lean ====
/-
  A row of eight extended reals: its maximum, its two largest entries, and the weights they give.
-/
module

public import Idealize.ShloMosaic.PureOps.Ideal.Laws
public import Idealize.ShloMosaic.Lib.IdealHost
public import Idealize.ShloMosaic.Lib.SortFacts

@[expose] public section

noncomputable section

namespace Cert.Proof.Rows

open Idealize.ShloMosaic

/-- The largest entry of a row. -/
def mx (v : Fin 8 → EReal) : EReal := (Finset.univ : Finset (Fin 8)).fold max ⊥ v

/-- An entry is at most the largest. -/
theorem le_mx (v : Fin 8 → EReal) (e : Fin 8) : v e ≤ mx v :=
  (Finset.le_fold_max (v e)).2 (Or.inr ⟨e, Finset.mem_univ e, le_refl _⟩)

/-- A bound of every entry bounds the largest. -/
theorem mx_le (v : Fin 8 → EReal) (c : EReal) (h : ∀ e, v e ≤ c) : mx v ≤ c :=
  Finset.fold_max_le c |>.2 ⟨bot_le, fun e _ => h e⟩

/-- A row's largest entry, where one entry is at least all others. -/
theorem mx_eq (v : Fin 8 → EReal) (a : Fin 8) (h : ∀ e, v e ≤ v a) : mx v = v a :=
  le_antisymm (mx_le v _ h) (le_mx v a)

/-- The largest entry is one of the row. -/
theorem exists_mx (v : Fin 8 → EReal) : ∃ a, v a = mx v := by
  obtain ⟨a, -, ha⟩ := Finset.exists_max_image (Finset.univ : Finset (Fin 8)) v ⟨0, Finset.mem_univ _⟩
  exact ⟨a, (mx_eq v a fun e => ha e (Finset.mem_univ e)).symm⟩

/-- The softmax of a row. -/
def soft (l : Fin 8 → EReal) : Fin 8 → EReal := fun e => Ideal.div (Ideal.exp (l e - mx l)) (∑ k, Ideal.exp (l k - mx l))

/-- The row with its largest entries replaced by minus one. -/
def off (v : Fin 8 → EReal) : Fin 8 → EReal := fun e => if v e = mx v then -1 else v e

/-- The two largest entries of a row, each alone at its place, both positive and finite. -/
structure Tops (p : Fin 8 → EReal) (a1 a2 : Fin 8) (m1 m2 : ℝ) : Prop where
  ne : a2 ≠ a1
  at1 : p a1 = (m1 : EReal)
  at2 : p a2 = (m2 : EReal)
  pos : 0 < m2
  lt : m2 < m1
  lt1 : ∀ e, e ≠ a1 → p e < (m1 : EReal)
  lt2 : ∀ e, e ≠ a1 → e ≠ a2 → p e < (m2 : EReal)

/-- The exponential is not negative. -/
theorem exp_nonneg (x : EReal) : 0 ≤ Ideal.exp x := by
  induction x with
  | bot => exact le_refl _
  | top => exact le_top
  | coe r => exact EReal.coe_nonneg.2 (Real.exp_pos r).le

/-- Entries that are not negative, divided by their sum: where the largest is alone, they are finite and not negative. -/
theorem div_real (x : Fin 8 → EReal) (hx : ∀ e, 0 ≤ x e) (h1 : ∃! a, Ideal.div (x a) (∑ k, x k) = mx fun e => Ideal.div (x e) (∑ k, x k)) :
    ∃ q : Fin 8 → ℝ, ∀ e, 0 ≤ q e ∧ Ideal.div (x e) (∑ k, x k) = (q e : EReal) := by
  have hle : ∀ e, x e ≤ ∑ k, x k := fun e => Finset.single_le_sum (fun k _ => hx k) (Finset.mem_univ e)
  have hs0 : (0 : EReal) ≤ ∑ k, x k := Finset.sum_nonneg fun k _ => hx k
  generalize hS : ∑ k, x k = S at *
  have tie : ∀ c : EReal, (∀ e, Ideal.div (x e) S = c) → False := by
    intro c hc
    obtain ⟨a, -, ha⟩ := h1
    have e : ∀ e, Ideal.div (x e) S = mx fun e => Ideal.div (x e) S := fun e => by
      obtain ⟨b, hb⟩ := exists_mx fun e => Ideal.div (x e) S
      rw [← hb, hc, hc]
    exact absurd ((ha 0 (e 0)).trans (ha 1 (e 1)).symm) (by decide)
  induction S with
  | bot => exact absurd hs0 (by simp)
  | top =>
    refine (tie 0 fun e => ?_).elim
    unfold Ideal.div
    rw [if_neg (by simp), EReal.inv_top, mul_zero]
  | coe s =>
    have hs : 0 ≤ s := EReal.coe_nonneg.1 hs0
    rcases hs.eq_or_lt with rfl | hs
    · refine (tie ⊥ fun e => ?_).elim
      have : x e = 0 := le_antisymm (hle e) (hx e)
      unfold Ideal.div
      rw [if_pos EReal.coe_zero, this, if_neg (lt_irrefl _)]
    · have hr : ∀ e, ∃ r : ℝ, 0 ≤ r ∧ x e = (r : EReal) := fun e => by
        have h1 := hle e
        have h2 := hx e
        generalize x e = z at *
        induction z with
        | bot => exact absurd h2 (by simp)
        | top => exact absurd h1 (by simp)
        | coe r => exact ⟨r, EReal.coe_nonneg.1 h2, rfl⟩
      choose r hr0 hr using hr
      refine ⟨fun e => r e / s, fun e => ⟨div_nonneg (hr0 e) hs.le, ?_⟩⟩
      unfold Ideal.div
      rw [if_neg (by exact_mod_cast hs.ne'), hr, ← EReal.coe_inv, ← EReal.coe_mul]
      exact congrArg _ (div_eq_mul_inv _ _).symm

/-- Where the softmax's largest entry is alone, and the largest of the rest too, these are its two largest. -/
theorem tops_of_unique (l : Fin 8 → EReal) (h1 : ∃! a, soft l a = mx (soft l)) (h2 : ∃! a, off (soft l) a = mx (off (soft l))) :
    ∃ a1 a2 m1 m2, Tops (soft l) a1 a2 m1 m2 := by
  obtain ⟨q, hq⟩ := div_real (fun e => Ideal.exp (l e - mx l)) (fun e => exp_nonneg _) h1
  have hp : ∀ e, soft l e = (q e : EReal) := fun e => (hq e).2
  have hq0 : ∀ e, 0 ≤ q e := fun e => (hq e).1
  generalize soft l = p at *
  obtain ⟨a1, e1, u1⟩ := h1
  obtain ⟨a2, e2, u2⟩ := h2
  have l1 : ∀ e, e ≠ a1 → p e < p a1 := fun e he =>
    lt_of_le_of_ne (e1 ▸ le_mx p e) fun h => he (u1 e (h.trans e1))
  have l2 : ∀ e, e ≠ a2 → off p e < off p a2 := fun e he =>
    lt_of_le_of_ne (e2 ▸ le_mx _ e) fun h => he (u2 e (h.trans e2))
  have o1 : off p a1 = -1 := if_pos e1
  have o : ∀ e, e ≠ a1 → off p e = p e := fun e he => if_neg fun h => he (u1 e h)
  have neg : (-1 : EReal) < 0 := by
    have : ((-1 : ℝ) : EReal) < ((0 : ℝ) : EReal) := EReal.coe_lt_coe_iff.2 (by norm_num)
    simpa using this
  have hne : a2 ≠ a1 := by
    rintro rfl
    obtain ⟨e, he⟩ : ∃ e : Fin 8, e ≠ a2 := ⟨if a2 = 0 then 1 else 0, by split <;> simp_all [eq_comm]⟩
    have := l2 e he
    rw [o1, o e he, hp] at this
    exact absurd (lt_trans this neg) (not_lt.2 (EReal.coe_nonneg.2 (hq0 e)))
  obtain ⟨e3, h31, h32⟩ : ∃ e : Fin 8, e ≠ a1 ∧ e ≠ a2 := (by decide : ∀ a b : Fin 8, ∃ e : Fin 8, e ≠ a ∧ e ≠ b) a1 a2
  refine ⟨a1, a2, q a1, q a2, hne, hp a1, hp a2, ?_, ?_, fun e he => hp a1 ▸ l1 e he, fun e he he' => ?_⟩
  · have := l2 e3 h32
    rw [o e3 h31, o a2 hne, hp, hp, EReal.coe_lt_coe_iff] at this
    exact lt_of_le_of_lt (hq0 e3) this
  · have := l1 a2 hne
    rwa [hp, hp, EReal.coe_lt_coe_iff] at this
  · have := l2 e he'
    rwa [o e he, o a2 hne, hp a2] at this

/-- A sort by "greater" puts the largest entry, then the second, first. -/
theorem sorted_tops {p : Fin 8 → EReal} {a1 a2 : Fin 8} {m1 m2 : ℝ} (h : Tops p a1 a2 m1 m2) (R : Fin 8 → Fin 8 → Bool)
    (hR : ∀ k k', R k k' = decide (p k' < p k)) : sortedFrom R 0 = a1 ∧ sortedFrom R 1 = a2 := by
  have hn : ∀ i j : Fin 8, i < j → p (sortedFrom R j) ≤ p (sortedFrom R i) := by
    intro i j hij
    have := sortedFrom_noInversion R R (fun a b hab => by
        rw [hR] at hab ⊢
        simpa using le_of_lt (of_decide_eq_true hab)) (fun a b hab => hab)
      (fun a b c hab hbc => by
        rw [hR] at hab hbc ⊢
        simp only [decide_eq_false_iff_not, not_lt] at hab hbc ⊢
        exact le_trans hab hbc) i j hij
    rw [hR] at this
    simpa using this
  have inj := sortedFrom_injective R
  obtain ⟨i1, hi1⟩ := sortedFrom_surjective R a1
  obtain ⟨i2, hi2⟩ := sortedFrom_surjective R a2
  have h0 : sortedFrom R 0 = a1 := by
    by_contra hc
    have hi : (0 : Fin 8) < i1 := Fin.pos_iff_ne_zero.2 fun e => hc (e ▸ hi1)
    have := hn 0 i1 hi
    rw [hi1, h.at1] at this
    exact absurd (h.lt1 _ hc) (not_lt.2 this)
  refine ⟨h0, ?_⟩
  by_contra hc
  have hne : sortedFrom R 1 ≠ a1 := fun e => absurd (inj (e.trans h0.symm)) (by decide)
  have hi0 : i2 ≠ 0 := fun e => h.ne (by rw [← hi2, e, h0])
  have hi1' : i2 ≠ 1 := fun e => hc (by rw [← e, hi2])
  have hi : (1 : Fin 8) < i2 := by
    rcases i2 with ⟨n, hn'⟩
    rw [Fin.lt_def]
    show 1 < n
    have h0 : n ≠ 0 := fun e => hi0 (Fin.ext e)
    have h1 : n ≠ 1 := fun e => hi1' (Fin.ext e)
    omega
  have := hn 1 i2 hi
  rw [hi2, h.at2] at this
  exact absurd (h.lt2 _ hne hc) (not_lt.2 this)

/-- The two weights. -/
def wa (m1 m2 : ℝ) : ℝ := m1 / (m1 + m2)
/-- The second. -/
def wb (m1 m2 : ℝ) : ℝ := m2 / (m1 + m2)

/-- The quotients of the two by their sum. -/
theorem div_tops {m1 m2 : ℝ} (h2 : 0 < m2) (h1 : m2 < m1) (x : ℝ) : Ideal.div (x : EReal) ((m1 : EReal) + (m2 : EReal)) = ((x / (m1 + m2) : ℝ) : EReal) := by
  unfold Ideal.div
  rw [← EReal.coe_add, if_neg (by have : m1 + m2 ≠ 0 := by linarith
                                  exact_mod_cast this), ← EReal.coe_inv, ← EReal.coe_mul, div_eq_mul_inv]

/-- The second weight is positive. -/
theorem wb_pos {m1 m2 : ℝ} (h2 : 0 < m2) (h1 : m2 < m1) : 0 < wb m1 m2 := div_pos h2 (by linarith)
/-- The second weight is below the first. -/
theorem wb_lt_wa {m1 m2 : ℝ} (h2 : 0 < m2) (h1 : m2 < m1) : wb m1 m2 < wa m1 m2 := div_lt_div_of_pos_right h1 (by linarith)

/-- The row of weights. -/
def cmb (a1 a2 : Fin 8) (m1 m2 : ℝ) : Fin 8 → EReal := fun e => if e = a1 then (wa m1 m2 : EReal) else if e = a2 then (wb m1 m2 : EReal) else 0

/-- The row of weights has its two largest entries at the same places. -/
theorem cmb_tops {a1 a2 : Fin 8} {m1 m2 : ℝ} (hne : a2 ≠ a1) (h2 : 0 < m2) (h1 : m2 < m1) : Tops (cmb a1 a2 m1 m2) a1 a2 (wa m1 m2) (wb m1 m2) where
  ne := hne
  at1 := if_pos rfl
  at2 := (if_neg hne).trans (if_pos rfl)
  pos := wb_pos h2 h1
  lt := wb_lt_wa h2 h1
  lt1 e he := by
    unfold cmb
    rw [if_neg he]
    split
    · exact EReal.coe_lt_coe_iff.2 (wb_lt_wa h2 h1)
    · exact_mod_cast (wb_pos h2 h1).trans (wb_lt_wa h2 h1)
  lt2 e he he' := by
    unfold cmb
    rw [if_neg he, if_neg he']
    exact_mod_cast wb_pos h2 h1

/-- The largest of the row. -/
theorem Tops.mx1 {p : Fin 8 → EReal} {a1 a2 : Fin 8} {m1 m2 : ℝ} (h : Tops p a1 a2 m1 m2) : mx p = (m1 : EReal) :=
  (mx_eq p a1 fun e => by
    rcases eq_or_ne e a1 with rfl | he
    · exact le_refl _
    · exact h.at1 ▸ (h.lt1 e he).le).trans h.at1

/-- The row with its largest entry replaced by minus one. -/
def offAt (a : Fin 8) (p : Fin 8 → EReal) : Fin 8 → EReal := fun e => if e = a then -1 else p e

/-- The largest of the rest is alone. -/
theorem Tops.lt_off {p : Fin 8 → EReal} {a1 a2 : Fin 8} {m1 m2 : ℝ} (h : Tops p a1 a2 m1 m2) (e : Fin 8) (he : e ≠ a2) : offAt a1 p e < offAt a1 p a2 := by
  have e2 : offAt a1 p a2 = (m2 : EReal) := (if_neg h.ne).trans h.at2
  rw [e2]
  rcases eq_or_ne e a1 with rfl | he1
  · refine lt_of_eq_of_lt (if_pos rfl) ?_
    have : ((-1 : ℝ) : EReal) < ((m2 : ℝ) : EReal) := EReal.coe_lt_coe_iff.2 (by linarith [h.pos])
    simpa using this
  · exact lt_of_eq_of_lt (if_neg he1) (h.lt2 e he1 he)

/-- With the largest entry replaced, the second is the largest. -/
theorem Tops.mx2 {p : Fin 8 → EReal} {a1 a2 : Fin 8} {m1 m2 : ℝ} (h : Tops p a1 a2 m1 m2) : mx (offAt a1 p) = (m2 : EReal) :=
  (mx_eq _ a2 fun e => by
    rcases eq_or_ne e a2 with rfl | he
    · exact le_refl _
    · exact (h.lt_off e he).le).trans ((if_neg h.ne).trans h.at2)

/-- A sum over the experts weighted by the row of weights. -/
theorem sum_cmb {a1 a2 : Fin 8} (hne : a2 ≠ a1) (m1 m2 : ℝ) (y : Fin 8 → EReal) :
    ∑ e, y e * cmb a1 a2 m1 m2 e = y a1 * (wa m1 m2 : EReal) + y a2 * (wb m1 m2 : EReal) := by
  rw [Finset.sum_eq_add a1 a2 hne.symm (fun e _ he => ?_) (fun h => absurd (Finset.mem_univ _) h) (fun h => absurd (Finset.mem_univ _) h)]
  · unfold cmb; rw [if_pos rfl, if_neg hne, if_pos rfl]
  · unfold cmb; rw [if_neg he.1, if_neg he.2, mul_zero]

end Cert.Proof.Rows

end
-- ==== Proof.IdealProducts.lean ====
/-
  The products of the kernel and of the reference, read at an index.
-/
module

public import proofs.«01_k».proof.Proof.RefRun
public import proofs.«01_k».proof.Proof.Values
public import proofs.«01_k».proof.Proof.Rows
public import Idealize.ShloMosaic.Lib.Pointwise

@[expose] public section

set_option backward.isDefEq.respectTransparency.types false

noncomputable section

namespace Cert.Proof.Alg

open Idealize.ShloMosaic Idealize.ShloMosaic.ValueIdx
open Cert.KernelIdeal (S1x2048x1024 S8x1024 S8x1024x1024 S2048x8 S2048x1024 S256x8x128)

/-- The logits. -/
def lg (x : S1x2048x1024.Idx → EReal) (g : S8x1024.Idx → EReal) (t : Fin 2048) (e : Fin 8) : EReal :=
  ∑ k : Fin 1024, x (ValueIdx.ix3 0 t k) * g (ValueIdx.ix2 e k)

/-- The reference's logits. -/
theorem lgV_apply (x : S1x2048x1024.Idx → EReal) (g : S8x1024.Idx → EReal) (t : Fin 2048) (e : Fin 8) :
    Cert.Proof.Ref.lgV (F := Ideal) x g (ValueIdx.ix2 t e) = lg x g t e := by
  unfold Cert.Proof.Ref.lgV lg
  pointwise
  rfl

/-- The kernel's logits. -/
theorem pay3_apply (x : S1x2048x1024.Idx → EReal) (g : S8x1024.Idx → EReal) (t : Fin 2048) (e : Fin 8) :
    Cert.KernelIdeal.Gen.k0_pay3 (F := Ideal) (shapeCast S2048x1024 x Cert.KernelIdeal.Gen.shapeCasts_S1x2048x1024_S2048x1024) g (ValueIdx.ix2 t e) = lg x g t e := by
  unfold Cert.KernelIdeal.Gen.k0_pay3 Cert.KernelIdeal.Gen.k0_pay2 lg
  pointwise
  rfl

/-- One of an expert's two products. -/
def hd (x : S1x2048x1024.Idx → EReal) (w : S8x1024x1024.Idx → EReal) (t : Fin 2048) (e : Fin 8) (f : Fin 1024) : EReal :=
  ∑ d : Fin 1024, x (ValueIdx.ix3 0 t d) * w (ValueIdx.ix3 e f d)

/-- `silu`. -/
def sl (a : EReal) : EReal := a * Ideal.logistic a

/-- An expert's result for a token. -/
def ye (x : S1x2048x1024.Idx → EReal) (wg wu wd : S8x1024x1024.Idx → EReal) (t : Fin 2048) (e : Fin 8) (j : Fin 1024) : EReal :=
  ∑ f : Fin 1024, (sl (hd x wg t e f) * hd x wu t e f) * wd (ValueIdx.ix3 e j f)

/-- The reference's products. -/
theorem hdV_apply (x : S1x2048x1024.Idx → EReal) (w : S8x1024x1024.Idx → EReal) (t : Fin 2048) (e : Fin 8) (f : Fin 1024) :
    Cert.Proof.Ref.hdV (F := Ideal) x w (ValueIdx.ix3 t e f) = hd x w t e f := by
  unfold Cert.Proof.Ref.hdV hd
  pointwise
  rfl

/-- The reference's `silu`. -/
theorem slV_apply (a : Cert.ReferenceIdeal.S2048x8x1024.Idx → EReal) (i : Cert.ReferenceIdeal.S2048x8x1024.Idx) :
    Cert.Proof.Ref.slV (F := Ideal) a i = sl (a i) := by
  unfold Cert.Proof.Ref.slV sl Ideal.logistic
  pointwise

/-- The reference's weighted sum. -/
theorem otV_apply (w : S8x1024x1024.Idx → EReal) (h : Cert.ReferenceIdeal.S2048x8x1024.Idx → EReal) (cb : S2048x8.Idx → EReal) (t : Fin 2048) (j : Fin 1024) :
    Cert.Proof.Ref.otV (F := Ideal) w h cb (ValueIdx.ix2 t j)
      = ∑ e : Fin 8, (∑ f : Fin 1024, h (ValueIdx.ix3 t e f) * w (ValueIdx.ix3 e j f)) * cb (ValueIdx.ix2 t e) := by
  unfold Cert.Proof.Ref.otV
  pointwise
  exact Finset.sum_congr rfl fun e _ => congrArg (· * cb (ValueIdx.ix2 t e)) (Finset.sum_congr rfl fun f _ => mul_comm _ _)

/-- The grouped call's body. -/
theorem pay1_apply (X : S256x8x128.Idx → EReal) (W1 W2 W3 : Cert.KernelIdeal.S1x1024x1024.Idx → EReal) (r : Fin 256) (p : Fin 8) (q : Fin 128)
    (j : Fin 1024) (hj : j.val = p.val * 128 + q.val) :
    Cert.KernelIdeal.Gen.k2_pay1 (F := Ideal) X W1 W2 W3 (ValueIdx.ix3 r p q)
      = ∑ f : Fin 1024, (sl (∑ d : Fin 1024, X (ValueIdx.ix3 r ⟨d.val / 128, by omega⟩ ⟨d.val % 128, by omega⟩) * W1 (ValueIdx.ix3 0 f d))
          * ∑ d : Fin 1024, X (ValueIdx.ix3 r ⟨d.val / 128, by omega⟩ ⟨d.val % 128, by omega⟩) * W2 (ValueIdx.ix3 0 f d)) * W3 (ValueIdx.ix3 0 j f) := by
  have hl : p.val * 128 + q.val < 1024 := hj ▸ j.isLt
  obtain rfl : j = ⟨p.val * 128 + q.val, hl⟩ := Fin.ext hj
  unfold Cert.KernelIdeal.Gen.k2_pay1 sl
  pointwise
  rfl

end Cert.Proof.Alg

end
-- ==== Proof.IdealRouter.lean ====
/-
  The router at the extended reals: the softmax, its two largest entries, and the weights.
-/
module

public import proofs.«01_k».proof.Proof.IdealProducts
public import proofs.«01_k».proof.Pre_no_tie
public import proofs.«01_k».proof.Proof.Gen.Pre_no_tie

@[expose] public section

set_option backward.isDefEq.respectTransparency.types false

noncomputable section

namespace Cert.Proof.Alg

open Idealize.ShloMosaic Idealize.ShloMosaic.ValueIdx
open Cert.KernelIdeal (S1x2048x1024 S8x1024 S8x1024x1024 S2048x8 S2048x1024 S256x8x128 S2048)
open Cert.Proof.Rows

/-- A token's row. -/
abbrev row (p : S2048x8.Idx → EReal) (t : Fin 2048) : Fin 8 → EReal := fun e => p (ValueIdx.ix2 t e)

/-- The word of minus infinity. -/
theorem ofBits_bot : Ideal.ofBits .f32 0xFF800000#32 = ⊥ := by simp [Ideal.ofBits, Ideal.ieee]
/-- The word of minus one. -/
theorem ofBits_neg_one : Ideal.ofBits .f32 0xBF800000#32 = -1 := by
  have h : Ideal.ofBits .f32 0xBF800000#32 = ((-1 : ℝ) : EReal) := by
    simp [Ideal.ofBits, Ideal.ieee, -EReal.coe_mul, -EReal.coe_neg]; norm_num
  rw [h, EReal.coe_neg, EReal.coe_one]

/-- A vector of the rows' values laid along the rows. -/
theorem bcast_row {α : Type} (h : Cert.ReferenceIdeal.S2048x1.BroadcastsInDim S2048x8 ![0, 1]) (h' : S2048.BroadcastsInDim Cert.ReferenceIdeal.S2048x1 ![0])
    (y : S2048.Idx → α) (t : Fin 2048) (e : Fin 8) :
    broadcastInDim S2048x8 ![0, 1] h (broadcastInDim Cert.ReferenceIdeal.S2048x1 ![0] h' y) (ValueIdx.ix2 t e) = y (ValueIdx.ix1 t) := by
  pointwise
  exact congrArg y (funext fun b => by match b with | 0 => rfl)

/-- The entry of a row at a place. -/
theorem lift_eq (h : S2048x8.Reduces [1] S2048) (t : Fin 2048) (k : Fin 8) : h.lift (ValueIdx.ix1 t) k = ValueIdx.ix2 t k := by
  funext b
  match b with
  | 0 => rfl
  | 1 => rfl

/-- The kernel's largest of each row. -/
theorem max_kernel (p : S2048x8.Idx → EReal) (h : S2048x8.Reduces [1] S2048) (hφ : FKind.Formats .f32) (hacc) (t : Fin 2048) :
    multiReduction (F := Ideal) (φ := .f32) .maximumf [1] S2048 p 0xFF800000#32 h hφ hacc (ValueIdx.ix1 t) = mx (row p t) := by
  rw [Ideal.multiReduction_maximumf_single]
  unfold mx
  rw [show (FloatOps.ofBits .f32 0xFF800000#32 : Ideal .f32) = ⊥ from ofBits_bot]
  exact congrArg (fun f => Finset.fold max ⊥ f Finset.univ) (funext fun k => congrArg p (lift_eq h t k))

/-- The kernel's sum of each row. -/
theorem sum_kernel (p : S2048x8.Idx → EReal) (h : S2048x8.Reduces [1] S2048) (hφ : FKind.Formats .f32) (hacc) (t : Fin 2048) :
    multiReduction (F := Ideal) (φ := .f32) .add [1] S2048 p 0x00000000#32 h hφ hacc (ValueIdx.ix1 t) = ∑ k, row p t k := by
  rw [Ideal.multiReduction_add_single]
  exact Finset.sum_congr rfl fun k _ => congrArg p (lift_eq h t k)

/-- The host's largest of each row. -/
theorem max_host (p : S2048x8.Idx → EReal) (h : S2048x8.ReducesTo [1] S2048) (hu) (t : Fin 2048) :
    Host.reduce (FloatOps.maximumf (F := Ideal) (φ := .f32)) p (constant (F := Ideal) Cert.KernelIdeal.S_ .f32 0xFF800000#32) h hu (ValueIdx.ix1 t) = mx (row p t) := by
  rw [Host.reduce_eq_fold_single _ _ _ h Cert.KernelIdeal.Gen.reduces_S2048x8_S2048]
  unfold mx
  rw [show constant (F := Ideal) Cert.KernelIdeal.S_ .f32 0xFF800000#32 (Shape.Idx.first hu) = ⊥ from ofBits_bot]
  exact congrArg (fun f => Finset.fold max ⊥ f Finset.univ) (funext fun k => congrArg p (lift_eq Cert.KernelIdeal.Gen.reduces_S2048x8_S2048 t k))

/-- The host's sum of each row. -/
theorem sum_host (p : S2048x8.Idx → EReal) (h : S2048x8.ReducesTo [1] S2048) (hu) (t : Fin 2048) :
    Host.reduceAdd (F := Ideal) (φ := .f32) p (constant (F := Ideal) Cert.KernelIdeal.S_ .f32 0x00000000#32) h hu (ValueIdx.ix1 t) = ∑ k, row p t k := by
  rw [hostReduceAdd_apply, Ideal.hostReduceAdd_single h Cert.KernelIdeal.Gen.reduces_S2048x8_S2048]
  rw [show constant (F := Ideal) Cert.KernelIdeal.S_ .f32 0x00000000#32 (Shape.Idx.first hu) = 0 from Ideal.ofBits_zero_f32, zero_add]
  exact Finset.sum_congr rfl fun k _ => congrArg p (lift_eq _ t k)

/-- The kernel's place of the largest of each row, where it is alone. -/
theorem place_kernel (p : S2048x8.Idx → EReal) (h : S2048x8.Reduces [1] S2048) (t : Fin 2048) (a : Fin 8) (ha : ∀ e, e ≠ a → row p t e < row p t a) :
    Ideal.reduceIndex .argMax 1 h p (ValueIdx.ix1 t) = BitVec.ofNat 32 a.val := by
  classical
  unfold Ideal.reduceIndex
  have hmem : ∀ i : S2048x8.Idx, h.drop i = ValueIdx.ix1 t ↔ i 0 = t := by
    intro i
    constructor
    · intro e; exact congrFun e 0
    · intro e; funext b; match b with | 0 => exact e
  refine Eq.trans (congrArg (fun S : Finset S2048x8.Idx => BitVec.ofNat 32 ((S.image fun i => (i 1).val).min.getD 0))
    (?_ : _ = {(ValueIdx.ix2 t a : S2048x8.Idx)})) ?_
  · ext i
    simp only [Finset.mem_filter, Finset.mem_univ, true_and, Finset.mem_singleton, hmem, if_true]
    constructor
    · rintro ⟨h0, h1⟩
      have hi : i = ValueIdx.ix2 t (i 1) := funext fun b => by match b with | 0 => exact h0 | 1 => rfl
      by_contra hc
      have hne : (i 1 : Fin 8) ≠ a := fun e => hc (hi.trans (congrArg (ValueIdx.ix2 t) e))
      have := h1 (ValueIdx.ix2 t a) rfl
      rw [hi] at this
      exact this (ha _ hne)
    · rintro rfl
      refine ⟨rfl, fun i' h0 hlt => ?_⟩
      have hi : i' = ValueIdx.ix2 t (i' 1) := funext fun b => by match b with | 0 => exact h0 | 1 => rfl
      rw [hi] at hlt
      rcases eq_or_ne (i' 1 : Fin 8) a with e | e
      · rw [show (i' 1 : Fin 8) = a from e] at hlt; exact lt_irrefl _ hlt
      · exact lt_asymm hlt (ha _ e)
  · simp only [Finset.image_singleton, Finset.min_singleton]
    rfl

/-- The reference's probabilities. -/
theorem prV_row (l : S2048x8.Idx → EReal) (t : Fin 2048) : row (Cert.Proof.Ref.prV (F := Ideal) l) t = soft (row l t) := by
  have hm : ∀ k : Fin 8, Cert.Proof.Ref.exV (F := Ideal) l (ValueIdx.ix2 t k) = Ideal.exp (row l t k - mx (row l t)) := by
    intro k
    refine congrArg (fun z => Ideal.exp (l (ValueIdx.ix2 t k) - z)) ?_
    refine Eq.trans (show _ = max (Ideal.ofBits .f32 0xFF800000#32) (Host.reduce (FloatOps.maximumf (F := Ideal) (φ := .f32)) l
      (constant (F := Ideal) Cert.KernelIdeal.S_ .f32 0xFF800000#32) Cert.ReferenceIdeal.Gen.reducesTo_S2048x8_S2048_d1 Cert.ReferenceIdeal.Gen.h_S_ (ValueIdx.ix1 t)) from ?_) ?_
    · pointwise
    · rw [ofBits_bot, max_host, bot_sup_eq]
  funext e
  unfold soft
  refine Eq.trans (show _ = Ideal.div (Cert.Proof.Ref.exV (F := Ideal) l (ValueIdx.ix2 t e)) (Host.reduceAdd (F := Ideal) (φ := .f32) (Cert.Proof.Ref.exV (F := Ideal) l)
    (constant (F := Ideal) Cert.KernelIdeal.S_ .f32 0x00000000#32) Cert.ReferenceIdeal.Gen.reducesTo_S2048x8_S2048_d1 Cert.ReferenceIdeal.Gen.h_S_ (ValueIdx.ix1 t)) from ?_) ?_
  · exact congrArg (Ideal.div _) (bcast_row _ _ _ t e)
  · rw [sum_host, hm]
    exact congrArg _ (Finset.sum_congr rfl fun k _ => hm k)

end Cert.Proof.Alg

end
-- ==== Proof.IdealTops.lean ====
/-
  The router's weights at the extended reals, where the two largest probabilities of each row are alone.
-/
module

public import proofs.«01_k».proof.Proof.IdealRouter
public import Idealize.ShloMosaic.Lib.StableHlo.Predicate

@[expose] public section

set_option backward.isDefEq.respectTransparency.types false

noncomputable section

namespace Cert.Proof.Alg

open Idealize.ShloMosaic Idealize.ShloMosaic.ValueIdx
open Cert.KernelIdeal (S1x2048x1024 S8x1024 S8x1024x1024 S2048x8 S2048x1024 S256x8x128 S2048 S2048x1 S_)
open Cert.KernelIdeal.Gen
open Cert.Proof.Rows

/-- A place below eight, as a word, is that of another only if they are equal. -/
theorem ofNat_eq_iff (a b : Fin 8) : BitVec.ofNat 32 a.val = BitVec.ofNat 32 b.val ↔ a = b := by
  revert a b; decide

/-- Two words compared for equality. -/
theorem cmpi_eq_iff (a b : BitVec 32) : IntOp.cmpi .eq a b = 1#1 ↔ a = b := by
  unfold IntOp.cmpi
  by_cases hc : a = b
  · simp [hc]
  · have : (a == b) = false := beq_eq_false_iff_ne.2 hc
    simp [hc, this]

/-! ### The kernel's router -/

/-- A vector of the rows' values laid along the rows, as the kernel does it. -/
theorem bcastTo_row {α : Type} (y : S2048.Idx → α) (t : Fin 2048) (e : Fin 8) :
    broadcastTo S2048x8 (shapeCast S2048x1 y shapeCasts_S2048_S2048x1) broadcasts_S2048x1_S2048x8 (ValueIdx.ix2 t e) = y (ValueIdx.ix1 t) := by
  pointwise
  exact congrArg y (funext fun b => by match b with | 0 => rfl)

/-- The kernel's probabilities. -/
def kp (L : S2048x8.Idx → EReal) : S2048x8.Idx → EReal :=
  let v5 : FVec Ideal S2048 .f32 := multiReduction .maximumf [1] S2048 L 0xFF800000#32 reduces_S2048x8_S2048 (.inl rfl) rfl
  let v9 : FVec Ideal S2048x8 .f32 := exp (subf L (broadcastTo S2048x8 (shapeCast S2048x1 v5 shapeCasts_S2048_S2048x1) broadcasts_S2048x1_S2048x8))
  let v10 : FVec Ideal S2048 .f32 := multiReduction .add [1] S2048 v9 0x00000000#32 reduces_S2048x8_S2048 (.inl rfl) rfl
  divf v9 (broadcastTo S2048x8 (shapeCast S2048x1 v10 shapeCasts_S2048_S2048x1) broadcasts_S2048x1_S2048x8)

/-- The places of the rows' largest entries. -/
def ka (p : S2048x8.Idx → EReal) : IVec S2048 32 := reduceIndex (F := Ideal) .argMax 1 S2048 p reduces_S2048x8_S2048
/-- The rows' largest entries. -/
def km (p : S2048x8.Idx → EReal) : S2048.Idx → EReal := multiReduction (F := Ideal) (φ := .f32) .maximumf [1] S2048 p 0xFF800000#32 reduces_S2048x8_S2048 (.inl rfl) rfl
/-- Where a row's entry is at the place. -/
def kmask (a : IVec S2048 32) : IVec S2048x8 1 :=
  cmpi .eq (iota .tc S2048x8 32 [1] iota_S2048x8_d1_w32) (broadcastTo S2048x8 (shapeCast S2048x1 a shapeCasts_S2048_S2048x1) broadcasts_S2048x1_S2048x8)
/-- The rows with the entry at the place replaced by −1. -/
def koff (p : S2048x8.Idx → EReal) : S2048x8.Idx → EReal :=
  select (kmask (ka p)) (broadcast S2048x8 (Scalar.ofBits (F := Ideal) .f32 0xBF800000#32)) p
/-- A weight at a place, zero elsewhere. -/
def kput (a : IVec S2048 32) (w : S2048.Idx → EReal) : S2048x8.Idx → EReal :=
  select (kmask a) (broadcastTo S2048x8 (shapeCast S2048x1 (shapeCast S2048x1 w shapeCasts_S2048_S2048x1) shapeCasts_S2048x1_S2048x1) broadcasts_S2048x1_S2048x8)
    (broadcast S2048x8 (Scalar.ofBits (F := Ideal) .f32 0x00000000#32))

/-- The kernel's weights, from these. -/
theorem pay4_eq (v0 : S2048x1024.Idx → EReal) (v2 : S8x1024.Idx → EReal) :
    k0_pay4 (F := Ideal) v0 v2 =
      let p := kp (k0_pay3 (F := Ideal) v0 v2)
      addf (F := Ideal) (φ := .f32) (kput (ka p) (divf (F := Ideal) (φ := .f32) (km p) (addf (F := Ideal) (φ := .f32) (km p) (km (koff p)))))
        (kput (ka (koff p)) (divf (F := Ideal) (φ := .f32) (km (koff p)) (addf (F := Ideal) (φ := .f32) (km p) (km (koff p))))) := rfl

/-- The kernel’s probabilities are the softmax of the logits. -/
theorem kp_row (L : S2048x8.Idx → EReal) (t : Fin 2048) : row (kp L) t = soft (row L t) := by
  have hm : ∀ k : Fin 8, Ideal.exp (L (ValueIdx.ix2 t k) - broadcastTo S2048x8 (shapeCast S2048x1 (multiReduction (F := Ideal) (φ := .f32) .maximumf [1] S2048 L 0xFF800000#32
      reduces_S2048x8_S2048 (.inl rfl) rfl) shapeCasts_S2048_S2048x1) broadcasts_S2048x1_S2048x8 (ValueIdx.ix2 t k)) = Ideal.exp (row L t k - mx (row L t)) := by
    intro k
    rw [bcastTo_row, max_kernel]
  funext e
  have hs := (bcastTo_row (multiReduction (F := Ideal) (φ := .f32) .add [1] S2048 (fun i : S2048x8.Idx => Ideal.exp (L i - broadcastTo S2048x8 (shapeCast S2048x1
      (multiReduction (F := Ideal) (φ := .f32) .maximumf [1] S2048 L 0xFF800000#32 reduces_S2048x8_S2048 (.inl rfl) rfl) shapeCasts_S2048_S2048x1) broadcasts_S2048x1_S2048x8 i))
      0x00000000#32 reduces_S2048x8_S2048 (.inl rfl) rfl) t e).trans ((sum_kernel _ _ _ _ t).trans (Finset.sum_congr rfl fun k _ => hm k))
  unfold soft
  rw [← hm e, ← hs]
  rfl

/-- The mask is set at the place alone. -/
theorem kmask_iff (a : IVec S2048 32) (t : Fin 2048) (b : Fin 8) (h : a (ValueIdx.ix1 t) = BitVec.ofNat 32 b.val) (e : Fin 8) :
    kmask a (ValueIdx.ix2 t e) = 1#1 ↔ e = b := by
  have : kmask a (ValueIdx.ix2 t e) = IntOp.cmpi .eq (BitVec.ofNat 32 e.val) (BitVec.ofNat 32 b.val) := by
    refine congr (congrArg (IntOp.cmpi .eq) ?_) ((bcastTo_row a t e).trans h)
    exact (iota_single_apply ..)
  rw [this, ← ofNat_eq_iff, cmpi_eq_iff]

/-- The kernel’s place of a row’s largest entry, where it is alone. -/
theorem ka_eq (p : S2048x8.Idx → EReal) (t : Fin 2048) (a : Fin 8) (ha : ∀ e, e ≠ a → row p t e < row p t a) : ka p (ValueIdx.ix1 t) = BitVec.ofNat 32 a.val :=
  place_kernel p reduces_S2048x8_S2048 t a ha

/-- The kernel’s largest entry of a row. -/
theorem km_eq (p : S2048x8.Idx → EReal) (t : Fin 2048) : km p (ValueIdx.ix1 t) = mx (row p t) := max_kernel p _ _ _ t

/-- The rows with the entry at the place replaced. -/
theorem koff_row (p : S2048x8.Idx → EReal) (t : Fin 2048) (a : Fin 8) (ha : ka p (ValueIdx.ix1 t) = BitVec.ofNat 32 a.val) : row (koff p) t = offAt a (row p t) := by
  funext e
  show (if kmask (ka p) (ValueIdx.ix2 t e) = 1#1 then Ideal.ofBits .f32 0xBF800000#32 else p (ValueIdx.ix2 t e)) = if e = a then -1 else row p t e
  simp only [kmask_iff _ t a ha, ofBits_neg_one]

/-- A weight put at its place. -/
theorem kput_row (a : IVec S2048 32) (w : S2048.Idx → EReal) (t : Fin 2048) (b : Fin 8) (h : a (ValueIdx.ix1 t) = BitVec.ofNat 32 b.val) (e : Fin 8) :
    kput a w (ValueIdx.ix2 t e) = if e = b then w (ValueIdx.ix1 t) else 0 := by
  have : broadcastTo S2048x8 (shapeCast S2048x1 (shapeCast S2048x1 w shapeCasts_S2048_S2048x1) shapeCasts_S2048x1_S2048x1) broadcasts_S2048x1_S2048x8 (ValueIdx.ix2 t e)
      = w (ValueIdx.ix1 t) := by rw [shapeCast_self]; exact bcastTo_row w t e
  show (if kmask a (ValueIdx.ix2 t e) = 1#1 then _ else Ideal.ofBits .f32 0x00000000#32) = _
  simp only [kmask_iff _ t b h, this, Ideal.ofBits_zero_f32]

/-- The kernel's weights, where the two largest are alone. -/
theorem pay4_row (v0 : S2048x1024.Idx → EReal) (v2 : S8x1024.Idx → EReal) (t : Fin 2048) {a1 a2 : Fin 8} {m1 m2 : ℝ}
    (h : Tops (soft (row (k0_pay3 (F := Ideal) v0 v2) t)) a1 a2 m1 m2) : row (k0_pay4 (F := Ideal) v0 v2) t = cmb a1 a2 m1 m2 := by
  rw [pay4_eq]
  generalize hL : k0_pay3 (F := Ideal) v0 v2 = L at h ⊢
  rw [← kp_row] at h
  generalize kp L = p at *
  have e1 : ka p (ValueIdx.ix1 t) = BitVec.ofNat 32 a1.val := ka_eq p t a1 fun e he => h.at1 ▸ h.lt1 e he
  have eo := koff_row p t a1 e1
  have e2 : ka (koff p) (ValueIdx.ix1 t) = BitVec.ofNat 32 a2.val := ka_eq (koff p) t a2 (eo ▸ fun e he => h.lt_off e he)
  have f1 : km p (ValueIdx.ix1 t) = (m1 : EReal) := (km_eq p t).trans h.mx1
  have f2 : km (koff p) (ValueIdx.ix1 t) = (m2 : EReal) := (km_eq _ t).trans (eo ▸ h.mx2)
  funext e
  refine (congr (congrArg HAdd.hAdd (kput_row _ _ t a1 e1 e)) (kput_row _ _ t a2 e2 e)).trans ?_
  rw [divf_apply, divf_apply, addf_apply, f1, f2, div_tops h.pos h.lt, div_tops h.pos h.lt]
  unfold cmb wa wb
  by_cases c1 : e = a1
  · rw [if_pos c1, if_pos c1, if_neg (fun c2 => h.ne (c2.symm.trans c1)), add_zero]
  · rw [if_neg c1, if_neg c1, zero_add]

/-! ### The host's -/

/-- The host's reducer picks one of its two pairs, with the larger value. -/
theorem argmax_ideal (a b : EReal × BitVec 32) :
    (Cert.KernelIdeal.reducer_argmax_f32_i32 (F := Ideal) a b = a ∨ Cert.KernelIdeal.reducer_argmax_f32_i32 (F := Ideal) a b = b)
      ∧ a.1 ≤ (Cert.KernelIdeal.reducer_argmax_f32_i32 (F := Ideal) a b).1 ∧ b.1 ≤ (Cert.KernelIdeal.reducer_argmax_f32_i32 (F := Ideal) a b).1 := by
  have key : Cert.KernelIdeal.reducer_argmax_f32_i32 (F := Ideal) a b
      = if b.1 < a.1 then a else if a.1 = b.1 ∧ a.2.slt b.2 then (b.1, a.2) else b := by
    have u : FloatOps.cmpf (F := Ideal) (φ := .f32) .une a.1 a.1 = 0#1 := by rw [Ideal.cmpf_def]; simp [Ideal.cmp]
    unfold Cert.KernelIdeal.reducer_argmax_f32_i32
    simp only [u, Ideal.cmpf_def, Ideal.cmp, IntOp.cmpi, IntOp.ori, IntOp.andi, Scalar.select]
    by_cases c1 : b.1 < a.1
    · simp [c1]
      generalize (decide (a.1 = b.1) && a.2.slt b.2) = z
      cases z <;> rfl
    · by_cases c2 : a.1 = b.1
      · by_cases c3 : a.2.slt b.2
        · simp [c2, c3]
        · simp [c2, c3]
      · simp [c1, c2]
  rw [key]
  split
  · rename_i c; exact ⟨Or.inl rfl, le_refl _, c.le⟩
  · rename_i c
    split
    · rename_i c2; exact ⟨Or.inl (Prod.ext c2.1.symm rfl), not_lt.1 c, le_refl _⟩
    · exact ⟨Or.inr rfl, not_lt.1 c, le_refl _⟩

/-- A fold of the reducer ends at one of its pairs, with the largest value. -/
theorem argmax_fold_ideal (l : List (EReal × BitVec 32)) (b : EReal × BitVec 32) :
    (l.foldl (Cert.KernelIdeal.reducer_argmax_f32_i32 (F := Ideal)) b = b ∨ l.foldl (Cert.KernelIdeal.reducer_argmax_f32_i32 (F := Ideal)) b ∈ l)
      ∧ b.1 ≤ (l.foldl (Cert.KernelIdeal.reducer_argmax_f32_i32 (F := Ideal)) b).1
      ∧ ∀ q ∈ l, q.1 ≤ (l.foldl (Cert.KernelIdeal.reducer_argmax_f32_i32 (F := Ideal)) b).1 := by
  induction l generalizing b with
  | nil => exact ⟨Or.inl rfl, le_refl _, fun q hq => absurd hq (List.not_mem_nil)⟩
  | cons q l ih =>
    obtain ⟨i1, i2, i3⟩ := ih (Cert.KernelIdeal.reducer_argmax_f32_i32 (F := Ideal) b q)
    obtain ⟨k1, k2, k3⟩ := argmax_ideal b q
    refine ⟨?_, le_trans k2 i2, fun r hr => ?_⟩
    · rcases i1 with i1 | i1
      · rcases k1 with k1 | k1
        · exact Or.inl (i1.trans k1)
        · exact Or.inr (List.mem_cons.2 (Or.inl (i1.trans k1)))
      · exact Or.inr (List.mem_cons_of_mem _ i1)
    · rcases List.mem_cons.1 hr with rfl | hr
      · exact le_trans k3 i2
      · exact i3 r hr

/-- The host's place of the largest of a row, where it is alone. -/
theorem argOf_eq (p : S2048x8.Idx → EReal) (t : Fin 2048) (a : Fin 8) (ha : ∀ e, e ≠ a → row p t e < row p t a) :
    Cert.Proof.Moe.argOf (F := Ideal) p (ValueIdx.ix1 t) = BitVec.ofNat 32 a.val := by
  have hmem : ∀ i : S2048x8.Idx, reducesTo_S2048x8_S2048_d1.drop i = ValueIdx.ix1 t ↔ i 0 = t := by
    intro i
    constructor
    · intro e; exact congrFun e 0
    · intro e; funext b; match b with | 0 => exact e
  unfold Cert.Proof.Moe.argOf
  rw [Ideal.argReduce_eq_reduce2, Host.reduce2_eq_foldl_fiber]
  obtain ⟨h1, -, h3⟩ := argmax_fold_ideal (Host.argReduceFiber p (iotaInDim S2048x8 32 1) reducesTo_S2048x8_S2048_d1 (ValueIdx.ix1 t))
    ((constant (F := Ideal) S_ .f32 0xFF800000#32) (Shape.Idx.first h_S_), (constantI S_ 32 0#32) (Shape.Idx.first h_S_))
  have hin : ((p (ValueIdx.ix2 t a), BitVec.ofNat 32 a.val) : EReal × BitVec 32) ∈ Host.argReduceFiber p (iotaInDim S2048x8 32 1) reducesTo_S2048x8_S2048_d1 (ValueIdx.ix1 t) := by
    refine List.mem_map.2 ⟨S2048x8.rowMajor (ValueIdx.ix2 t a), List.mem_filter.2 ⟨List.mem_finRange _, ?_⟩, ?_⟩
    · rw [Equiv.symm_apply_apply]; exact decide_eq_true ((hmem _).2 rfl)
    · rw [Equiv.symm_apply_apply]; rfl
  have hge := h3 _ hin
  rcases h1 with h1 | h1
  · rw [h1] at hge
    obtain ⟨e, he⟩ : ∃ e : Fin 8, e ≠ a := (by decide : ∀ a : Fin 8, ∃ e : Fin 8, e ≠ a) a
    have hb : (constant (F := Ideal) S_ .f32 0xFF800000#32) (Shape.Idx.first h_S_) = ⊥ := ofBits_bot
    exact absurd (lt_of_lt_of_le (ha e he) (hge.trans (le_of_eq hb))) (not_lt.2 bot_le)
  · obtain ⟨n, hn, hv⟩ := List.mem_map.1 h1
    have hd : reducesTo_S2048x8_S2048_d1.drop (S2048x8.rowMajor.symm n) = ValueIdx.ix1 t := of_decide_eq_true (List.mem_filter.1 hn).2
    generalize S2048x8.rowMajor.symm n = i at *
    have hi : i = ValueIdx.ix2 t (i 1) := funext fun b => by match b with | 0 => exact (hmem i).1 hd | 1 => rfl
    refine Eq.trans (congrArg Prod.snd hv.symm) ?_
    show BitVec.ofNat 32 (i 1).val = _
    by_contra hc
    have hne : (i 1 : Fin 8) ≠ a := fun e => hc (congrArg (fun z : Fin 8 => BitVec.ofNat 32 z.val) e)
    rw [← hv] at hge
    have := ha _ hne
    rw [hi] at hge
    exact absurd this (not_lt.2 hge)

/-- The host’s largest entry of a row. -/
theorem maxOf_eq (p : S2048x8.Idx → EReal) (t : Fin 2048) : Cert.Proof.Moe.maxOf (F := Ideal) p (ValueIdx.ix1 t) = mx (row p t) := max_host p _ _ t

/-- The host’s rows with the entry at the place replaced. -/
theorem offOf_row (p : S2048x8.Idx → EReal) (e : S2048.Idx → BitVec 32) (t : Fin 2048) (a : Fin 8) (ha : e (ValueIdx.ix1 t) = BitVec.ofNat 32 a.val) :
    row (Cert.Proof.Moe.offOf (F := Ideal) p e) t = offAt a (row p t) := by
  funext k
  have hk : broadcastInDim S2048x8 ![0, 1] bcast_S1x8_S2048x8_0_1 Cert.Proof.Moe.eRow (ValueIdx.ix2 t k) = BitVec.ofNat 32 k.val := by
    unfold Cert.Proof.Moe.eRow
    pointwise
  have hb := (bcast_row bcast_S2048x1_S2048x8_0_1 bcast_S2048_S2048x1_0 e t k).trans ha
  show (if IntOp.cmpi .eq (broadcastInDim S2048x8 ![0, 1] bcast_S1x8_S2048x8_0_1 Cert.Proof.Moe.eRow (ValueIdx.ix2 t k))
    (broadcastInDim S2048x8 ![0, 1] bcast_S2048x1_S2048x8_0_1 (broadcastInDim S2048x1 ![0] bcast_S2048_S2048x1_0 e) (ValueIdx.ix2 t k)) = 1#1
    then Ideal.ofBits .f32 0xBF800000#32 else p (ValueIdx.ix2 t k)) = if k = a then -1 else row p t k
  rw [hk, hb, ofBits_neg_one]
  refine if_congr ?_ rfl rfl
  rw [← ofNat_eq_iff, cmpi_eq_iff]

end Cert.Proof.Alg

end
-- ==== Proof.IdealPre.lean ====
/-
  What the precondition gives: in every row the largest probability, and the largest of the others, are alone.
-/
module

public import proofs.«01_k».proof.Proof.IdealTops

@[expose] public section

set_option backward.isDefEq.respectTransparency.types false

noncomputable section

namespace Cert.Proof.Alg

open Idealize.ShloMosaic Idealize.ShloMosaic.ValueIdx
open Cert.KernelIdeal (S1x2048x1024 S8x1024 S8x1024x1024 S2048x8 S2048x1024 S256x8x128 S2048 S2048x1 S_)
open Cert.Proof.Rows
open Cert.Pre_no_tie.Facts

/-- The precondition's logits. -/
def tl (x : S1x2048x1024.Idx → EReal) (g : S8x1024.Idx → EReal) : S2048x8.Idx → EReal :=
  Host.dotGeneral (F := Ideal) (φ₁ := .f32) (φ₂ := .f32) Cert.Pre_no_tie.dot_S2048x1024_S1024x8_S2048x8_1_0_0_1_n_n none
    (shapeCast S2048x1024 x shapeCasts_S1x2048x1024_S2048x1024) (transpose Cert.Pre_no_tie.S1024x8 [1, 0] g transposes_S8x1024_S1024x8_1_0)

/-- The largest of each row, laid along it. -/
def tm (p : S2048x8.Idx → EReal) : S2048x8.Idx → EReal :=
  broadcastInDim S2048x8 ![0, 1] bcast_S2048x1_S2048x8_0_1 (broadcastInDim S2048x1 ![0] bcast_S2048_S2048x1_0
    (Host.reduce (FloatOps.maximumf (F := Ideal) (φ := .f32)) p (constant (F := Ideal) S_ .f32 0xFF800000#32) reducesTo_S2048x8_S2048_d1 h_S_))

/-- The exponentials of the logits less the row's largest. -/
def tx (l : S2048x8.Idx → EReal) : S2048x8.Idx → EReal := Host.exp (F := Ideal) (φ := .f32) (subf (F := Ideal) (φ := .f32) l (tm l))

/-- The precondition's probabilities. -/
def tp (l : S2048x8.Idx → EReal) : S2048x8.Idx → EReal :=
  Host.divf (F := Ideal) (φ := .f32) (tx l) (broadcastInDim S2048x8 ![0, 1] bcast_S2048x1_S2048x8_0_1 (broadcastInDim S2048x1 ![0] bcast_S2048_S2048x1_0
    (Host.reduceAdd (F := Ideal) (φ := .f32) (tx l) (constant (F := Ideal) S_ .f32 0x00000000#32) reducesTo_S2048x8_S2048_d1 h_S_)))

/-- Where a row's entry is its largest. -/
def te (p : S2048x8.Idx → EReal) : IVec S2048x8 1 := cmpf (F := Ideal) (φ := .f32) .oeq p (tm p)

/-- The rows whose largest entry is alone. -/
def tc (p : S2048x8.Idx → EReal) : IVec S2048 1 :=
  cmpi .eq (Host.reduce IntOp.addi (extui 32 (te p) natLt_1_32) (constantI S_ 32 0#32) reducesTo_S2048x8_S2048_d1 h_S_)
    (broadcastInDim S2048 ![] bcast_S_S2048 (constantI S_ 32 1#32))

/-- The rows with their largest entries replaced by −1. -/
def tO (p : S2048x8.Idx → EReal) : S2048x8.Idx → EReal :=
  select (te p) (broadcastInDim S2048x8 ![] bcast_S_S2048x8 (constant (F := Ideal) S_ .f32 0xBF800000#32)) p

/-- The precondition, from these. -/
theorem fn_eq (x : S1x2048x1024.Idx → EReal) (g : S8x1024.Idx → EReal) (w1 w2 w3 : S8x1024x1024.Idx → EReal) :
    Cert.Pre_no_tie.fn (F := Ideal) x g w1 w2 w3 = andi (tc (tp (tl x g))) (tc (tO (tp (tl x g)))) := rfl

/-- The precondition's logits are the inner products. -/
theorem tl_row (x : S1x2048x1024.Idx → EReal) (g : S8x1024.Idx → EReal) (t : Fin 2048) : row (tl x g) t = lg x g t :=
  funext fun e => lgV_apply x g t e

/-- The largest of a row, laid along it. -/
theorem tm_apply (p : S2048x8.Idx → EReal) (t : Fin 2048) (e : Fin 8) : tm p (ValueIdx.ix2 t e) = mx (row p t) :=
  (bcast_row _ _ _ t e).trans (max_host p _ _ t)

/-- The precondition's probabilities are the logits' softmax. -/
theorem tp_row (l : S2048x8.Idx → EReal) (t : Fin 2048) : row (tp l) t = soft (row l t) := by
  have hm : ∀ k : Fin 8, tx l (ValueIdx.ix2 t k) = Ideal.exp (row l t k - mx (row l t)) := fun k => by
    rw [← tm_apply l t k]; rfl
  funext e
  have hs := (bcast_row bcast_S2048x1_S2048x8_0_1 bcast_S2048_S2048x1_0 (Host.reduceAdd (F := Ideal) (φ := .f32) (tx l) (constant (F := Ideal) S_ .f32 0x00000000#32)
    reducesTo_S2048x8_S2048_d1 h_S_) t e).trans ((sum_host _ _ _ t).trans (Finset.sum_congr rfl fun k _ => hm k))
  unfold soft
  rw [← hm e, ← hs]
  rfl

/-- Where a row's entry is its largest. -/
theorem te_iff (p : S2048x8.Idx → EReal) (t : Fin 2048) (e : Fin 8) : te p (ValueIdx.ix2 t e) = 1#1 ↔ row p t e = mx (row p t) := by
  have : te p (ValueIdx.ix2 t e) = Ideal.cmp .oeq (row p t e) (mx (row p t)) := by rw [← tm_apply p t e]; rfl
  rw [this]
  by_cases h : row p t e = mx (row p t)
  · rw [h]; simp [Ideal.cmp]
  · simp [Ideal.cmp, h]

/-- A count of one is a place alone. -/
theorem tc_one (p : S2048x8.Idx → EReal) (t : Fin 2048) (h : tc p (ValueIdx.ix1 t) = 1#1) : ∃! a, row p t a = mx (row p t) := by
  have hc : Host.reduce IntOp.addi (extui 32 (te p) natLt_1_32) (constantI S_ 32 0#32) reducesTo_S2048x8_S2048_d1 h_S_ (ValueIdx.ix1 t) = 1#32 := (cmpi_eq_iff _ _).1 h
  have hn := congrArg BitVec.toNat hc
  rw [StableHlo.Predicate.toNat_reduce_count_cols (by norm_num)] at hn
  obtain ⟨a, ha⟩ := Finset.card_eq_one.1 hn
  have hi : ∀ q : Fin 8, (StableHlo.Predicate.ij t q : S2048x8.Idx) = ValueIdx.ix2 t q := fun q => funext fun b => by match b with | 0 => rfl | 1 => rfl
  have hq : ∀ q : Fin 8, row p t q = mx (row p t) ↔ q = a := fun q => by
    rw [← te_iff, ← hi q]
    have := Finset.ext_iff.1 ha q
    rw [Finset.mem_singleton, Finset.mem_filter] at this
    exact ⟨fun h => this.1 ⟨Finset.mem_univ _, h⟩, fun h => (this.2 h).2⟩
  exact ⟨a, (hq a).2 rfl, fun q h => (hq q).1 h⟩

/-- The rows with their largest entries replaced. -/
theorem to_row (p : S2048x8.Idx → EReal) (t : Fin 2048) : row (tO p) t = off (row p t) := by
  funext e
  show (if te p (ValueIdx.ix2 t e) = 1#1 then Ideal.ofBits .f32 0xBF800000#32 else row p t e) = if row p t e = mx (row p t) then -1 else row p t e
  rw [ofBits_neg_one]
  exact if_congr (te_iff p t e) rfl rfl

/-- Where the precondition holds, every row has its two largest probabilities alone. -/
theorem no_tie_tops (x : S1x2048x1024.Idx → EReal) (g : S8x1024.Idx → EReal) (w1 w2 w3 : S8x1024x1024.Idx → EReal)
    (h : Cert.Pre_no_tie.fn (F := Ideal) x g w1 w2 w3 = fun _ => 1#1) (t : Fin 2048) :
    ∃ a1 a2 m1 m2, Tops (soft (lg x g t)) a1 a2 m1 m2 := by
  rw [fn_eq] at h
  have ht : tc (tp (tl x g)) (ValueIdx.ix1 t) &&& tc (tO (tp (tl x g))) (ValueIdx.ix1 t) = 1#1 := congrFun h (ValueIdx.ix1 t)
  have hand : ∀ a b : BitVec 1, a &&& b = 1#1 → a = 1#1 ∧ b = 1#1 := by decide
  obtain ⟨h1, h2⟩ := hand _ _ ht
  have u1 := tc_one _ t h1
  have u2 := tc_one _ t h2
  rw [to_row] at u2
  rw [tp_row, tl_row] at u1 u2
  exact tops_of_unique _ u1 u2

end Cert.Proof.Alg

end
-- ==== Proof.IdealTopK.lean ====
/-
  The reference's weights at the extended reals, where the two largest probabilities of each row are alone.
-/
module

public import proofs.«01_k».proof.Proof.IdealTops

@[expose] public section

set_option backward.isDefEq.respectTransparency.types false

noncomputable section

namespace Cert.Proof.Alg

open Idealize.ShloMosaic Idealize.ShloMosaic.ValueIdx
open Cert.KernelIdeal (S1x2048x1024 S8x1024 S8x1024x1024 S2048x8 S2048x1024 S256x8x128 S2048 S2048x1 S_)
open Cert.ReferenceIdeal (S2048x2 S2048x2x2 S2048x2x1)
open Cert.ReferenceIdeal.Gen
open Cert.Proof.Rows
open Cert.Proof.Ref

/-- The order the row's entries are sorted in. -/
def gtR (p : Fin 8 → EReal) : Fin 8 → Fin 8 → Bool := fun k k' => Ideal.cmp .ogt (p k) (p k') == 1#1

/-- The order is “greater”. -/
theorem gtR_eq (p : Fin 8 → EReal) (k k' : Fin 8) : gtR p k k' = decide (p k' < p k) := by
  unfold gtR
  by_cases h : p k' < p k
  · simp [Ideal.cmp, h]
  · simp [Ideal.cmp, h]

/-- An index moved along its row. -/
theorem along_eq (j : S2048x8.Idx) (t : Fin 2048) (h : j 0 = t) (k : Fin 8) : j.along (1 : Fin S2048x8.rank) k = ValueIdx.ix2 t k := by
  funext b; match b with | 0 => exact h | 1 => rfl

/-- The sort's two results at a row's place. -/
theorem sort_apply (p : S2048x8.Idx → EReal) (idx : IVec S2048x8 32) (t : Fin 2048) (k : Fin 8) :
    (Host.sort2 S2048x8 1 (fun l r => FloatOps.cmpfTotal (F := Ideal) (φ := .f32) .gt l.1 r.1) p idx).1 (ValueIdx.ix2 t k)
        = row p t (sortedFrom (gtR (row p t)) k)
      ∧ (Host.sort2 S2048x8 1 (fun l r => FloatOps.cmpfTotal (F := Ideal) (φ := .f32) .gt l.1 r.1) p idx).2 (ValueIdx.ix2 t k)
        = idx (ValueIdx.ix2 t (sortedFrom (gtR (row p t)) k)) := by
  have ha : ∀ k' : Fin 8, Shape.Idx.along (ValueIdx.ix2 t k : S2048x8.Idx) (1 : Fin S2048x8.rank) k' = ValueIdx.ix2 t k' := fun k' => along_eq _ t rfl k'
  have hR : (fun k₁ k₂ : Fin 8 => FloatOps.cmpfTotal (F := Ideal) (φ := .f32) .gt (p (Shape.Idx.along (ValueIdx.ix2 t k : S2048x8.Idx) (1 : Fin S2048x8.rank) k₁))
      (p (Shape.Idx.along (ValueIdx.ix2 t k : S2048x8.Idx) (1 : Fin S2048x8.rank) k₂)) == 1#1) = gtR (row p t) := by
    funext k₁ k₂
    rw [ha, ha]; rfl
  have hs : sortedFrom (fun k₁ k₂ : Fin 8 => FloatOps.cmpfTotal (F := Ideal) (φ := .f32) .gt (p (Shape.Idx.along (ValueIdx.ix2 t k : S2048x8.Idx) (1 : Fin S2048x8.rank) k₁))
      (p (Shape.Idx.along (ValueIdx.ix2 t k : S2048x8.Idx) (1 : Fin S2048x8.rank) k₂)) == 1#1) k = sortedFrom (gtR (row p t)) k := by rw [hR]
  constructor
  · exact congrArg p ((congrArg (Shape.Idx.along (ValueIdx.ix2 t k : S2048x8.Idx) (1 : Fin S2048x8.rank)) hs).trans (ha _))
  · exact congrArg idx ((congrArg (Shape.Idx.along (ValueIdx.ix2 t k : S2048x8.Idx) (1 : Fin S2048x8.rank)) hs).trans (ha _))

/-- A cut at the start reads the same place. -/
theorem cut_apply {α : Type} (v : S2048x8.Idx → α) (t : Fin 2048) (k : Fin 2) :
    extractStridedSlice S2048x2 (fun _ => 0) v sliceFits_S2048x8_S2048x2 (ValueIdx.ix2 t k) = v (ValueIdx.ix2 t (⟨k.val, by omega⟩ : Fin 8)) := by
  refine congrArg v (funext fun b => Fin.ext ?_)
  match b with
  | 0 => show 0 + t.val = t.val; omega
  | 1 => show 0 + k.val = k.val; omega

/-- The places sorted along. -/
def posV : IVec S2048x8 32 := fun i => if hd : 1 < S2048x8.rank then iotaInDim S2048x8 32 ⟨1, hd⟩ i else 0#32

/-- The values taken. -/
theorem valV_apply (p : S2048x8.Idx → EReal) (t : Fin 2048) (k : Fin 2) :
    valV (F := Ideal) p (ValueIdx.ix2 t k) = row p t (sortedFrom (gtR (row p t)) (⟨k.val, by omega⟩ : Fin 8)) :=
  (cut_apply _ t k).trans (sort_apply p posV t _).1

/-- Their places. -/
theorem idxV_apply (p : S2048x8.Idx → EReal) (t : Fin 2048) (k : Fin 2) :
    idxV (F := Ideal) p (ValueIdx.ix2 t k) = BitVec.ofNat 32 (sortedFrom (gtR (row p t)) (⟨k.val, by omega⟩ : Fin 8)).val :=
  (cut_apply _ t k).trans (sort_apply p posV t _).2

/-- The weights, from the values. -/
theorem wtV_apply (v : S2048x2.Idx → EReal) (t : Fin 2048) (k : Fin 2) :
    wtV (F := Ideal) v (ValueIdx.ix2 t k) = Ideal.div (v (ValueIdx.ix2 t k)) (v (ValueIdx.ix2 t 0) + v (ValueIdx.ix2 t 1)) := by
  unfold wtV
  pointwise
  rw [Fin.sum_univ_two]
  rfl

/-- The rows' numbers. -/
theorem rowV_apply (t : Fin 2048) : rowV (ValueIdx.ix2 t (0 : Fin 1)) = BitVec.ofNat 32 t.val := by
  have h : (BitVec.ofNat 32 t.val).slt 0#32 = false := by
    have ht := t.isLt
    rw [BitVec.slt_eq_decide, BitVec.toInt_eq_toNat_of_lt (by rw [BitVec.toNat_ofNat, Nat.mod_eq_of_lt (by omega)]; omega)]
    simp
    exact Int.emod_nonneg _ (by norm_num)
  have hc : IntOp.cmpi .slt (BitVec.ofNat 32 t.val) 0#32 = 0#1 := by unfold IntOp.cmpi; simp [h]
  unfold rowV
  pointwise
  show Scalar.select (IntOp.cmpi .slt (BitVec.ofNat 32 t.val) 0#32) _ (BitVec.ofNat 32 t.val) = _
  rw [hc]; rfl

/-- A place below eight stays. -/
theorem colV_apply (i : IVec S2048x2 32) (t : Fin 2048) (k : Fin 2) (a : Fin 8) (h : i (ValueIdx.ix2 t k) = BitVec.ofNat 32 a.val) :
    colV i (ValueIdx.ix2 t k) = BitVec.ofNat 32 a.val := by
  have h0 : ∀ a : Fin 8, (BitVec.ofNat 32 a.val).slt 0#32 = false := by decide
  have hc : IntOp.cmpi .slt (BitVec.ofNat 32 a.val) 0#32 = 0#1 := by unfold IntOp.cmpi; simp [h0]
  unfold colV
  pointwise
  rw [h, hc]; rfl

/-- Where a weight goes. -/
theorem whereV_apply (i : IVec S2048x2 32) (t : Fin 2048) (k : Fin 2) (a : Fin 8) (h : i (ValueIdx.ix2 t k) = BitVec.ofNat 32 a.val) :
    whereV i (ValueIdx.ix3 t k (0 : Fin 2)) = BitVec.ofNat 32 t.val ∧ whereV i (ValueIdx.ix3 t k (1 : Fin 2)) = BitVec.ofNat 32 a.val := by
  constructor
  · unfold whereV
    pointwise
    exact rowV_apply t
  · unfold whereV
    pointwise
    exact colV_apply i t k a h

/-- The place a weight is added to. -/
theorem result_eq (i : IVec S2048x2 32) (t : Fin 2048) (k : Fin 2) (a : Fin 8) (h : i (ValueIdx.ix2 t k) = BitVec.ofNat 32 a.val) :
    Cert.ReferenceIdeal.scatter_S2048x8_S2048x2x2_S2048x2_n_01_01_2.resultIdx? (ValueIdx.ix2 t k) (whereV i) = some (ValueIdx.ix2 t a) := by
  obtain ⟨w0, w1⟩ := whereV_apply i t k a h
  have si : ∀ c : Fin 2, Cert.ReferenceIdeal.scatter_S2048x8_S2048x2x2_S2048x2_n_01_01_2.siIdx (ValueIdx.ix2 t k) c = ValueIdx.ix3 t k c := by
    intro c; funext b; match b with | 0 => rfl | 1 => rfl | 2 => rfl
  have s0 : Cert.ReferenceIdeal.scatter_S2048x8_S2048x2x2_S2048x2_n_01_01_2.start (ValueIdx.ix2 t k) (whereV i) 0 = t.val := by
    refine (congrArg BitVec.toInt ((congrArg (whereV i) (si 0)).trans w0)).trans ?_
    have ht := t.isLt
    rw [BitVec.toInt_eq_toNat_of_lt (by rw [BitVec.toNat_ofNat, Nat.mod_eq_of_lt (by omega)]; omega), BitVec.toNat_ofNat, Nat.mod_eq_of_lt (by omega)]
  have s1 : Cert.ReferenceIdeal.scatter_S2048x8_S2048x2x2_S2048x2_n_01_01_2.start (ValueIdx.ix2 t k) (whereV i) 1 = a.val := by
    refine (congrArg BitVec.toInt ((congrArg (whereV i) (si 1)).trans w1)).trans ?_
    have ht := a.isLt
    rw [BitVec.toInt_eq_toNat_of_lt (by rw [BitVec.toNat_ofNat, Nat.mod_eq_of_lt (by omega)]; omega), BitVec.toNat_ofNat, Nat.mod_eq_of_lt (by omega)]
  have z : ∀ b, Cert.ReferenceIdeal.scatter_S2048x8_S2048x2x2_S2048x2_n_01_01_2.window (ValueIdx.ix2 t k) b = 0 := by
    intro b; match b with | 0 => rfl | 1 => rfl
  unfold ScatterDims.resultIdx?
  rw [dif_pos]
  · refine congrArg some (funext fun b => Fin.ext ?_)
    match b with
    | 0 => show (_ + ((_ : ℕ) : ℤ)).toNat = t.val; rw [s0, z]; omega
    | 1 => show (_ + ((_ : ℕ) : ℤ)).toNat = a.val; rw [s1, z]; omega
  · intro b
    have ht := t.isLt
    have ha := a.isLt
    match b with
    | 0 => rw [s0, z]; constructor
           · omega
           · show _ < ((2048 : ℕ) : ℤ); omega
    | 1 => rw [s1, z]; constructor
           · omega
           · show _ < ((8 : ℕ) : ℤ); omega

/-- The host's scatter that adds, at an index. -/
theorem scatterAdd_apply {s si u : Shape} (d : ScatterDims s si u) (x : s.Idx → EReal) (idx : IVec si 32) (upd : u.Idx → EReal) (i : s.Idx) :
    Host.scatterAdd (F := Ideal) (φ := .f32) d x idx upd i = x i + ∑ j ∈ Finset.univ.filter (fun j => d.resultIdx? j idx = some i), upd j := rfl

/-- The weights' rows, whatever the weights. -/
theorem cbV_apply (i : IVec S2048x2 32) (w : S2048x2.Idx → EReal) (A : Fin 2048 → Fin 2 → Fin 8)
    (h : ∀ t k, i (ValueIdx.ix2 t k) = BitVec.ofNat 32 (A t k).val) (t : Fin 2048) (hne : A t 1 ≠ A t 0) (e : Fin 8) :
    cbV (F := Ideal) i w (ValueIdx.ix2 t e) = if e = A t 0 then w (ValueIdx.ix2 t 0) else if e = A t 1 then w (ValueIdx.ix2 t 1) else 0 := by
  have hz : (broadcastInDim S2048x8 ![] bcast_S_S2048x8 (constant (F := Ideal) Cert.ReferenceIdeal.S_ .f32 0x00000000#32)) (ValueIdx.ix2 t e) = 0 := Ideal.ofBits_zero_f32
  have hm : ∀ j : S2048x2.Idx, Cert.ReferenceIdeal.scatter_S2048x8_S2048x2x2_S2048x2_n_01_01_2.resultIdx? j (whereV i) = some (ValueIdx.ix2 t e)
      ↔ j 0 = t ∧ A t (j 1) = e := by
    intro j
    obtain ⟨t', k', rfl⟩ : ∃ t' k', j = ValueIdx.ix2 t' k' := ⟨j 0, j 1, ValueIdx.eq_ix2 j⟩
    rw [result_eq i t' k' _ (h t' k')]
    constructor
    · intro he
      have he' := Option.some.inj he
      have h0 : t' = t := congrFun he' 0
      subst h0
      exact ⟨rfl, congrFun he' 1⟩
    · rintro ⟨h0, h1⟩
      have h0 : t' = t := h0
      have h1 : A t k' = e := h1
      subst h0; rw [h1]
  have one : ∀ k : Fin 2, e = A t k → (∀ k', A t k' = e → k' = k) →
      (∑ j ∈ Finset.univ.filter (fun j => Cert.ReferenceIdeal.scatter_S2048x8_S2048x2x2_S2048x2_n_01_01_2.resultIdx? j (whereV i) = some (ValueIdx.ix2 t e)), w j)
        = w (ValueIdx.ix2 t k) := by
    intro k hk hu
    refine Eq.trans (congrArg (fun S => ∑ j ∈ S, w j) (?_ : _ = {ValueIdx.ix2 t k})) (Finset.sum_singleton ..)
    ext j
    rw [Finset.mem_filter, hm, Finset.mem_singleton]
    constructor
    · rintro ⟨-, h0, h1⟩
      have h2 := hu _ h1
      funext b; match b with | 0 => exact h0 | 1 => exact h2
    · rintro rfl
      exact ⟨Finset.mem_univ _, rfl, hk.symm⟩
  unfold cbV
  rw [scatterAdd_apply, hz, zero_add]
  have two : ∀ k : Fin 2, k = 0 ∨ k = 1 := by decide
  by_cases c0 : e = A t 0
  · rw [if_pos c0]
    refine one 0 c0 fun k' hk' => ?_
    rcases two k' with rfl | rfl
    · rfl
    · exact absurd (hk'.trans c0) hne
  · rw [if_neg c0]
    by_cases c1 : e = A t 1
    · rw [if_pos c1]
      refine one 1 c1 fun k' hk' => ?_
      rcases two k' with rfl | rfl
      · exact absurd hk'.symm c0
      · rfl
    · rw [if_neg c1]
      refine Eq.trans (congrArg (fun S => ∑ j ∈ S, w j) (?_ : _ = ∅)) Finset.sum_empty
      ext j
      rw [Finset.mem_filter, hm]
      constructor
      · rintro ⟨-, -, h1⟩
        rcases two (j 1) with h2 | h2
        · exact absurd (h1.symm.trans (congrArg (A t) h2)) c0
        · exact absurd (h1.symm.trans (congrArg (A t) h2)) c1
      · intro hh; exact absurd hh (Finset.notMem_empty _)

/-- The reference's weights, where the two largest of every row are alone. -/
theorem cb_row (l : S2048x8.Idx → EReal) (a1 a2 : Fin 2048 → Fin 8) (m1 m2 : Fin 2048 → ℝ) (h : ∀ t, Tops (soft (row l t)) (a1 t) (a2 t) (m1 t) (m2 t)) (t : Fin 2048) :
    row (cbV (F := Ideal) (idxV (F := Ideal) (prV (F := Ideal) l)) (wtV (F := Ideal) (valV (F := Ideal) (prV (F := Ideal) l)))) t = cmb (a1 t) (a2 t) (m1 t) (m2 t) := by
  have hp : ∀ t, Tops (row (prV (F := Ideal) l) t) (a1 t) (a2 t) (m1 t) (m2 t) := fun t => by rw [prV_row]; exact h t
  generalize prV (F := Ideal) l = p at *
  have hs : ∀ t, sortedFrom (gtR (row p t)) 0 = a1 t ∧ sortedFrom (gtR (row p t)) 1 = a2 t := fun t => sorted_tops (hp t) _ (gtR_eq _)
  have v0 : valV (F := Ideal) p (ValueIdx.ix2 t 0) = (m1 t : EReal) := (valV_apply p t 0).trans ((congrArg (row p t) (hs t).1).trans (hp t).at1)
  have v1 : valV (F := Ideal) p (ValueIdx.ix2 t 1) = (m2 t : EReal) := (valV_apply p t 1).trans ((congrArg (row p t) (hs t).2).trans (hp t).at2)
  have two : ∀ k : Fin 2, k = 0 ∨ k = 1 := by decide
  have hi : ∀ t k, idxV (F := Ideal) p (ValueIdx.ix2 t k) = BitVec.ofNat 32 ((![a1 t, a2 t] : Fin 2 → Fin 8) k).val := by
    intro t k
    rw [idxV_apply]
    rcases two k with rfl | rfl
    · exact congrArg (fun a : Fin 8 => BitVec.ofNat 32 a.val) (hs t).1
    · exact congrArg (fun a : Fin 8 => BitVec.ofNat 32 a.val) (hs t).2
  funext e
  refine (cbV_apply _ _ (fun t => ![a1 t, a2 t]) hi t (h t).ne e).trans ?_
  rw [wtV_apply, wtV_apply, v0, v1, div_tops (h t).pos (h t).lt, div_tops (h t).pos (h t).lt]
  rfl

end Cert.Proof.Alg

end
-- ==== Proof.IdealGemm.lean ====
/-
  What the SparseCores carry and the grouped call computes, at the extended reals: each gathered row is its token's result by its expert.
-/
module

public import proofs.«01_k».proof.Proof.IdealProducts
public import proofs.«01_k».proof.Proof.Values

@[expose] public section

set_option backward.isDefEq.respectTransparency.types false

noncomputable section

namespace Cert.Proof.Alg

open Idealize.ShloMosaic Idealize.ShloMosaic.ValueIdx
open Cert.KernelIdeal Cert.KernelIdeal.Gen
open Cert.Proof.Moe

/-- The packed tokens. -/
theorem pack_apply (x : S1x2048x1024.Idx → EReal) (t : Fin 2048) (p : Fin 8) (q : Fin 128) (j : Fin 1024) (hj : j.val = p.val * 128 + q.val) :
    k0_pay1 (F := Ideal) (k0_pay2 (F := Ideal) (shapeCast S2048x1024 x shapeCasts_S1x2048x1024_S2048x1024)) (ValueIdx.ix3 t p q) = x (ValueIdx.ix3 (0 : Fin 1) t j) := by
  have hl : p.val * 128 + q.val < 1024 := hj ▸ j.isLt
  obtain rfl : j = ⟨p.val * 128 + q.val, hl⟩ := Fin.ext hj
  unfold k0_pay1 k0_pay2
  pointwise
  rfl

variable (m : (ℓ : Loc nD τ sig) → Buf (Elt Ideal) ℓ)

/-- The tokens. -/
def xA : S1x2048x1024.Idx → EReal := W0 m (Proc.devRef .tc main_arg0)
/-- The router’s matrix. -/
def gA : S8x1024.Idx → EReal := W0 m (Proc.devRef .tc main_arg1)
/-- The experts’ first weights. -/
def wgA : S8x1024x1024.Idx → EReal := W0 m (Proc.devRef .tc main_arg2)
/-- The experts’ second weights. -/
def wuA : S8x1024x1024.Idx → EReal := W0 m (Proc.devRef .tc main_arg3)
/-- The experts’ third weights. -/
def wdA : S8x1024x1024.Idx → EReal := W0 m (Proc.devRef .tc main_arg4)

/-- The router’s tokens are the reshaped argument. -/
theorem W1_v0 : W1 m (Proc.devRef .tc main_v0) = shapeCast S2048x1024 (xA m) shapeCasts_S1x2048x1024_S2048x1024 := r0_v0 (W0 m)
/-- The router’s matrix is the argument. -/
theorem W1_arg1 : W1 m (Proc.devRef .tc main_arg1) = gA m := ops0_kept (W0 m) main_arg1 (by decide)
/-- The first weights before the grouped call. -/
theorem W5_arg2 : W5 m (Proc.devRef .tc main_arg2) = wgA m := (W5_keep m main_arg2 (by decide)).trans (W2_arg m main_arg2 (by decide))
/-- The second weights before the grouped call. -/
theorem W5_arg3 : W5 m (Proc.devRef .tc main_arg3) = wuA m := (W5_keep m main_arg3 (by decide)).trans (W2_arg m main_arg3 (by decide))
/-- The third weights before the grouped call. -/
theorem W5_arg4 : W5 m (Proc.devRef .tc main_arg4) = wdA m := (W5_keep m main_arg4 (by decide)).trans (W2_arg m main_arg4 (by decide))

/-- The packed tokens before the scatter. -/
theorem xpV_apply (t : Fin 2048) (p : Fin 8) (q : Fin 128) (j : Fin 1024) (hj : j.val = p.val * 128 + q.val) :
    xpV m (ValueIdx.ix3 t p q) = xA m (ValueIdx.ix3 (0 : Fin 1) t j) := by
  have h : xpV m = k0_pay1 (F := Ideal) (k0_pay2 (F := Ideal) (shapeCast S2048x1024 (xA m) shapeCasts_S1x2048x1024_S2048x1024)) := by
    refine (W3_keep m main_v1_2 (by decide)).trans ((routerOut_pack _).trans ?_)
    rw [W1_v0]
  rw [h]; exact pack_apply (xA m) t p q j hj

/-- A gathered row is its token's result by its expert. -/
theorem y12_apply (n : Fin 4096) (t : Fin 2048) (ht : n.val % 2048 = t.val) (e : Fin 8) (he : flM m (ValueIdx.ix1 n) = BitVec.ofNat 32 e.val)
    (p : Fin 8) (q : Fin 128) (j : Fin 1024) (hj : j.val = p.val * 128 + q.val) :
    y12V m (ValueIdx.ix3 n p q) = ye (xA m) (wgA m) (wuA m) (wdA m) t e j := by
  have hf := flM_ok m
  obtain ⟨D, hb, htab, hd, hlt⟩ : ∃ D, ∃ hb : D / 256 < 23, (tabM (flM m) (ValueIdx.ix1 (⟨D / 256, by omega⟩ : Fin 24))).toNat = gOf (flM m) n.val
      ∧ (destOf (flM m) (ValueIdx.ix1 n)).toNat = D ∧ D < 5888 := by
    obtain ⟨hb, -, htab⟩ := asg_block (F := Ideal) hf n
    exact ⟨_, hb, htab, destOf_toNat hf n, destN_lt (gOf (flM m)) (gOf_lt hf) n.isLt⟩
  have hg : gOf (flM m) n.val = e.val := by
    have h1 := (fl_eq n (fl := flM m)).symm.trans he
    have h2 := congrArg BitVec.toNat h1
    have h3 := gOf_lt hf n.val
    rw [BitVec.toNat_ofNat, BitVec.toNat_ofNat, Nat.mod_eq_of_lt (by omega), Nat.mod_eq_of_lt (by omega)] at h2
    exact h2
  have htab' : (tabOf (aM m) (ValueIdx.ix1 (⟨D / 256, by omega⟩ : Fin 24))).toNat = e.val := htab.trans hg
  have hX : ∀ d : Fin 1024, stG0 (W5 m) (aM m) ⟨D / 256, lt_of_lt_of_eq hb N_2.symm⟩
      (ValueIdx.ix3 (⟨D % 256, Nat.mod_lt _ (by norm_num)⟩ : Fin 256) ⟨d.val / 128, by omega⟩ ⟨d.val % 128, by omega⟩) = xA m (ValueIdx.ix3 (0 : Fin 1) t d) := by
    intro d
    rw [stG0_apply, W5_v57]
    refine (scatVal_of_dest (destOk m) (xpV m) (xsV0 m) _ (ValueIdx.ix1 n) ?_).trans ?_
    · show (destOf (flM m) (ValueIdx.ix1 n)).toNat = D / 256 * 256 + D % 256
      rw [hd]; omega
    · rw [show tokOf (ValueIdx.ix1 n) = t from Fin.ext ht]
      exact xpV_apply m t ⟨d.val / 128, by omega⟩ ⟨d.val % 128, by omega⟩ d (by show d.val = d.val / 128 * 128 + d.val % 128; omega)
  have h1 : ∀ f d : Fin 1024, stG1 (W5 m) (aM m) ⟨D / 256, lt_of_lt_of_eq hb N_2.symm⟩ (ValueIdx.ix3 (0 : Fin 1) f d) = wgA m (ValueIdx.ix3 e f d) := fun f d => by
    rw [stG1_apply _ _ _ _ e htab', W5_arg2]
  have h2 : ∀ f d : Fin 1024, stG2 (W5 m) (aM m) ⟨D / 256, lt_of_lt_of_eq hb N_2.symm⟩ (ValueIdx.ix3 (0 : Fin 1) f d) = wuA m (ValueIdx.ix3 e f d) := fun f d => by
    rw [stG2_apply _ _ _ _ e htab', W5_arg3]
  have h3 : ∀ f d : Fin 1024, stG3 (W5 m) (aM m) ⟨D / 256, lt_of_lt_of_eq hb N_2.symm⟩ (ValueIdx.ix3 (0 : Fin 1) f d) = wdA m (ValueIdx.ix3 e f d) := fun f d => by
    rw [stG3_apply _ _ _ _ e htab', W5_arg4]
  have hi : (ValueIdx.ix3 (⟨(destOf (flM m) (ValueIdx.ix1 n)).toNat % 5888, Nat.mod_lt _ (by norm_num)⟩ : Fin 5888) p q : S5888x8x128.Idx)
      = ValueIdx.ix3 (⟨D, hlt⟩ : Fin 5888) p q := by
    refine congrArg (fun a : Fin 5888 => (ValueIdx.ix3 a p q : S5888x8x128.Idx)) (Fin.ext ?_)
    show (destOf (flM m) (ValueIdx.ix1 n)).toNat % 5888 = D
    rw [hd]; exact Nat.mod_eq_of_lt hlt
  refine (congrArg (ysV m) hi).trans ?_
  refine (pay1_apply _ _ _ _ (⟨D % 256, Nat.mod_lt _ (by norm_num)⟩ : Fin 256) p q j hj).trans ?_
  unfold ye Cert.Proof.Alg.hd
  refine Finset.sum_congr rfl fun f _ => ?_
  exact congr (congrArg HMul.hMul (congr (congrArg HMul.hMul (congrArg sl (Finset.sum_congr rfl fun d _ => congr (congrArg HMul.hMul (hX d)) (h1 f d))))
    (Finset.sum_congr rfl fun d _ => congr (congrArg HMul.hMul (hX d)) (h2 f d)))) (h3 j f)

end Cert.Proof.Alg

end
-- ==== Proof.Tasks.lean ====
/-
  What the two SparseCore calls take and bring back, and their tiles' obligations.
-/
module

public import proofs.«01_k».proof.Proof.Values
public import proofs.«01_k».proof.Proof.ScScatter
public import proofs.«01_k».proof.Proof.ScGather

@[expose] public section

set_option backward.isDefEq.respectTransparency.types false

noncomputable section

namespace Cert.Proof.Moe

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

/-- The share of the grouped call's rows a tile has: a part of the right half. -/
def ysShare (c : Fin 2) (i : Fin 16) : PosShare TreeShare :=
  pieceOf (pieceOf fullShare.right 2 (by norm_num) c) 16 (by norm_num) i

/-- What tile `(c, i)` of the scatter takes and, at `f` the scattered rows, brings back. -/
def payS (d : Dev nD) (c : Fin 2) (i : Fin 16) (f : S5888x8x128.Idx → Elt F .f32) : sProp 𝕄 :=
  iprop((destLoc d ↦{tileShare c i} destOf (flM m)) ∗ (xpLoc d ↦{tileShare c i} xpV m) ∗ xsPieces (F := F) d (destOf (flM m)) c i f)

/-- What tile `(c, i)` of the gather takes -/
def goG (d : Dev nD) (c : Fin 2) (i : Fin 16) : sProp 𝕄 :=
  iprop(∃ ys : S5888x8x128.Idx → Elt F .f32, ⌜GoodYs (W5 m) (aM m) ys⌝ ∗ (destLoc d ↦{tileShare c i} destOf (flM m)) ∗ (ysLoc d ↦{ysShare c i} ys)
    ∗ y12Pieces (F := F) d c i (W5 m (Proc.devRef .tc main_v61)))
/-- and brings back. -/
def tdG (d : Dev nD) (c : Fin 2) (i : Fin 16) : sProp 𝕄 :=
  iprop(∃ ys : S5888x8x128.Idx → Elt F .f32, (destLoc d ↦{tileShare c i} destOf (flM m)) ∗ (ysLoc d ↦{ysShare c i} ys)
    ∗ y12Pieces (F := F) d c i (y12V m))

instance payS_storable (d : Dev nD) (c : Fin 2) (i : Fin 16) (f) : BI.Storable (upEmb : UEmb _ 𝕄) (payS m d c i f) := by
  unfold payS xsPieces; infer_instance
instance goG_storable (d : Dev nD) (c : Fin 2) (i : Fin 16) : BI.Storable (upEmb : UEmb _ 𝕄) (goG m d c i) := by
  unfold goG y12Pieces; infer_instance
instance tdG_storable (d : Dev nD) (c : Fin 2) (i : Fin 16) : BI.Storable (upEmb : UEmb _ 𝕄) (tdG m d c i) := by
  unfold tdG y12Pieces; infer_instance

/-- The two calls' payloads, by tile: a SparseCore's is its tiles' together. -/
def P : (K (F := F)).Pay (nD := nD) (Val := Elt F) (Name := ℕ) (U := UU) where
  st := fun q d c => match q with
    | 0 => bigSep Finset.univ fun i : Fin 16 => payS m d (Fin.cast (nCore_eq (F := F) 0) c) i (xsV0 m)
    | 1 => bigSep Finset.univ fun i : Fin 16 => goG m d (Fin.cast (nCore_eq (F := F) 1) c) i
  dn := fun q d c => match q with
    | 0 => bigSep Finset.univ fun i : Fin 16 => payS m d (Fin.cast (nCore_eq (F := F) 0) c) i (xsV m)
    | 1 => bigSep Finset.univ fun i : Fin 16 => tdG m d (Fin.cast (nCore_eq (F := F) 1) c) i
  go := fun q d c i => match q with
    | 0 => payS m d (Fin.cast (nCore_eq (F := F) 0) c) (Fin.cast (nSub_eq (F := F) 0) i) (xsV0 m)
    | 1 => goG m d (Fin.cast (nCore_eq (F := F) 1) c) (Fin.cast (nSub_eq (F := F) 1) i)
  td := fun q d c i => match q with
    | 0 => payS m d (Fin.cast (nCore_eq (F := F) 0) c) (Fin.cast (nSub_eq (F := F) 0) i) (xsV m)
    | 1 => tdG m d (Fin.cast (nCore_eq (F := F) 1) c) (Fin.cast (nSub_eq (F := F) 1) i)
  x := fun _ _ => iprop(emp)

instance P_storable : (P (F := F) m).IsStorable where
  st q d c := match q with
    | 0 => (inferInstance : BI.Storable (upEmb : UEmb _ 𝕄) (bigSep Finset.univ fun i : Fin 16 => payS m d (Fin.cast (nCore_eq (F := F) 0) c) i (xsV0 m)))
    | 1 => (inferInstance : BI.Storable (upEmb : UEmb _ 𝕄) (bigSep Finset.univ fun i : Fin 16 => goG m d (Fin.cast (nCore_eq (F := F) 1) c) i))
  dn q d c := match q with
    | 0 => (inferInstance : BI.Storable (upEmb : UEmb _ 𝕄) (bigSep Finset.univ fun i : Fin 16 => payS m d (Fin.cast (nCore_eq (F := F) 0) c) i (xsV m)))
    | 1 => (inferInstance : BI.Storable (upEmb : UEmb _ 𝕄) (bigSep Finset.univ fun i : Fin 16 => tdG m d (Fin.cast (nCore_eq (F := F) 1) c) i))
  go q d c i := match q with
    | 0 => payS_storable m d _ _ _
    | 1 => goG_storable m d _ _
  td q d c i := match q with
    | 0 => payS_storable m d _ _ _
    | 1 => tdG_storable m d _ _

/-! ## The tiles -/

/-- The coordinates of tile `(c, s)` in the scatter's grid -/
def coordsS (c : Fin (grid1.bound 0)) (s : Fin (grid1.bound 1)) : grid1.Coords :=
  fun | 0 => c | 1 => s | ⟨_ + 2, h⟩ => absurd h (Nat.not_lt.2 (Nat.le_add_left _ _))
/-- and in the gather's. -/
def coordsG (c : Fin (grid3.bound 0)) (s : Fin (grid3.bound 1)) : grid3.Coords :=
  fun | 0 => c | 1 => s | ⟨_ + 2, h⟩ => absurd h (Nat.not_lt.2 (Nat.le_add_left _ _))

/-- The scatter’s program on a tile. -/
theorem defs₀_scatter (c : Fin τ.nSC) (s : Fin τ.nSub) :
    defs₀ (F := F) (.scVector c s) 1 ()
      = SparseCore.onTile hcore1 hsub1 (fun c s => cc1__sc_scatter_body (coordsS c s) xpM (Memref.isWhole_whole _) destM (Memref.isWhole_whole _) xsM (Memref.isWhole_whole _)
            idxM (Memref.isWhole_whole _) rowsM (Memref.isWhole_whole _) cc1_scratch2 cc1_scoped0 cc1_scoped1 cc1_scoped2 cc1_scoped3) ⟨⟩ c s := rfl

/-- The gather’s program on a tile. -/
theorem defs₀_gather (c : Fin τ.nSC) (s : Fin τ.nSub) :
    defs₀ (F := F) (.scVector c s) 3 ()
      = SparseCore.onTile hcore3 hsub3 (fun c s => cc3__sc_gather_body (coordsG c s) ysM (Memref.isWhole_whole _) destM (Memref.isWhole_whole _) y12M (Memref.isWhole_whole _)
            idxG (Memref.isWhole_whole _) rowsG (Memref.isWhole_whole _) cc3_scratch2 cc3_scoped0 cc3_scoped1 cc3_scoped2 cc3_scoped3) ⟨⟩ c s := rfl

omit [FloatOps F] in
/-- A body leaves only waits the launch allows. -/
theorem waits_weaken {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The scatter's obligation at a symbolic tile. -/
theorem tile_scatter (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (scatter_body (F := F) d (coordsS ⟨_, hci.1⟩ ⟨_, hci.2⟩) hF (destOf (flM m)) (destOk m) (xpV m) (xsV0 m) (tileShare _ _) (tileShare _ _) O W hO).trans
    (wp_mono frame _ _ fun _ => waits_weaken)

/-- The gather's body on what its tile takes, whatever the grouped call left in the blocks beyond those in use. -/
theorem gather_body_task (d : Dev nD) (L : grid3.Coords) (hF : (K (F := F)).Facts) (O : CellTallies nD τ sig (HIx 2)) (W : Waits sig (HIx 2)) (hO : ∀ g, O g none = 0) :
    iprop(levAts (K (F := F)).L (K (F := F)).lev ∗ emp ∗ goG m d (cG L) (sG L)
        ∗ scopedBufs (V d (cW L) (jW L)) ∗ scopedSems0 (V d (cW L) (jW L)) ∗ owes (V d (cW L) (jW L)) O W)
      ⊢ wp frame (wpE (defs₀ (F := F)) 𝒱₀ (V d (cW L) (jW L)) none) Set.univ
          (cc3__sc_gather_body L ysM (Memref.isWhole_whole _) destM (Memref.isWhole_whole _) y12M (Memref.isWhole_whole _)
            idxG (Memref.isWhole_whole _) rowsG (Memref.isWhole_whole _) cc3_scratch2 cc3_scoped0 cc3_scoped1 cc3_scoped2 cc3_scoped3)
          fun _ => iprop(tdG m d (cG L) (sG L)
            ∗ scopedBufs (V d (cW L) (jW L)) ∗ scopedSems0 (V d (cW L) (jW L))
            ∗ ∃ W', ⌜∀ p ∈ W', p ∈ W ∨ p.2 = none⌝ ∗ owes (V d (cW L) (jW L)) O W') := by
  unfold goG
  iintro ⟨Hlv, Hx, ⟨%ys, %hys, H⟩, Hrest⟩
  have h1 := (gather_body (F := F) d L hF (destOf (flM m)) (destOk m) ys (W5 m (Proc.devRef .tc main_v61)) (tileShare (cG L) (sG L)) (ysShare (cG L) (sG L)) O W hO)
  rw [gath_good m ys hys] at h1
  have h2 := h1.trans (wp_mono frame _ _ fun _ => (show _ ⊢ iprop(tdG m d (cG L) (sG L)
            ∗ scopedBufs (V d (cW L) (jW L)) ∗ scopedSems0 (V d (cW L) (jW L))
            ∗ ∃ W', ⌜∀ p ∈ W', p ∈ W ∨ p.2 = none⌝ ∗ owes (V d (cW L) (jW L)) O W') by
    unfold tdG
    iintro ⟨H, Hr⟩
    isplitl [H]
    · iexists ys; iexact H
    · iexact Hr))
  iapply h2 $$ [Hlv Hx H Hrest]
  isplitl [Hlv]; · iexact Hlv
  isplitl [Hx]; · iexact Hx
  isplitl [H]; · iexact H
  iexact Hrest

set_option maxRecDepth 16384 in
/-- The gather's obligation at a symbolic tile. -/
theorem tile_gather (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  refine BI.Entails.trans ?_ (wp_mono frame _ _ fun _ => waits_weaken)
  exact gather_body_task m d (coordsG ⟨_, hci.1⟩ ⟨_, hci.2⟩) hF O W hO

/-- A SparseCore's payload is its tiles'. -/
theorem vec_scatter : (K (F := F)).VecSplit' (P m) 0 := by
  intro d c
  change bigSep Finset.univ (fun i : Fin 16 => payS m d (Fin.cast (nCore_eq (F := F) 0) c) i (xsV0 m)) ⊢ iprop(|={Set.univ}=> ((bigSep Finset.univ (fun i : Fin 16 => payS m d (Fin.cast (nCore_eq (F := F) 0) c) i (xsV0 m)))
    ∗ ((bigSep Finset.univ (fun i : Fin 16 => payS m d (Fin.cast (nCore_eq (F := F) 0) c) i (xsV m))) -∗ bigSep Finset.univ (fun i : Fin 16 => payS m d (Fin.cast (nCore_eq (F := F) 0) c) i (xsV m)))))
  iintro H
  imodintro
  isplitl [H]; · iexact H
  iintro H; iexact H

/-- What the gather takes and gives, split over the tiles. -/
theorem vec_gather : (K (F := F)).VecSplit' (P m) 1 := by
  intro d c
  change bigSep Finset.univ (fun i : Fin 16 => goG m d (Fin.cast (nCore_eq (F := F) 1) c) i) ⊢ iprop(|={Set.univ}=> ((bigSep Finset.univ (fun i : Fin 16 => goG m d (Fin.cast (nCore_eq (F := F) 1) c) i))
    ∗ ((bigSep Finset.univ (fun i : Fin 16 => tdG m d (Fin.cast (nCore_eq (F := F) 1) c) i)) -∗ bigSep Finset.univ (fun i : Fin 16 => tdG m d (Fin.cast (nCore_eq (F := F) 1) c) i))))
  iintro H
  imodintro
  isplitl [H]; · iexact H
  iintro H; iexact H

end Cert.Proof.Moe

end
-- ==== Proof.Calls.lean ====
/-
  The two SparseCore calls on the TensorCore: the buffers they take, split among the tiles, and put together again.
-/
module

public import proofs.«01_k».proof.Proof.Tasks

@[expose] public section

set_option backward.isDefEq.respectTransparency.types false

noncomputable section

namespace Cert.Proof.Moe

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (d : Dev nD)

/-- The scatter's arrays as its tiles' payloads. -/
theorem scatter_pay (f : S5888x8x128.Idx → Elt F .f32) :
    (iprop((destLoc d ↦{fullShare} destOf (flM m)) ∗ (xpLoc d ↦{fullShare} xpV m)
      ∗ bigSep Finset.univ fun c : Fin 2 => bigSep Finset.univ fun i : Fin 16 => xsPieces (F := F) d (destOf (flM m)) c i f) : sProp 𝕄)
    = bigSep Finset.univ fun c : Fin 2 => bigSep Finset.univ fun i : Fin 16 => payS m d c i f := by
  unfold payS tileShare
  simp only [bigSep_sep']
  rw [← pts_tiles, ← pts_tiles]

/-- The scatter's buffers, out of those the TensorCore holds. -/
theorem held_scatter (Wv : Valuation τ sig (Elt F)) :
    (StableHlo.held (SparseCore.T d) (Pipeline.ucRefs τ sig) Wv : sProp 𝕄)
      = iprop((destLoc d ↦{fullShare} Wv (Proc.devRef .tc main_v45)) ∗ (xpLoc d ↦{fullShare} Wv (Proc.devRef .tc main_v1_2))
        ∗ (xsLoc d ↦{fullShare} Wv (Proc.devRef .tc main_v57))
        ∗ StableHlo.held (SparseCore.T d) ((((Pipeline.ucRefs τ sig).erase (Proc.devRef .tc main_v45)).erase (Proc.devRef .tc main_v1_2)).erase (Proc.devRef .tc main_v57)) Wv) := by
  rw [held_erase d _ Wv (Proc.devRef .tc main_v45) (by decide), held_erase d _ Wv (Proc.devRef .tc main_v1_2) (by decide),
    held_erase d _ Wv (Proc.devRef .tc main_v57) (by decide)]

/-- The gather's buffers, out of those the TensorCore holds. -/
theorem held_gather (Wv : Valuation τ sig (Elt F)) :
    (StableHlo.held (SparseCore.T d) (Pipeline.ucRefs τ sig) Wv : sProp 𝕄)
      = iprop((destLoc d ↦{fullShare} Wv (Proc.devRef .tc main_v45)) ∗ (ysLoc d ↦{fullShare} Wv (Proc.devRef .tc main_v60))
        ∗ (y12Loc d ↦{fullShare} Wv (Proc.devRef .tc main_v61))
        ∗ StableHlo.held (SparseCore.T d) ((((Pipeline.ucRefs τ sig).erase (Proc.devRef .tc main_v45)).erase (Proc.devRef .tc main_v60)).erase (Proc.devRef .tc main_v61)) Wv) := by
  rw [held_erase d _ Wv (Proc.devRef .tc main_v45) (by decide), held_erase d _ Wv (Proc.devRef .tc main_v60) (by decide),
    held_erase d _ Wv (Proc.devRef .tc main_v61) (by decide)]

/-- What is held before the scatter gives its tiles' payloads, the rows no assignment goes to and the other buffers. -/
theorem before_scatter :
    (StableHlo.held (SparseCore.T d) (Pipeline.ucRefs τ sig) (W3 m) : sProp 𝕄)
      ⊢ iprop((bigSep Finset.univ fun c : Fin 2 => bigSep Finset.univ fun i : Fin 16 => payS m d c i (xsV0 m))
        ∗ (xsLoc d ↦[xsRest (destOf (flM m))]{fullShare} xsV0 m)
        ∗ StableHlo.held (SparseCore.T d) ((((Pipeline.ucRefs τ sig).erase (Proc.devRef .tc main_v45)).erase (Proc.devRef .tc main_v1_2)).erase (Proc.devRef .tc main_v57)) (W3 m)) := by
  rw [held_scatter, ← scatter_pay, W3_v45, xs_split d (destOk m) (W3 m (Proc.devRef .tc main_v57))]
  iintro ⟨H1, H2, ⟨H3, H4⟩, H5⟩
  isplitl [H1 H2 H4]
  · isplitl [H1]; · iexact H1
    isplitl [H2]; · iexact H2
    iexact H4
  isplitl [H3]; · iexact H3
  iexact H5

/-- What is held after it, the same with the rows scattered. -/
theorem after_scatter :
    (iprop((bigSep Finset.univ fun c : Fin 2 => bigSep Finset.univ fun i : Fin 16 => payS m d c i (xsV m))
        ∗ (xsLoc d ↦[xsRest (destOf (flM m))]{fullShare} xsV0 m)
        ∗ StableHlo.held (SparseCore.T d) ((((Pipeline.ucRefs τ sig).erase (Proc.devRef .tc main_v45)).erase (Proc.devRef .tc main_v1_2)).erase (Proc.devRef .tc main_v57)) (W3 m)) : sProp 𝕄)
      ⊢ StableHlo.held (SparseCore.T d) (Pipeline.ucRefs τ sig) (W4 m) := by
  rw [held_scatter, ← scatter_pay, W4_ne m (b := Proc.devRef .tc main_v45) (by decide), W4_ne m (b := Proc.devRef .tc main_v1_2) (by decide), W3_v45,
    show W4 m (Proc.devRef .tc main_v57) = xsV m from Function.update_self .., xs_split d (destOk m) (xsV m)]
  unfold W4
  rw [held_update d _ (W3 m) (Proc.devRef .tc main_v57) (by decide), xsRest_scat d (xpV m) (xsV0 m)]
  iintro ⟨⟨H1, H2, H4⟩, H3, H5⟩
  isplitl [H1]; · iexact H1
  isplitl [H2]; · iexact H2
  isplitl [H3 H4]
  · isplitl [H3]; · iexact H3
    iexact H4
  iexact H5

/-- The scatter, on the TensorCore. -/
theorem scatter_step (κ : GSem nD τ sig → ℕ) (Q : PUnit → sProp 𝕄) :
    iprop((K (F := F)).ctx EH (P m) κ ∗ (K (F := F)).tcSt EH d 0 ∗ StableHlo.held (SparseCore.T d) (Pipeline.ucRefs τ sig) (W3 m)
        ∗ (iprop((K (F := F)).tcSt EH d 1 ∗ StableHlo.held (SparseCore.T d) (Pipeline.ucRefs τ sig) (W4 m)) -∗ Q ⟨⟩))
      ⊢ wp frame (wpE ((K (F := F)).defs (D (F := F))) 𝒱 (SparseCore.T d) none) Set.univ ((K (F := F)).run d 0) Q := by
  iintro ⟨Hc, Hst, H, HQ⟩
  ihave H := (before_scatter m d) $$ H
  icases H with ⟨H1, H2, H3⟩
  iapply ((K (F := F)).wp_run (D (F := F)) 𝒱 (EH := EH) (P := P m) κ d 0) $$ [Hc Hst H1 H2 H3 HQ]
  isplitl [Hc]; · iexact Hc
  isplitl [Hst]; · iexact Hst
  isplitl [H1]; · iexact H1
  iintro ⟨Hst, H1⟩
  iapply HQ
  isplitl [Hst]; · iexact Hst
  iapply (after_scatter m d)
  isplitl [H1]; · iexact H1
  isplitl [H2]; · iexact H2
  iexact H3

section Gather

variable (ys : S5888x8x128.Idx → Elt F .f32)

/-- The two halves of the grouped call's rows. -/
theorem ys_halves (f : S5888x8x128.Idx → Elt F .f32) :
    (ysLoc d ↦{fullShare} f : sProp 𝕄) = iprop((ysLoc d ↦{fullShare.left} f) ∗ ysLoc d ↦{fullShare.right} f) :=
  have e : (ysLoc d ↦{fullShare} f : sProp 𝕄) ⊣⊢ iprop((ysLoc d ↦{fullShare.left} f) ∗ ysLoc d ↦{fullShare.right} f) :=
    pointsTo_share (PosShare.mem_left_op_right fullShare)
  Entails.antisymm e.1 e.2

/-- The gather's arrays as its tiles' parts. -/
theorem gather_pay (g : S4096x8x128.Idx → Elt F .f32) :
    (iprop((destLoc d ↦{fullShare} destOf (flM m)) ∗ (ysLoc d ↦{fullShare.right} ys) ∗ (y12Loc d ↦{fullShare} g)) : sProp 𝕄)
    = bigSep Finset.univ fun c : Fin 2 => bigSep Finset.univ fun i : Fin 16 =>
      iprop((destLoc d ↦{tileShare c i} destOf (flM m)) ∗ (ysLoc d ↦{ysShare c i} ys) ∗ y12Pieces (F := F) d c i g) := by
  unfold tileShare ysShare
  simp only [bigSep_sep']
  rw [← pts_tiles, ← pts_tiles, y12_split]

/-- A family mapped member by member. -/
theorem bigSep_mono2 (Φ Ψ : Fin 2 → Fin 16 → sProp 𝕄) (h : ∀ c i, Φ c i ⊢ Ψ c i) :
    (bigSep Finset.univ fun c => bigSep Finset.univ fun i => Φ c i) ⊢ bigSep Finset.univ fun c => bigSep Finset.univ fun i => Ψ c i :=
  bigSep_mono fun c _ => bigSep_mono fun i _ => h c i

/-- The tiles bring back the rows they were given: the half the TensorCore kept says which. -/
theorem gather_known :
    iprop((ysLoc d ↦{fullShare.left} ys) ∗ bigSep Finset.univ fun c : Fin 2 => bigSep Finset.univ fun i : Fin 16 => tdG m d c i)
    ⊢ (iprop((ysLoc d ↦{fullShare.left} ys) ∗ bigSep Finset.univ fun c : Fin 2 => bigSep Finset.univ fun i : Fin 16 =>
      iprop((destLoc d ↦{tileShare c i} destOf (flM m)) ∗ (ysLoc d ↦{ysShare c i} ys) ∗ y12Pieces (F := F) d c i (y12V m))) : sProp 𝕄) := by
  refine frame_bigSep _ _ _ _ fun c _ => frame_bigSep _ _ _ _ fun i _ => ?_
  unfold tdG
  iintro ⟨HA, %ys', Hd, Hy, Hp⟩
  ihave H := (pts_known (ysLoc d) fullShare.left (ysShare c i) ys ys') $$ [HA Hy]
  · isplitl [HA] <;> iassumption
  icases H with ⟨HA, Hy⟩
  isplitl [HA]; · iexact HA
  isplitl [Hd]; · iexact Hd
  isplitl [Hy]; · iexact Hy
  iexact Hp

/-- Outside its result the grouped call changes nothing. -/
theorem gemmOut_at {b : DevRef τ sig} (h : b ≠ Proc.devRef .tc main_v60) : gemmOut (W5 m) ys b = W5 m b := gemmOut_ne _ _ h

/-- What is held before the gather gives its tiles' payloads. -/
theorem before_gather (hys : GoodYs (W5 m) (aM m) ys) :
    (StableHlo.held (SparseCore.T d) (Pipeline.ucRefs τ sig) (gemmOut (W5 m) ys) : sProp 𝕄)
      ⊢ iprop((bigSep Finset.univ fun c : Fin 2 => bigSep Finset.univ fun i : Fin 16 => goG m d c i)
        ∗ (ysLoc d ↦{fullShare.left} ys)
        ∗ StableHlo.held (SparseCore.T d) ((((Pipeline.ucRefs τ sig).erase (Proc.devRef .tc main_v45)).erase (Proc.devRef .tc main_v60)).erase (Proc.devRef .tc main_v61)) (gemmOut (W5 m) ys)) := by
  rw [held_gather, gemmOut_at m ys (b := Proc.devRef .tc main_v45) (by decide), gemmOut_at m ys (b := Proc.devRef .tc main_v61) (by decide), W5_v45,
    show gemmOut (W5 m) ys (Proc.devRef .tc main_v60) = ys from gemmOut_self _ _, ys_halves d ys]
  iintro ⟨H1, ⟨HL, HR⟩, H3, H4⟩
  isplitl [H1 HR H3]
  · ihave H := (Entails.of_eq (gather_pay m d ys (W5 m (Proc.devRef .tc main_v61)))) $$ [H1 HR H3]
    · isplitl [H1]; · iexact H1
      isplitl [HR]; · iexact HR
      iexact H3
    iapply (bigSep_mono2 _ (fun c i => goG m d c i) fun c i => (?_ : _ ⊢ _)) $$ H
    unfold goG
    iintro H
    iexists ys
    isplitr
    · ipureintro; exact hys
    · iexact H
  isplitl [HL]; · iexact HL
  iexact H4

/-- What the gather leaves. -/
theorem after_gather :
    iprop((bigSep Finset.univ fun c : Fin 2 => bigSep Finset.univ fun i : Fin 16 => tdG m d c i)
        ∗ (ysLoc d ↦{fullShare.left} ys)
        ∗ StableHlo.held (SparseCore.T d) ((((Pipeline.ucRefs τ sig).erase (Proc.devRef .tc main_v45)).erase (Proc.devRef .tc main_v60)).erase (Proc.devRef .tc main_v61)) (gemmOut (W5 m) ys))
      ⊢ (StableHlo.held (SparseCore.T d) (Pipeline.ucRefs τ sig) (W7 m ys) : sProp 𝕄) := by
  rw [held_gather, W7_ne m ys (b := Proc.devRef .tc main_v45) (by decide) (by decide), W5_v45, W7_v61,
    show W7 m ys (Proc.devRef .tc main_v60) = ys from (Function.update_of_ne (by decide) ..).trans (gemmOut_self _ _), ys_halves d ys]
  unfold W7
  rw [held_update d _ (gemmOut (W5 m) ys) (Proc.devRef .tc main_v61) (by decide)]
  iintro ⟨H1, HL, H4⟩
  ihave H := (gather_known m d ys) $$ [H1 HL]
  · isplitl [HL] <;> iassumption
  icases H with ⟨HL, H1⟩
  ihave H := (Entails.of_eq (gather_pay m d ys (y12V m)).symm) $$ H1
  icases H with ⟨H1, HR, H3⟩
  isplitl [H1]; · iexact H1
  isplitl [HL HR]
  · isplitl [HL]; · iexact HL
    iexact HR
  isplitl [H3]; · iexact H3
  iexact H4

/-- The gather, on the TensorCore. -/
theorem gather_step (hys : GoodYs (W5 m) (aM m) ys) (κ : GSem nD τ sig → ℕ) (Q : PUnit → sProp 𝕄) :
    iprop((K (F := F)).ctx EH (P m) κ ∗ (K (F := F)).tcSt EH d 1 ∗ StableHlo.held (SparseCore.T d) (Pipeline.ucRefs τ sig) (gemmOut (W5 m) ys)
        ∗ (iprop((K (F := F)).tcSt EH d 2 ∗ StableHlo.held (SparseCore.T d) (Pipeline.ucRefs τ sig) (W7 m ys)) -∗ Q ⟨⟩))
      ⊢ wp frame (wpE ((K (F := F)).defs (D (F := F))) 𝒱 (SparseCore.T d) none) Set.univ ((K (F := F)).run d 1) Q := by
  iintro ⟨Hc, Hst, H, HQ⟩
  ihave H := (before_gather m d ys hys) $$ H
  icases H with ⟨H1, H2, H3⟩
  iapply ((K (F := F)).wp_run (D (F := F)) 𝒱 (EH := EH) (P := P m) κ d 1) $$ [Hc Hst H1 H2 H3 HQ]
  isplitl [Hc]; · iexact Hc
  isplitl [Hst]; · iexact Hst
  isplitl [H1]; · iexact H1
  iintro ⟨Hst, H1⟩
  iapply HQ
  isplitl [Hst]; · iexact Hst
  iapply (after_gather m d ys)
  isplitl [H1]; · iexact H1
  isplitl [H2]; · iexact H2
  iexact H3

end Gather

end Cert.Proof.Moe

end
-- ==== Proof.Launch.lean ====
/-
  The kernel's run, from any launch memory, at any arithmetic: it ends with the semaphores at rest, the arguments kept and
  the two results at the values `Values.lean` names.
-/
module

public import proofs.«01_k».proof.Proof.Calls
public import proofs.«01_k».proof.Proof.Router

@[expose] public section

set_option backward.isDefEq.respectTransparency.types false

noncomputable section

namespace Cert.Proof.Moe

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks,
  (initOf (Pipeline.cells (Pipeline.pin (pcfgs (F := F)) (aM m)) (cellOf_inj (aM m))) (Pipeline.launchToks (Pipeline.pin (pcfgs (F := F)) (aM m)) (cellOf_inj (aM m))), 1))

/-- The three TensorCore calls' ghost state. -/
def G (d : Dev nD) : sProp 𝕄 := iprop(callGhost (aM m) 0 d ∗ callGhost (aM m) 1 d ∗ callGhost (aM m) 2 d)

omit [FloatOps F] in
/-- Nothing, many times, is nothing. -/
theorem emps {I : Type} (s : Finset I) : (bigSep s fun _ => iprop(emp)) = (iprop(emp) : sProp 𝕄) := bigSep_emp_const s

/-- The pipelines' element funds the three calls. -/
theorem fund : BI.own ((EP (F := F)) (initOf (Pipeline.cells (Pipeline.pin (pcfgs (F := F)) (aM m)) (cellOf_inj (aM m))) (Pipeline.launchToks (Pipeline.pin (pcfgs (F := F)) (aM m)) (cellOf_inj (aM m)))))
    ⊢ iprop(|==> bigSep Finset.univ fun d : Dev nD => G m d) := by
  refine (Pipeline.fund_ghost (Pipeline.pin (pcfgs (F := F)) (aM m)) EP (cellOf_inj (aM m))).trans (bupd_mono ?_)
  rw [bigSep_univ_of_subsingleton (0 : Dev nD), bigSep_univ_of_subsingleton (0 : Dev nD), bigSep_univ_of_subsingleton (0 : Dev nD),
    bigSep_univ_eq_bigSepL [0, 1, 2] (by decide) (by decide), bigSep_univ_eq_bigSepL [0, 1, 2] (by decide) (by decide)]
  unfold G callGhost
  show iprop(((Pipeline.cellsGhost (Pipeline.pin (pcfgs (F := F)) (aM m)) (EP (F := F)) 0 (0 : Dev nD)) ∗ (Pipeline.cellsGhost (Pipeline.pin (pcfgs (F := F)) (aM m)) (EP (F := F)) 1 (0 : Dev nD))
      ∗ (Pipeline.cellsGhost (Pipeline.pin (pcfgs (F := F)) (aM m)) (EP (F := F)) 2 (0 : Dev nD)))
    ∗ (Pipeline.toksInit (Pipeline.pin (pcfgs (F := F)) (aM m)) (EP (F := F)) 0 (0 : Dev nD)) ∗ (Pipeline.toksInit (Pipeline.pin (pcfgs (F := F)) (aM m)) (EP (F := F)) 1 (0 : Dev nD))
      ∗ (Pipeline.toksInit (Pipeline.pin (pcfgs (F := F)) (aM m)) (EP (F := F)) 2 (0 : Dev nD))) ⊢ _
  iintro ⟨⟨A0, A1, A2⟩, B0, B1, B2⟩
  isplitl [A0 B0]
  · isplitl [A0] <;> iassumption
  isplitl [A1 B1]
  · isplitl [A1] <;> iassumption
  isplitl [A2] <;> iassumption

/-- What the launch owns splits into what each part takes. -/
theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 2 => (P m).x q thr) := by
  unfold u₀
  iintro Hu
  ihave H := (ownU_pair (initOf (K (F := F)).hsCells (K (F := F)).hsToks) (initOf (Pipeline.cells (Pipeline.pin (pcfgs (F := F)) (aM m)) (cellOf_inj (aM m))) (Pipeline.launchToks (Pipeline.pin (pcfgs (F := F)) (aM m)) (cellOf_inj (aM m))), (1 : Counters))) $$ Hu
  icases H with ⟨HH, HR⟩
  ihave H := (own_pair_emb (embR : Emb (UR sig nD τ × Counters) 𝕄) (initOf (Pipeline.cells (Pipeline.pin (pcfgs (F := F)) (aM m)) (cellOf_inj (aM m))) (Pipeline.launchToks (Pipeline.pin (pcfgs (F := F)) (aM m)) (cellOf_inj (aM m)))) (1 : Counters)) $$ HR
  icases H with ⟨HP, -⟩
  ihave H := (fund m) $$ HP
  imod H
  imodintro
  isplitl [HH]; · iexact HH
  isplitl [H]; · iexact H
  rw [show (bigSep Finset.univ fun thr : Thread nD τ => bigSep Finset.univ fun q : Fin 2 => (P (F := F) m).x q thr) = bigSep Finset.univ fun _ => iprop(emp) from
    bigSep_congr fun _ _ => emps _, emps]
  iempintro

/-! ## @main on the TensorCore -/

/-- What is known at the end: every buffer of the TensorCore, at the last contents. -/
def FIN (d : Dev nD) : sProp 𝕄 := iprop(∃ ys, StableHlo.held (SparseCore.T d) (Pipeline.ucRefs τ sig) (W10 m ys))

/-- The operations of a good list stay within the TensorCore’s buffers. -/
theorem good_sub {l : List (HloOp τ sig (Elt F))} (h : l.Forall fun op => op.bufs ⊆ StableHlo.tcRefs τ sig ∧ op.fresh = ∅) :
    (∀ op ∈ l, op.bufs ⊆ Pipeline.ucRefs τ sig) ∧ ∀ op ∈ l, op.fresh = ∅ :=
  ⟨fun op ho => Pipeline.sub_ucRefs op (List.forall_iff_forall_mem.1 h op ho).1, fun op ho => (List.forall_iff_forall_mem.1 h op ho).2⟩

/-- The host operations before the scatter stay within the TensorCore’s buffers. -/
theorem opsABCDE_good : (opsA ++ (opsB ++ (opsC ++ (opsD ++ opsE))) : List (HloOp τ sig (Elt F))).Forall fun op => op.bufs ⊆ StableHlo.tcRefs τ sig ∧ op.fresh = ∅ := by
  simp only [List.forall_append]
  exact ⟨opsA_good, opsB_good, opsC_good, opsD_good, opsE_good⟩

/-- A step over a list of host operations. -/
theorem list_step (d : Dev nD) {l : List (HloOp τ sig (Elt F))} (h : l.Forall fun op => op.bufs ⊆ StableHlo.tcRefs τ sig ∧ op.fresh = ∅)
    (Wv : Valuation τ sig (Elt F)) (k : PUnit → Prog (TpuEff nD τ sig (Elt F) (SparseCore.Sig (ΛP (F := F)) 2) .tc) PUnit) (Q : PUnit → sProp 𝕄) :
    iprop(boundary (SparseCore.T d) ∗ StableHlo.held (SparseCore.T d) (Pipeline.ucRefs τ sig) Wv
      ∗ (iprop(boundary (SparseCore.T d) ∗ StableHlo.held (SparseCore.T d) (Pipeline.ucRefs τ sig) (StableHlo.after l Wv))
        -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (StableHlo.seq l >>= k) Q := by
  iintro ⟨Hb, Hh, Hk⟩
  iapply (StableHlo.wp_seq 𝒱 none Set.univ d (Pipeline.ucRefs τ sig) k l (good_sub h).1 (good_sub h).2 Wv) $$ [Hb Hh]
  · isplitl [Hb] <;> iassumption
  iexact Hk

/-- The TensorCore’s program runs to its end. -/
theorem hmain (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 2 ∗ FIN m d ∗ (K (F := F)).tcEnd d) := by
  obtain rfl : d = 0 := Subsingleton.elim _ _
  unfold SparseCore.Cfg.tcRes SparseCore.Cfg.tcEnd G
  rw [show (unscopedBufs (0 : Dev nD) (fun b => m (((SparseCore.T (0 : Dev nD)) : Thread nD τ).loc b)) : sProp 𝕄) = StableHlo.held (SparseCore.T (0 : Dev nD)) (Pipeline.ucRefs τ sig) (W0 m) from
    Pipeline.unscopedBufs_held (0 : Dev nD) (W0 m), main_eq]
  iintro ⟨#Hctx, Hst, ⟨Hb, Hh, Hts, -⟩, HG0, HG1, HG2⟩
  iapply (list_step (0 : Dev nD) ops0_good (W0 m))
  isplitl [Hb]; · iexact Hb
  isplitl [Hh]; · iexact Hh
  iintro ⟨Hb, Hh⟩
  rw [wp_bind]
  iapply (router_step (W1 m) (aM m) (P m) 0 (0 : Dev nD) κ)
  isplitr; · iexact Hctx
  isplitl [Hst]; · iexact Hst
  isplitl [Hb]; · iexact Hb
  isplitl [Hh]; · iexact Hh
  isplitl [HG0]; · iexact HG0
  iintro ⟨Hst, Hb, Hh⟩
  iapply (list_step (0 : Dev nD) opsABCDE_good (W2 m))
  isplitl [Hb]; · iexact Hb
  isplitl [Hh]; · iexact Hh
  rw [W3_eq]
  iintro ⟨Hb, Hh⟩
  rw [wp_bind]
  iapply (scatter_step m (0 : Dev nD) κ)
  isplitr; · iexact Hctx
  isplitl [Hst]; · iexact Hst
  isplitl [Hh]; · iexact Hh
  iintro ⟨Hst, Hh⟩
  iapply (list_step (0 : Dev nD) ops2_good (W4 m))
  isplitl [Hb]; · iexact Hb
  isplitl [Hh]; · iexact Hh
  iintro ⟨Hb, Hh⟩
  rw [wp_bind]
  iapply (gemm_step (W5 m) (aM m) (aM_table m) (P m) 1 (0 : Dev nD) κ)
  isplitr; · iexact Hctx
  isplitl [Hst]; · iexact Hst
  isplitl [Hb]; · iexact Hb
  isplitl [Hh]; · iexact Hh
  isplitl [HG1]; · iexact HG1
  iintro ⟨Hst, Hb, %ys, %hys, Hh⟩
  rw [wp_bind]
  iapply (gather_step m (0 : Dev nD) ys hys κ)
  isplitr; · iexact Hctx
  isplitl [Hst]; · iexact Hst
  isplitl [Hh]; · iexact Hh
  iintro ⟨Hst, Hh⟩
  iapply (list_step (0 : Dev nD) ops3_good (W7 m ys))
  isplitl [Hb]; · iexact Hb
  isplitl [Hh]; · iexact Hh
  iintro ⟨Hb, Hh⟩
  rw [wp_bind]
  iapply (combine_step (W8 m ys) (aM m) (P m) 2 (0 : Dev nD) κ)
  isplitr; · iexact Hctx
  isplitl [Hst]; · iexact Hst
  isplitl [Hb]; · iexact Hb
  isplitl [Hh]; · iexact Hh
  isplitl [HG2]; · iexact HG2
  iintro ⟨Hst, Hb, Hh⟩
  iapply (list_step (0 : Dev nD) ops4_good (W9 m ys))
  isplitl [Hb]; · iexact Hb
  isplitl [Hh]; · iexact Hh
  iintro ⟨Hb, Hh⟩
  rw [wp_pure]
  imodintro
  isplitl [Hst]; · iexact Hst
  isplitl [Hh]
  · unfold FIN
    iexists ys
    iexact Hh
  isplitl [Hb] <;> iassumption

/-! ## What is left to read -/

/-- A held buffer's contents are the memory's. -/
theorem held_agree (d : Dev nD) (S : Finset (DevRef τ sig)) (Wv : Valuation τ sig (Elt F)) (b : DevRef τ sig) (hb : b ∈ S) (s' : Phys nD τ sig (Elt F)) :
    iprop(StableHlo.held (SparseCore.T d) S Wv ∗ SI s') ⊢ (⌜s'.mem.mem (d, b) = Wv b⌝ : sProp 𝕄) := by
  rw [held_erase d S Wv b hb]
  iintro ⟨⟨H, -⟩, HSI⟩
  ihave H := (SI_pointsTo_agree (st := s') (ℓ := ((d, b) : Loc nD τ sig)) (I := Finset.univ) (q := fullShare) (f := Wv b)) $$ [HSI H]
  · isplitl [HSI] <;> iassumption
  icases H with %h
  ipureintro
  exact funext fun i => h i (Finset.mem_univ i)

/-- The buffers a caller reads: the results and the arguments. -/
def ends : List (Ref sig .tc) := [main_v66, main_v67, main_arg0, main_arg1, main_arg2, main_arg3, main_arg4]

/-- The final contents. -/
def fq (d : Dev nD) (s' : Phys nD τ sig (Elt F)) : Prop := ∃ ys, ∀ r ∈ ends, s'.mem.mem (d, Proc.devRef .tc r) = W10 m ys (Proc.devRef .tc r)

/-- What is owned at the end is what memory holds. -/
theorem ends_agree (d : Dev nD) (Wv : Valuation τ sig (Elt F)) (s' : Phys nD τ sig (Elt F)) (l : List (Ref sig .tc)) (hl : ∀ r ∈ l, Proc.devRef .tc r ∈ Pipeline.ucRefs τ sig) :
    iprop(StableHlo.held (SparseCore.T d) (Pipeline.ucRefs τ sig) Wv ∗ SI s') ⊢ (⌜∀ r ∈ l, s'.mem.mem (d, Proc.devRef .tc r) = Wv (Proc.devRef .tc r)⌝ : sProp 𝕄) := by
  induction l with
  | nil => iintro -; ipureintro; intro r hr; exact absurd hr (List.not_mem_nil)
  | cons r l ih =>
    iintro H
    ihave H := (persistent_entails_right (held_agree d (Pipeline.ucRefs τ sig) Wv (Proc.devRef .tc r) (hl r List.mem_cons_self) s')) $$ H
    icases H with ⟨%h1, H⟩
    ihave H := (ih fun r' hr' => hl r' (List.mem_cons_of_mem _ hr')) $$ H
    icases H with %h2
    ipureintro
    intro r' hr'
    rcases List.mem_cons.1 hr' with rfl | hr'
    · exact h1
    · exact h2 r' hr'

/-- The end’s assertion gives the end’s memory. -/
theorem hfin (d : Dev nD) (s' : Phys nD τ sig (Elt F)) : iprop(FIN m d ∗ SI s') ⊢ (⌜fq m d s'⌝ : sProp 𝕄) := by
  unfold FIN
  iintro ⟨⟨%ys, H⟩, HSI⟩
  ihave H := (ends_agree d (W10 m ys) s' ends (by decide)) $$ [H HSI]
  · isplitl [H] <;> iassumption
  icases H with %h
  ipureintro
  exact ⟨ys, h⟩

/-! ## The run -/

/-- The end: the results at their values, the arguments kept, the semaphores at rest. -/
def QC : PUnit × MemSt nD τ sig (Elt F) → Prop := fun r =>
  (∀ c : Dev nD, r.2.mem ((c.tc : Thread nD τ).loc main_v66) = res0 m ∧ r.2.mem ((c.tc : Thread nD τ).loc main_v67) = res1 m
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0

/-- The end’s memory gives the results. -/
theorem of_fq (s' : Phys nD τ sig (Elt F)) (h : ∀ d, fq m d s') (hz : s'.mem.sem = fun _ => 0) : QC m (⟨⟩, s'.mem) := by
  refine ⟨fun c => ?_, hz⟩
  obtain rfl : c = 0 := Subsingleton.elim _ _
  obtain ⟨ys, hy⟩ := h 0
  exact ⟨(hy main_v66 (by decide)).trans (W10_v66 m ys), (hy main_v67 (by decide)).trans (W10_v67 m ys),
    (hy main_arg0 (by decide)).trans (W10_arg m ys main_arg0 (by decide)), (hy main_arg1 (by decide)).trans (W10_arg m ys main_arg1 (by decide)),
    (hy main_arg2 (by decide)).trans (W10_arg m ys main_arg2 (by decide)), (hy main_arg3 (by decide)).trans (W10_arg m ys main_arg3 (by decide)),
    (hy main_arg4 (by decide)).trans (W10_arg m ys main_arg4 (by decide))⟩

/-- The kernel's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq | 1 => nomatch hq)
    (fun q _ => match q with | 0 => tile_scatter m kfacts | 1 => tile_gather m kfacts)
    (fun q _ => match q with | 0 => SparseCore.Cfg.VecSplit.of_plain (vec_scatter m) | 1 => SparseCore.Cfg.VecSplit.of_plain (vec_gather m))
    m ρ main (fun d => G m d) (FIN m) (u₀ m) (sep_elim_left.trans (hu₀ m)) (hmain m ρ) (fq m) (hfin m) (QC m) (fun s' h hz => of_fq m s' h hz)

end Cert.Proof.Moe

end
-- ==== Proof.Frames.lean ====
/-
  The frames of the kernel, of the idealized kernel and of the reference: they end quiet, with their arguments unchanged.
-/
module

public import proofs.«01_k».proof.Defs
public import proofs.«01_k».proof.Proof.Launch
public import proofs.«01_k».proof.Proof.RefRun
public import proofs.«01_k».proof.Proof.Gen.Kernel
public import proofs.«01_k».proof.Proof.Gen.Pre_no_tie
public import Idealize.ShloMosaic.Lib.Tactic.ProgEq

@[expose] public section

noncomputable section

namespace Cert.Proof.Moe

open Idealize.ShloMosaic Idealize.SL.Sem

/-- The idealized kernel's frame. -/
theorem quiescent_KernelIdeal : Cert.quiescent_KernelIdeal := fun m ρ _ =>
  (θ_run Cert.KernelIdeal.defs _ _).mono (fun _ h => ⟨fun c => (h.1 c).2.2, h.2⟩) (run_main (F := Ideal) m ρ)

/-- The frame of the kernel's program, read at words in the idealized program's text. -/
def FrameWords : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The kernel's frame is that statement: the two programs have one text. -/
theorem frameWords_eq : FrameWords = Cert.quiescent_Kernel := by sl_kernel_rfl

/-- The frame at words. -/
theorem frameWords : FrameWords := fun m ρ _ =>
  (θ_run Cert.KernelIdeal.defs _ _).mono (fun _ h => ⟨fun c => (h.1 c).2.2, h.2⟩) (run_main (F := Bits) m ρ)

/-- The kernel's frame. -/
theorem quiescent_Kernel : Cert.quiescent_Kernel := frameWords_eq.mp frameWords

/-- The same of the memories that meet the precondition. -/
theorem quiescent_Kernel_pre_no_tie : Cert.quiescent_Kernel_pre_no_tie :=
  fun m ρ _ => quiescent_Kernel m ρ trivial

/-- The reference's run, read at its arguments. -/
theorem ref_args (m : (ℓ : Loc Cert.ReferenceIdeal.nD Cert.ReferenceIdeal.τ Cert.ReferenceIdeal.sig) → Buf (Elt Ideal) ℓ) (c : Dev Cert.ReferenceIdeal.nD)
    (b : Ref Cert.ReferenceIdeal.sig .tc)
    (hb : b = Cert.ReferenceIdeal.main_arg0 ∨ b = Cert.ReferenceIdeal.main_arg1 ∨ b = Cert.ReferenceIdeal.main_arg2 ∨ b = Cert.ReferenceIdeal.main_arg3
      ∨ b = Cert.ReferenceIdeal.main_arg4) :
    StableHlo.after (Cert.Proof.Ref.rOps (F := Ideal)) (StableHlo.launchContents m c) (Proc.devRef .tc b)
      = m ((c.tc : Thread Cert.ReferenceIdeal.nD Cert.ReferenceIdeal.τ).loc b) :=
  Cert.Proof.Ref.rOps_arg _ b hb

/-- The reference ends with every semaphore at zero. -/
theorem quiescent_ReferenceIdeal : Cert.quiescent_ReferenceIdeal := fun m ρ _ =>
  (θ_run Cert.ReferenceIdeal.defs _ _).mono (fun r h => ⟨fun c => ⟨(h c _).trans (ref_args m c _ (by simp)), (h c _).trans (ref_args m c _ (by simp)),
      (h c _).trans (ref_args m c _ (by simp)), (h c _).trans (ref_args m c _ (by simp)), (h c _).trans (ref_args m c _ (by simp))⟩,
      sem_eq_zero_of_no_sems (by decide) r.2⟩)
    (Cert.Proof.Ref.run_ref (F := Ideal) m ρ)

end Cert.Proof.Moe
-- ==== Proof.Algebra.lean ====
/-
  The kernel and the reference end with equal results, at the extended reals, where no row has a tie.
-/
module

public import proofs.«01_k».proof.Proof.IdealPre
public import proofs.«01_k».proof.Proof.IdealTopK
public import proofs.«01_k».proof.Proof.IdealGemm
public import proofs.«01_k».proof.Proof.Frames

@[expose] public section

set_option backward.isDefEq.respectTransparency.types false

noncomputable section

namespace Cert.Proof.Alg

open Idealize.ShloMosaic Idealize.ShloMosaic.ValueIdx Idealize.SL.Sem
open Cert.KernelIdeal Cert.KernelIdeal.Gen
open Cert.Proof.Moe Cert.Proof.Rows

section Kernel

variable (m : (ℓ : Loc nD τ sig) → Buf (Elt Ideal) ℓ)
variable (a1 a2 : Fin 2048 → Fin 8) (m1 m2 : Fin 2048 → ℝ)

/-- The kernel's logits. -/
theorem logits_apply (t : Fin 2048) (e : Fin 8) : W2 m (Proc.devRef .tc main_v1_0) (ValueIdx.ix2 t e) = lg (xA m) (gA m) t e := by
  have h : W2 m (Proc.devRef .tc main_v1_0) = k0_pay3 (F := Ideal) (shapeCast S2048x1024 (xA m) shapeCasts_S1x2048x1024_S2048x1024) (gA m) := by
    refine (routerOut_logits _).trans ?_
    rw [W1_v0, W1_arg1]
  rw [h]; exact pay3_apply (xA m) (gA m) t e

variable (h : ∀ t, Tops (soft (lg (xA m) (gA m) t)) (a1 t) (a2 t) (m1 t) (m2 t))

include h

/-- The kernel's combine weights. -/
theorem probs_row (t : Fin 2048) : row (probs m) t = cmb (a1 t) (a2 t) (m1 t) (m2 t) := by
  have hp : probs m = k0_pay4 (F := Ideal) (shapeCast S2048x1024 (xA m) shapeCasts_S1x2048x1024_S2048x1024) (gA m) := by
    refine (routerOut_comb _).trans ?_
    rw [W1_v0, W1_arg1]
  rw [hp]
  refine pay4_row _ _ t ?_
  have hl : row (k0_pay3 (F := Ideal) (shapeCast S2048x1024 (xA m) shapeCasts_S1x2048x1024_S2048x1024) (gA m)) t = lg (xA m) (gA m) t :=
    funext fun e => pay3_apply (xA m) (gA m) t e
  rw [hl]; exact h t

/-- The two largest of the combine weights. -/
theorem probs_tops (t : Fin 2048) : Tops (row (probs m) t) (a1 t) (a2 t) (wa (m1 t) (m2 t)) (wb (m1 t) (m2 t)) := by
  rw [probs_row m a1 a2 m1 m2 h t]; exact cmb_tops (h t).ne (h t).pos (h t).lt

/-- The host's first choice. -/
theorem first_choice (t : Fin 2048) : argOf (probs m) (ValueIdx.ix1 t) = BitVec.ofNat 32 (a1 t).val := by
  have p := probs_tops m a1 a2 m1 m2 h t
  exact argOf_eq _ t (a1 t) fun e he => p.at1 ▸ p.lt1 e he

/-- The rows with the first choice taken out. -/
theorem probs2_row (t : Fin 2048) : row (probs2 m) t = offAt (a1 t) (row (probs m) t) :=
  offOf_row _ _ t _ (first_choice m a1 a2 m1 m2 h t)

/-- The host's second choice. -/
theorem second_choice (t : Fin 2048) : argOf (probs2 m) (ValueIdx.ix1 t) = BitVec.ofNat 32 (a2 t).val := by
  have p := probs_tops m a1 a2 m1 m2 h t
  exact argOf_eq _ t (a2 t) (probs2_row m a1 a2 m1 m2 h t ▸ fun e he => p.lt_off e he)

/-- The first weight. -/
theorem first_weight (t : Fin 2048) : maxOf (probs m) (ValueIdx.ix1 t) = (wa (m1 t) (m2 t) : EReal) :=
  (maxOf_eq _ t).trans (probs_tops m a1 a2 m1 m2 h t).mx1

/-- The second weight. -/
theorem second_weight (t : Fin 2048) : maxOf (probs2 m) (ValueIdx.ix1 t) = (wb (m1 t) (m2 t) : EReal) :=
  (maxOf_eq _ t).trans (probs2_row m a1 a2 m1 m2 h t ▸ (probs_tops m a1 a2 m1 m2 h t).mx2)

/-- The kernel's first result. -/
theorem res0_apply (t : Fin 2048) (j : Fin 1024) :
    res0 m (ValueIdx.ix3 (0 : Fin 1) t j) = ye (xA m) (wgA m) (wuA m) (wdA m) t (a1 t) j * (wa (m1 t) (m2 t) : EReal)
      + ye (xA m) (wgA m) (wuA m) (wdA m) t (a2 t) j * (wb (m1 t) (m2 t) : EReal) := by
  have ht := t.isLt
  have hb : ∀ y : S2048.Idx → EReal, broadcastInDim S2048x1 ![0] bcast_S2048_S2048x1_0 y (ValueIdx.ix2 t (0 : Fin 1)) = y (ValueIdx.ix1 t) := fun y =>
    congrArg y (funext fun b => by match b with | 0 => rfl)
  have hy : ∀ (k : Fin 2) (n : Fin 4096) (hn : n.val = k.val * 2048 + t.val) (p : Fin 8) (q : Fin 128),
      shapeCast S2x2048x8x128 (y12V m) shapeCasts_S4096x8x128_S2x2048x8x128 (ValueIdx.ix4 k t p q) = y12V m (ValueIdx.ix3 n p q) := by
    intro k n hn p q
    have hl : k.val * 2048 + t.val < 4096 := hn ▸ n.isLt
    obtain rfl : n = ⟨k.val * 2048 + t.val, hl⟩ := Fin.ext hn
    pointwise
    rfl
  have hj : j.val = j.val / 128 * 128 + j.val % 128 := by omega
  have hc : res0 m (ValueIdx.ix3 (0 : Fin 1) t j) = combOut (shapeCast S2x2048x8x128 (y12V m) shapeCasts_S4096x8x128_S2x2048x8x128)
      (broadcastInDim S2048x1 ![0] bcast_S2048_S2048x1_0 (maxOf (probs m))) (broadcastInDim S2048x1 ![0] bcast_S2048_S2048x1_0 (maxOf (probs2 m))) (ValueIdx.ix2 t j) := by
    unfold res0
    generalize combOut (F := Ideal) _ _ _ = z
    pointwise
    rfl
  rw [hc]
  refine congrArg₂ (fun a b : EReal => a + b) (congrArg₂ (fun a b : EReal => a * b) ?_ ((hb _).trans (first_weight m a1 a2 m1 m2 h t)))
    (congrArg₂ (fun a b : EReal => a * b) ?_ ((hb _).trans (second_weight m a1 a2 m1 m2 h t)))
  · refine (hy 0 ⟨t.val, by omega⟩ (by show t.val = 0 * 2048 + t.val; omega) _ _).trans ?_
    refine y12_apply m _ t (by show t.val % 2048 = t.val; omega) (a1 t) ?_ _ _ j hj
    exact (flatOf_low _ _ _ t rfl).trans (first_choice m a1 a2 m1 m2 h t)
  · refine (hy 1 ⟨2048 + t.val, by omega⟩ (by show 2048 + t.val = 1 * 2048 + t.val; omega) _ _).trans ?_
    refine y12_apply m _ t (by show (2048 + t.val) % 2048 = t.val; omega) (a2 t) ?_ _ _ j hj
    exact (flatOf_high _ _ _ t rfl).trans (second_choice m a1 a2 m1 m2 h t)

end Kernel

/-- The reference's first result, from the arguments. -/
def ref0 (x : S1x2048x1024.Idx → EReal) (g : S8x1024.Idx → EReal) (wg wu wd : S8x1024x1024.Idx → EReal) : S1x2048x1024.Idx → EReal :=
  shapeCast S1x2048x1024 (Ref.otV (F := Ideal) wd (mulf (F := Ideal) (φ := .f32) (Ref.slV (F := Ideal) (Ref.hdV (F := Ideal) x wg)) (Ref.hdV (F := Ideal) x wu))
    (Ref.cbV (F := Ideal) (Ref.idxV (F := Ideal) (Ref.prV (F := Ideal) (Ref.lgV (F := Ideal) x g)))
      (Ref.wtV (F := Ideal) (Ref.valV (F := Ideal) (Ref.prV (F := Ideal) (Ref.lgV (F := Ideal) x g))))))
    Cert.ReferenceIdeal.Gen.shapeCasts_S2048x1024_S1x2048x1024

/-- The reference's second result, from the arguments. -/
def ref1 (x : S1x2048x1024.Idx → EReal) (g : S8x1024.Idx → EReal) : S1x2048x8.Idx → EReal :=
  shapeCast S1x2048x8 (Ref.lgV (F := Ideal) x g) Cert.ReferenceIdeal.Gen.shapeCasts_S2048x8_S1x2048x8

/-- The reference's first result at an index. -/
theorem ref0_apply (x : S1x2048x1024.Idx → EReal) (g : S8x1024.Idx → EReal) (wg wu wd : S8x1024x1024.Idx → EReal)
    (a1 a2 : Fin 2048 → Fin 8) (m1 m2 : Fin 2048 → ℝ) (h : ∀ t, Tops (soft (lg x g t)) (a1 t) (a2 t) (m1 t) (m2 t)) (t : Fin 2048) (j : Fin 1024) :
    ref0 x g wg wu wd (ValueIdx.ix3 (0 : Fin 1) t j) = ye x wg wu wd t (a1 t) j * (wa (m1 t) (m2 t) : EReal) + ye x wg wu wd t (a2 t) j * (wb (m1 t) (m2 t) : EReal) := by
  have hrow : ∀ t, row (Ref.lgV (F := Ideal) x g) t = lg x g t := fun t => funext fun e => lgV_apply x g t e
  have hc := cb_row (Ref.lgV (F := Ideal) x g) a1 a2 m1 m2 (fun t => by rw [hrow]; exact h t) t
  generalize hcb : Ref.cbV (F := Ideal) (Ref.idxV (F := Ideal) (Ref.prV (F := Ideal) (Ref.lgV (F := Ideal) x g)))
      (Ref.wtV (F := Ideal) (Ref.valV (F := Ideal) (Ref.prV (F := Ideal) (Ref.lgV (F := Ideal) x g)))) = cb at hc
  have hs : ref0 x g wg wu wd (ValueIdx.ix3 (0 : Fin 1) t j) = Ref.otV (F := Ideal) wd
      (mulf (F := Ideal) (φ := .f32) (Ref.slV (F := Ideal) (Ref.hdV (F := Ideal) x wg)) (Ref.hdV (F := Ideal) x wu)) cb (ValueIdx.ix2 t j) := by
    unfold ref0
    rw [hcb]
    generalize Ref.otV (F := Ideal) _ _ _ = z
    pointwise
    rfl
  rw [hs, otV_apply]
  refine Eq.trans (Finset.sum_congr rfl fun e _ => ?_) (sum_cmb (h t).ne (m1 t) (m2 t) fun e => ye x wg wu wd t e j)
  refine congr (congrArg HMul.hMul ?_) (congrFun hc e)
  refine Finset.sum_congr rfl fun f _ => congrArg (· * wd (ValueIdx.ix3 e j f)) ?_
  refine congr (congrArg HMul.hMul ((slV_apply _ _).trans (congrArg sl (hdV_apply x wg t e f)))) (hdV_apply x wu t e f)

/-- The first results are equal. -/
theorem res0_eq (m : (ℓ : Loc nD τ sig) → Buf (Elt Ideal) ℓ)
    (h : Cert.Pre_no_tie.fn (F := Ideal) (xA m) (gA m) (wgA m) (wuA m) (wdA m) = fun _ => 1#1) :
    ref0 (xA m) (gA m) (wgA m) (wuA m) (wdA m) = res0 m := by
  choose a1 a2 m1 m2 ht using no_tie_tops _ _ _ _ _ h
  funext i
  obtain ⟨z, t, j, rfl⟩ : ∃ z t j, i = ValueIdx.ix3 z t j := ⟨i 0, i 1, i 2, ValueIdx.eq_ix3 i⟩
  obtain rfl : z = (0 : Fin 1) := Subsingleton.elim _ _
  rw [res0_apply m a1 a2 m1 m2 ht t j]
  exact ref0_apply _ _ _ _ _ a1 a2 m1 m2 ht t j

/-- The second results are equal. -/
theorem res1_eq (m : (ℓ : Loc nD τ sig) → Buf (Elt Ideal) ℓ) : ref1 (xA m) (gA m) = res1 m := by
  refine congrArg (fun z => shapeCast S1x2048x8 z shapeCasts_S2048x8_S1x2048x8) (funext fun i => ?_)
  obtain ⟨t, e, rfl⟩ : ∃ t e, i = ValueIdx.ix2 t e := ⟨i 0, i 1, ValueIdx.eq_ix2 i⟩
  exact (lgV_apply (xA m) (gA m) t e).trans (logits_apply m t e).symm

/-- The reference, from memories without ties. -/
theorem quiescent_ReferenceIdeal_pre_no_tie : Cert.quiescent_ReferenceIdeal_pre_no_tie := fun m ρ _ => Moe.quiescent_ReferenceIdeal m ρ trivial

/-- The kernel and the reference end with equal results. -/
theorem algebraic : Cert.algebraic_KernelIdeal_ReferenceIdeal := by
  intro m ρ m' ρ' hpre hagree
  obtain ⟨g0, g1, g2, g3, g4⟩ := hagree 0
  have e0 := res0_eq m (hpre 0)
  have e1 := res1_eq m
  refine ⟨fun _ => res0 m, fun _ => res1 m, (θ_run _ _ _).mono (fun r hr => hr.1) (run_main m ρ), (θ_run _ _ _).mono (fun r hr => ?_) (Ref.run_ref m' ρ')⟩
  intro c
  obtain rfl : c = 0 := Subsingleton.elim _ _
  refine ⟨(hr 0 _).trans ((Ref.rOps_v43 _).trans (Eq.trans ?_ e0)), (hr 0 _).trans ((Ref.rOps_v44 _).trans (Eq.trans ?_ e1)),
    (hr 0 _).trans (Moe.ref_args m' 0 _ (by simp)), (hr 0 _).trans (Moe.ref_args m' 0 _ (by simp)), (hr 0 _).trans (Moe.ref_args m' 0 _ (by simp)),
    (hr 0 _).trans (Moe.ref_args m' 0 _ (by simp)), (hr 0 _).trans (Moe.ref_args m' 0 _ (by simp))⟩
  · have q := congr (congr (congr (congr (congrArg ref0 g0) g1) g2) g3) g4
    exact q
  · have q := congr (congrArg ref1 g0) g1
    exact q

end Cert.Proof.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_no_tie
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claims: the frames, the preservation, and equal results with the reference. -/
theorem claim : Cert.Claim := ⟨Cert.Kernel.Gen.facts, Cert.KernelIdeal.Gen.facts, Cert.ReferenceIdeal.Gen.facts, Cert.Pre_no_tie.Gen.facts,
  Moe.quiescent_Kernel, Moe.quiescent_Kernel_pre_no_tie, Moe.quiescent_KernelIdeal, Moe.quiescent_ReferenceIdeal,
  Alg.quiescent_ReferenceIdeal_pre_no_tie, trivial, Alg.algebraic⟩

end Cert.Proof

end
